-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "neg_inf" .f32 0xF149F2CA#32 ⊥
  ∧ IdealRules.named_const.Statement Cert.Kernel2Ideal.κ "ln2" .f32 0x3F317218#32 ((Real.log 2 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v28) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v31) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_v6) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v5) = v2 c
          ∧ r.2.mem ((c.tc : Thread Cert.Reference5Ideal.nD Cert.Reference5Ideal.τ).loc Cert.Reference5Ideal.main_v11) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x8x192 : Shape := ⟨3, ![16384, 8, 192]⟩
abbrev S16384x8x128 : Shape := ⟨3, ![16384, 8, 128]⟩
abbrev S_ : Shape := ⟨0, ![]⟩

class Facts : Prop where
  bcast_S_S16384x8x192 : S_.BroadcastsInDim S16384x8x192 (![] : Fin 0 → Fin S16384x8x192.rank)
  bcast_S_S16384x8x128 : S_.BroadcastsInDim S16384x8x128 (![] : Fin 0 → Fin S16384x8x128.rank)

variable [Facts]

def fn {F : FTy → Type} [FloatOps F] (main_arg0 : FVec F S16384x8x192 .f32) (main_arg1 : FVec F S16384x8x192 .f32) (main_arg2 : FVec F S16384x8x128 .f32) (main_arg3 : FVec F S16384x8x128 .f32) : IVec S16384x8x192 1 × IVec S16384x8x192 1 × IVec S16384x8x128 1 × IVec S16384x8x128 1 :=
  let main_v0 : FVec F S16384x8x192 .f32 := Host.absf main_arg0
  let main_cst : FVec F S_ .f32 := constant S_ .f32 0x7F800000#32
  let main_v1 : FVec F S16384x8x192 .f32 := broadcastInDim S16384x8x192 ![] bcast_S_S16384x8x192 main_cst
  let main_v2 : IVec S16384x8x192 1 := cmpf .olt main_v0 main_v1
  let main_v3 : FVec F S16384x8x192 .f32 := Host.absf main_arg1
  let main_cst_0 : FVec F S_ .f32 := constant S_ .f32 0x7F800000#32
  let main_v4 : FVec F S16384x8x192 .f32 := broadcastInDim S16384x8x192 ![] bcast_S_S16384x8x192 main_cst_0
  let main_v5 : IVec S16384x8x192 1 := cmpf .olt main_v3 main_v4
  let main_v6 : FVec F S16384x8x128 .f32 := Host.absf main_arg2
  let main_cst_1 : FVec F S_ .f32 := constant S_ .f32 0x7F800000#32
  let main_v7 : FVec F S16384x8x128 .f32 := broadcastInDim S16384x8x128 ![] bcast_S_S16384x8x128 main_cst_1
  let main_v8 : IVec S16384x8x128 1 := cmpf .olt main_v6 main_v7
  let main_v9 : FVec F S16384x8x128 .f32 := Host.absf main_arg3
  let main_cst_2 : FVec F S_ .f32 := constant S_ .f32 0x7F800000#32
  let main_v10 : FVec F S16384x8x128 .f32 := broadcastInDim S16384x8x128 ![] bcast_S_S16384x8x128 main_cst_2
  let main_v11 : IVec S16384x8x128 1 := cmpf .olt main_v9 main_v10
  (main_v2, main_v5, main_v8, main_v11)
-- ==== Pre_finite2.lean ====
abbrev S16384x8x192 : Shape := ⟨3, ![16384, 8, 192]⟩
abbrev S16384x8x128 : Shape := ⟨3, ![16384, 8, 128]⟩
abbrev S_ : Shape := ⟨0, ![]⟩

class Facts : Prop where
  bcast_S_S16384x8x192 : S_.BroadcastsInDim S16384x8x192 (![] : Fin 0 → Fin S16384x8x192.rank)
  bcast_S_S16384x8x128 : S_.BroadcastsInDim S16384x8x128 (![] : Fin 0 → Fin S16384x8x128.rank)

variable [Facts]

def fn {F : FTy → Type} [FloatOps F] (main_arg0 : FVec F S16384x8x192 .f32) (main_arg1 : FVec F S16384x8x192 .f32) (main_arg2 : FVec F S16384x8x128 .f32) : IVec S16384x8x192 1 × IVec S16384x8x192 1 × IVec S16384x8x128 1 :=
  let main_v0 : FVec F S16384x8x192 .f32 := Host.absf main_arg0
  let main_cst : FVec F S_ .f32 := constant S_ .f32 0x7F800000#32
  let main_v1 : FVec F S16384x8x192 .f32 := broadcastInDim S16384x8x192 ![] bcast_S_S16384x8x192 main_cst
  let main_v2 : IVec S16384x8x192 1 := cmpf .olt main_v0 main_v1
  let main_v3 : FVec F S16384x8x192 .f32 := Host.absf main_arg1
  let main_cst_0 : FVec F S_ .f32 := constant S_ .f32 0x7F800000#32
  let main_v4 : FVec F S16384x8x192 .f32 := broadcastInDim S16384x8x192 ![] bcast_S_S16384x8x192 main_cst_0
  let main_v5 : IVec S16384x8x192 1 := cmpf .olt main_v3 main_v4
  let main_v6 : FVec F S16384x8x128 .f32 := Host.absf main_arg2
  let main_cst_1 : FVec F S_ .f32 := constant S_ .f32 0x7F800000#32
  let main_v7 : FVec F S16384x8x128 .f32 := broadcastInDim S16384x8x128 ![] bcast_S_S16384x8x128 main_cst_1
  let main_v8 : IVec S16384x8x128 1 := cmpf .olt main_v6 main_v7
  (main_v2, main_v5, main_v8)
-- ==== Kernel.lean ====
abbrev S16384x8x192 : Shape := ⟨3, ![16384, 8, 192]⟩
abbrev S16384x8x128 : Shape := ⟨3, ![16384, 8, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x8 : Shape := ⟨2, ![16384, 8]⟩
abbrev S8x16384x192 : Shape := ⟨3, ![8, 16384, 192]⟩
abbrev S8x16384x256 : Shape := ⟨3, ![8, 16384, 256]⟩
abbrev S8x16384x128 : Shape := ⟨3, ![8, 16384, 128]⟩
abbrev S16384x1024 : Shape := ⟨2, ![16384, 1024]⟩
abbrev S8x16x1x1024 : Shape := ⟨4, ![8, 16, 1, 1024]⟩
abbrev S1x512x256 : Shape := ⟨3, ![1, 512, 256]⟩
abbrev S1x512x128 : Shape := ⟨3, ![1, 512, 128]⟩
abbrev S1x16384x256 : Shape := ⟨3, ![1, 16384, 256]⟩
abbrev S16384x128 : Shape := ⟨2, ![16384, 128]⟩
abbrev S1x16x1x1024 : Shape := ⟨4, ![1, 16, 1, 1024]⟩
abbrev S1x1024x256 : Shape := ⟨3, ![1, 1024, 256]⟩
abbrev S16x256x1024 : Shape := ⟨3, ![16, 256, 1024]⟩
abbrev S512x256 : Shape := ⟨2, ![512, 256]⟩
abbrev S256x512 : Shape := ⟨2, ![256, 512]⟩
abbrev S512x128 : Shape := ⟨2, ![512, 128]⟩
abbrev S1024x256 : Shape := ⟨2, ![1024, 256]⟩
abbrev S1024x128 : Shape := ⟨2, ![1024, 128]⟩
abbrev S512x1024 : Shape := ⟨2, ![512, 1024]⟩
abbrev S1x1x1x1024 : Shape := ⟨4, ![1, 1, 1, 1024]⟩
abbrev S1x1024 : Shape := ⟨2, ![1, 1024]⟩
abbrev S1x256x1024 : Shape := ⟨3, ![1, 256, 1024]⟩
abbrev S256x1024 : Shape := ⟨2, ![256, 1024]⟩
abbrev S512x512 : Shape := ⟨2, ![512, 512]⟩
abbrev S1x512 : Shape := ⟨2, ![1, 512]⟩
abbrev S1x256x512 : Shape := ⟨3, ![1, 256, 512]⟩

abbrev nBuf : Space → Nat
  | .hbm => 71
  | .vmem => 19
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S16384x8x128, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x16384x16384, .i1⟩
  | .hbm, ⟨15, _⟩ => ⟨S_, .f32⟩
  | .hbm, ⟨16, _⟩ => ⟨S_, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384, .f32⟩
  | .hbm, ⟨22, _⟩ => ⟨S8x16384x1, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S8x128x16384, .f32⟩
  | .hbm, ⟨32, _⟩ => ⟨S16384x8x128, .f32⟩
  | .hbm, ⟨33, _⟩ => ⟨S8x16384x1, .f32⟩
  | .hbm, ⟨34, _⟩ => ⟨S8x16384x1, .f32⟩
  | .hbm, ⟨35, _⟩ => ⟨S_, .f32⟩
  | .hbm, ⟨36, _⟩ => ⟨S_, .f32⟩
  | .hbm, ⟨37, _⟩ => ⟨S8x16384x1, .f32⟩
  | .hbm, ⟨38, _⟩ => ⟨S8x16384x1, .f32⟩
  | .hbm, ⟨39, _⟩ => ⟨S16384x8x128, .f32⟩
  | .hbm, ⟨40, _⟩ => ⟨S_, .f32⟩
  | .hbm, ⟨41, _⟩ => ⟨S16384x8, .f32⟩
  | .hbm, ⟨42, _⟩ => ⟨S8x16384, .f32⟩
  | .hbm, ⟨43, _⟩ => ⟨S8x16384x192, .f32⟩
  | .hbm, ⟨44, _⟩ => ⟨S_, .i32⟩
  | .hbm, ⟨45, _⟩ => ⟨S_, .f32⟩
  | .hbm, ⟨46, _⟩ => ⟨S8x16384x256, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S8x16384x256, .f32⟩
  | .hbm, ⟨52, _⟩ => ⟨S8x16384x256, .f32⟩
  | .hbm, ⟨53, _⟩ => ⟨S8x16384x256, .bf16⟩
  | .hbm, ⟨54, _⟩ => ⟨S8x16384x192, .f32⟩
  | .hbm, ⟨55, _⟩ => ⟨S_, .i32⟩
  | .hbm, ⟨56, _⟩ => ⟨S_, .f32⟩
  | .hbm, ⟨57, _⟩ => ⟨S8x16384x256, .f32⟩
  | .hbm, ⟨58, _⟩ => ⟨S8x16384x256, .bf16⟩
  | .hbm, ⟨59, _⟩ => ⟨S8x16384x128, .f32⟩
  | .hbm, ⟨60, _⟩ => ⟨S_, .i32⟩
  | .hbm, ⟨61, _⟩ => ⟨S_, .f32⟩
  | .hbm, ⟨62, _⟩ => ⟨S8x16384x128, .f32⟩
  | .hbm, ⟨63, _⟩ => ⟨S8x16384x128, .bf16⟩
  | .hbm, ⟨64, _⟩ => ⟨S16384x1024, .f32⟩
  | .hbm, ⟨65, _⟩ => ⟨S16384x1024, .bf16⟩
  | .hbm, ⟨66, _⟩ => ⟨S8x16x1x1024, .f32⟩
  | .hbm, ⟨67, _⟩ => ⟨S8x16x1x1024, .f32⟩
  | .hbm, ⟨68, _⟩ => ⟨S8x16384x256, .f32⟩
  | .hbm, ⟨69, _⟩ => ⟨S8x16384x128, .f32⟩
  | .hbm, ⟨70, _⟩ => ⟨S8x16384x256, .f32⟩
  | .local _ .vmem, ⟨0, _⟩ => ⟨S1x512x256, .bf16⟩
  | .local _ .vmem, ⟨1, _⟩ => ⟨S1x512x256, .bf16⟩
  | .local _ .vmem, ⟨2, _⟩ => ⟨S1x512x128, .bf16⟩
  | .local _ .vmem, ⟨3, _⟩ => ⟨S1x512x128, .bf16⟩
  | .local _ .vmem, ⟨4, _⟩ => ⟨S1x16384x256, .bf16⟩
  | .local _ .vmem, ⟨5, _⟩ => ⟨S1x16384x256, .bf16⟩
  | .local _ .vmem, ⟨6, _⟩ => ⟨S16384x128, .bf16⟩
  | .local _ .vmem, ⟨7, _⟩ => ⟨S16384x128, .bf16⟩
  | .local _ .vmem, ⟨8, _⟩ => ⟨S1x16x1x1024, .f32⟩
  | .local _ .vmem, ⟨9, _⟩ => ⟨S1x16x1x1024, .f32⟩
  | .local _ .vmem, ⟨10, _⟩ => ⟨S1x16x1x1024, .f32⟩
  | .local _ .vmem, ⟨11, _⟩ => ⟨S1x16x1x1024, .f32⟩
  | .local _ .vmem, ⟨12, _⟩ => ⟨S1x512x256, .f32⟩
  | .local _ .vmem, ⟨13, _⟩ => ⟨S1x512x256, .f32⟩
  | .local _ .vmem, ⟨14, _⟩ => ⟨S1x512x128, .f32⟩
  | .local _ .vmem, ⟨15, _⟩ => ⟨S1x512x128, .f32⟩
  | .local _ .vmem, ⟨16, _⟩ => ⟨S1x1024x256, .f32⟩
  | .local _ .vmem, ⟨17, _⟩ => ⟨S1x1024x256, .f32⟩
  | .local _ .vmem, ⟨18, _⟩ => ⟨S16x256x1024, .f32⟩
  | _, _ => ⟨S16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_call1_v0 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_call2_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_call3_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c1_i32_13 : BitVec 32 := 1#32
  let v17 : BitVec 32 := Scalar.andi arg1 c1_i32_13
  let c0_i32_14 : BitVec 32 := 0#32
  let v18 : BitVec 1 := Scalar.cmpi .eq v17 c0_i32_14
  let v19 : BitVec 32 := Scalar.extui v18
  let c0_i32_15 : BitVec 32 := 0#32
  let v20 : BitVec 1 := Scalar.cmpi .ne v19 c0_i32_15
  v20

def k0_mult1 (i : grid0.Coords) : BitVec 32 :=
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c0_i32_36 : BitVec 32 := 0#32
  let v47 : BitVec 32 := Scalar.addi v46 c0_i32_36
  v47
def k0_off1 (i : grid0.Coords) : Fin 3 → Nat :=
  let c0_37 : Index := 0#32
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c0_i32_36 : BitVec 32 := 0#32
  let v47 : BitVec 32 := Scalar.addi v46 c0_i32_36
  let v48 : BitVec 32 := v47
  let v49 : Index := Scalar.indexCast v48
  let c0_38 : Index := 0#32
  ![0, v49.toNat, 0]
def k0_off2 (i : grid0.Coords) : Fin 2 → Nat :=
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c0_i32_36 : BitVec 32 := 0#32
  let v47 : BitVec 32 := Scalar.addi v46 c0_i32_36
  let v48 : BitVec 32 := v47
  let v52 : Index := Scalar.indexCast v48
  let c0_39 : Index := 0#32
  ![v52.toNat, 0]
def k0_off3 (i : grid0.Coords) : Fin 4 → Nat :=
  let c0_41 : Index := 0#32
  let arg1 : BitVec 32 := BitVec.ofNat 32 (i 1).val
  let c1_i32 : BitVec 32 := 1#32
  let v16 : BitVec 32 := Scalar.shrsi arg1 c1_i32
  let v56 : Index := Scalar.indexCast v16
  let c0_42 : Index := 0#32
  let c0_43 : Index := 0#32
  ![0, v56.toNat, 0, 0]
def k0_off4 (i : grid0.Coords) : Fin 3 → Nat :=
  let arg1 : BitVec 32 := BitVec.ofNat 32 (i 1).val
  let c1_i32 : BitVec 32 := 1#32
  let v16 : BitVec 32 := Scalar.shrsi arg1 c1_i32
  let v97 : Index := Scalar.indexCast v16
  let c0_65 : Index := 0#32
  let c0_66 : Index := 0#32
  ![v97.toNat, 0, 0]
def k0_cond3 (i : grid0.Coords) : BitVec 1 :=
  let arg1 : BitVec 32 := BitVec.ofNat 32 (i 1).val
  let c1_i32_16 : BitVec 32 := 1#32
  let v21 : BitVec 32 := Scalar.andi arg1 c1_i32_16
  let c1_i32_17 : BitVec 32 := 1#32
  let v22 : BitVec 1 := Scalar.cmpi .eq v21 c1_i32_17
  let v23 : BitVec 32 := Scalar.extui v22
  let c0_i32_18 : BitVec 32 := 0#32
  let v24 : BitVec 1 := Scalar.cmpi .ne v23 c0_i32_18
  v24

def k0_mult2 (i : grid0.Coords) : BitVec 32 :=
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c512_i32 : BitVec 32 := 512#32
  let v47 : BitVec 32 := Scalar.addi v46 c512_i32
  v47
def k0_off5 (i : grid0.Coords) : Fin 3 → Nat :=
  let c0_36 : Index := 0#32
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c512_i32 : BitVec 32 := 512#32
  let v47 : BitVec 32 := Scalar.addi v46 c512_i32
  let v48 : BitVec 32 := v47
  let v49 : Index := Scalar.indexCast v48
  let c0_37 : Index := 0#32
  ![0, v49.toNat, 0]
def k0_off6 (i : grid0.Coords) : Fin 2 → Nat :=
  let arg1 : BitVec 32 := BitVec.ofNat 32 (i 1).val
  let c1_i32 : BitVec 32 := 1#32
  let v16 : BitVec 32 := Scalar.shrsi arg1 c1_i32
  let c1024_i32 : BitVec 32 := 1024#32
  let v46 : BitVec 32 := Scalar.muli v16 c1024_i32
  let c512_i32 : BitVec 32 := 512#32
  let v47 : BitVec 32 := Scalar.addi v46 c512_i32
  let v48 : BitVec 32 := v47
  let v52 : Index := Scalar.indexCast v48
  let c0_38 : Index := 0#32
  ![v52.toNat, 0]
def k0_off7 (i : grid0.Coords) : Fin 4 → Nat :=
  let c0_40 : Index := 0#32
  let arg1 : BitVec 32 := BitVec.ofNat 32 (i 1).val
  let c1_i32 : BitVec 32 := 1#32
  let v16 : BitVec 32 := Scalar.shrsi arg1 c1_i32
  let v56 : Index := Scalar.indexCast v16
  let c0_41 : Index := 0#32
  let c0_42 : Index := 0#32
  ![0, v56.toNat, 0, 0]
def k0_off8 (i : grid0.Coords) : Fin 3 → Nat :=
  let arg1 : BitVec 32 := BitVec.ofNat 32 (i 1).val
  let c1_i32 : BitVec 32 := 1#32
  let v16 : BitVec 32 := Scalar.shrsi arg1 c1_i32
  let v99 : Index := Scalar.indexCast v16
  let c0_65 : Index := 0#32
  let c512 : Index := 512#32
  ![v99.toNat, 0, 512]
def k0_off9 (i : grid0.Coords) : Fin 3 → Nat :=
  let arg1 : BitVec 32 := BitVec.ofNat 32 (i 1).val
  let c1_i32 : BitVec 32 := 1#32
  let v16 : BitVec 32 := Scalar.shrsi arg1 c1_i32
  let v108 : Index := Scalar.indexCast v16
  let c0_69 : Index := 0#32
  let c0_70 : Index := 0#32
  ![v108.toNat, 0, 0]
@[reducible] def k0_t1_loop (i : grid0.Coords) : Scf.Loop 32 :=
  let c0_i32_20 : BitVec 32 := 0#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_22 : BitVec 32 := 1#32
  ⟨c0_i32_20, v31, c1_i32_22⟩
def k0_mult3 (i : grid0.Coords) (k0_t1 : Fin (k0_t1_loop i).trips) : BitVec 32 :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let c0_i32_37 : BitVec 32 := 0#32
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  v51
def k0_off10 (i : grid0.Coords) (k0_t1 : Fin (k0_t1_loop i).trips) (c0_i32_37 : BitVec 32) : Fin 3 → Nat :=
  let c0_39 : Index := 0#32
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  let v52 : BitVec 32 := v51
  let v53 : Index := Scalar.indexCast v52
  let c0_40 : Index := 0#32
  ![0, v53.toNat, 0]
def k0_off11 (i : grid0.Coords) (k0_t1 : Fin (k0_t1_loop i).trips) (c0_i32_37 : BitVec 32) : Fin 2 → Nat :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  let v52 : BitVec 32 := v51
  let v56 : Index := Scalar.indexCast v52
  let c0_41 : Index := 0#32
  ![v56.toNat, 0]
def k0_off12 (i : grid0.Coords) (k0_t1 : Fin (k0_t1_loop i).trips) (c0_i32_37 : BitVec 32) : Fin 4 → Nat :=
  let c0_43 : Index := 0#32
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let v49 : BitVec 32 := Scalar.addi v48 c0_i32_37
  let v60 : Index := Scalar.indexCast v49
  let c0_44 : Index := 0#32
  let c0_45 : Index := 0#32
  ![0, v60.toNat, 0, 0]
def k0_off13 (i : grid0.Coords) (k0_t1 : Fin (k0_t1_loop i).trips) (c0_i32_37 : BitVec 32) : Fin 3 → Nat :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c1_i32_22 : BitVec 32 := 1#32
  let arg12 : BitVec 32 := Scf.iv c0_i32_20 c1_i32_22 k0_t1
  let v47 : BitVec 32 := Scalar.muli c4_i32 arg12
  let v48 : BitVec 32 := Scalar.addi v46 v47
  let v49 : BitVec 32 := Scalar.addi v48 c0_i32_37
  let v89 : Index := Scalar.indexCast v49
  let c0_64 : Index := 0#32
  let c0_65 : Index := 0#32
  ![v89.toNat, 0, 0]
def k0_mult4 (i : grid0.Coords) (k0_t1 : Fin (k0_t1_loop i).trips) : BitVec 32 :=
  let arg1 : BitVec 32 := BitVec.ofNat 32 (i 1).val
  let c1_i32 : BitVec 32 := 1#32
  let v16 : BitVec 32 := Scalar.shrsi arg1 c1_i32
  let c1_i32_69 : BitVec 32 := 1#32
  let v98 : BitVec 32 := Scalar.addi v16 c1_i32_69
  let c4_i32_70 : BitVec 32 := 4#32
  let c0_i32_20 : BitVec 32 := 0#32
  let c1_i32_22 : BitVec 32 := 1#32
  let arg12 : BitVec 32 := Scf.iv c0_i32_20 c1_i32_22 k0_t1
  let v99 : BitVec 32 := Scalar.muli c4_i32_70 arg12
  let v100 : BitVec 32 := Scalar.addi v98 v99
  let c1_i32_71 : BitVec 32 := 1#32
  let v101 : BitVec 32 := Scalar.addi v100 c1_i32_71
  let c1024_i32_72 : BitVec 32 := 1024#32
  let v102 : BitVec 32 := Scalar.muli v101 c1024_i32_72
  let c0_i32_73 : BitVec 32 := 0#32
  let v103 : BitVec 32 := Scalar.addi v102 c0_i32_73
  v103
def k0_mult5 (i : grid0.Coords) (k0_t1 : Fin (k0_t1_loop i).trips) : BitVec 32 :=
  let arg1 : BitVec 32 := BitVec.ofNat 32 (i 1).val
  let c1_i32 : BitVec 32 := 1#32
  let v16 : BitVec 32 := Scalar.shrsi arg1 c1_i32
  let c1_i32_104 : BitVec 32 := 1#32
  let v150 : BitVec 32 := Scalar.addi v16 c1_i32_104
  let c4_i32_105 : BitVec 32 := 4#32
  let c0_i32_20 : BitVec 32 := 0#32
  let c1_i32_22 : BitVec 32 := 1#32
  let arg12 : BitVec 32 := Scf.iv c0_i32_20 c1_i32_22 k0_t1
  let v151 : BitVec 32 := Scalar.muli c4_i32_105 arg12
  let v152 : BitVec 32 := Scalar.addi v150 v151
  let c2_i32_106 : BitVec 32 := 2#32
  let v153 : BitVec 32 := Scalar.addi v152 c2_i32_106
  let c1024_i32_107 : BitVec 32 := 1024#32
  let v154 : BitVec 32 := Scalar.muli v153 c1024_i32_107
  let c0_i32_108 : BitVec 32 := 0#32
  let v155 : BitVec 32 := Scalar.addi v154 c0_i32_108
  v155
def k0_mult6 (i : grid0.Coords) (k0_t1 : Fin (k0_t1_loop i).trips) : BitVec 32 :=
  let arg1 : BitVec 32 := BitVec.ofNat 32 (i 1).val
  let c1_i32 : BitVec 32 := 1#32
  let v16 : BitVec 32 := Scalar.shrsi arg1 c1_i32
  let c1_i32_139 : BitVec 32 := 1#32
  let v202 : BitVec 32 := Scalar.addi v16 c1_i32_139
  let c4_i32_140 : BitVec 32 := 4#32
  let c0_i32_20 : BitVec 32 := 0#32
  let c1_i32_22 : BitVec 32 := 1#32
  let arg12 : BitVec 32 := Scf.iv c0_i32_20 c1_i32_22 k0_t1
  let v203 : BitVec 32 := Scalar.muli c4_i32_140 arg12
  let v204 : BitVec 32 := Scalar.addi v202 v203
  let c3_i32_141 : BitVec 32 := 3#32
  let v205 : BitVec 32 := Scalar.addi v204 c3_i32_141
  let c1024_i32_142 : BitVec 32 := 1024#32
  let v206 : BitVec 32 := Scalar.muli v205 c1024_i32_142
  let c0_i32_143 : BitVec 32 := 0#32
  let v207 : BitVec 32 := Scalar.addi v206 c0_i32_143
  v207
@[reducible] def k0_t2_loop (i : grid0.Coords) : Scf.Loop 32 :=
  let c0_i32_20 : BitVec 32 := 0#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let v28 : BitVec 32 := Scalar.addi c0_i32_20 v27
  let c1_i32_23 : BitVec 32 := 1#32
  ⟨v31, v28, c1_i32_23⟩
def k0_mult7 (i : grid0.Coords) (k0_t2 : Fin (k0_t2_loop i).trips) : BitVec 32 :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let c0_i32_37 : BitVec 32 := 0#32
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  v51
def k0_off14 (i : grid0.Coords) (k0_t2 : Fin (k0_t2_loop i).trips) (c0_i32_37 : BitVec 32) : Fin 3 → Nat :=
  let c0_39 : Index := 0#32
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  let v52 : BitVec 32 := v51
  let v53 : Index := Scalar.indexCast v52
  let c0_40 : Index := 0#32
  ![0, v53.toNat, 0]
def k0_off15 (i : grid0.Coords) (k0_t2 : Fin (k0_t2_loop i).trips) (c0_i32_37 : BitVec 32) : Fin 2 → Nat :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let v49 : BitVec 32 := Scalar.addi v48 c0_i32_37
  let c1024_i32 : BitVec 32 := 1024#32
  let v50 : BitVec 32 := Scalar.muli v49 c1024_i32
  let c0_i32_38 : BitVec 32 := 0#32
  let v51 : BitVec 32 := Scalar.addi v50 c0_i32_38
  let v52 : BitVec 32 := v51
  let v56 : Index := Scalar.indexCast v52
  let c0_41 : Index := 0#32
  ![v56.toNat, 0]
def k0_off16 (i : grid0.Coords) (k0_t2 : Fin (k0_t2_loop i).trips) (c0_i32_37 : BitVec 32) : Fin 4 → Nat :=
  let c0_43 : Index := 0#32
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let v49 : BitVec 32 := Scalar.addi v48 c0_i32_37
  let v60 : Index := Scalar.indexCast v49
  let c0_44 : Index := 0#32
  let c0_45 : Index := 0#32
  ![0, v60.toNat, 0, 0]
def k0_off17 (i : grid0.Coords) (k0_t2 : Fin (k0_t2_loop i).trips) (c0_i32_37 : BitVec 32) : Fin 3 → Nat :=
  let arg1 : BitVec 32 := BitVec.ofNat 32 (i 1).val
  let c1_i32 : BitVec 32 := 1#32
  let v16 : BitVec 32 := Scalar.shrsi arg1 c1_i32
  let c1_i32_36 : BitVec 32 := 1#32
  let v46 : BitVec 32 := Scalar.addi v16 c1_i32_36
  let c4_i32 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v47 : BitVec 32 := Scalar.muli c4_i32 arg12
  let v48 : BitVec 32 := Scalar.addi v46 v47
  let v49 : BitVec 32 := Scalar.addi v48 c0_i32_37
  let v89 : Index := Scalar.indexCast v49
  let c0_64 : Index := 0#32
  let c0_65 : Index := 0#32
  ![v89.toNat, 0, 0]
def k0_mult8 (i : grid0.Coords) (k0_t2 : Fin (k0_t2_loop i).trips) : BitVec 32 :=
  let arg1 : BitVec 32 := BitVec.ofNat 32 (i 1).val
  let c1_i32 : BitVec 32 := 1#32
  let v16 : BitVec 32 := Scalar.shrsi arg1 c1_i32
  let c1_i32_69 : BitVec 32 := 1#32
  let v98 : BitVec 32 := Scalar.addi v16 c1_i32_69
  let c4_i32_70 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v99 : BitVec 32 := Scalar.muli c4_i32_70 arg12
  let v100 : BitVec 32 := Scalar.addi v98 v99
  let c1_i32_71 : BitVec 32 := 1#32
  let v101 : BitVec 32 := Scalar.addi v100 c1_i32_71
  let c1024_i32_72 : BitVec 32 := 1024#32
  let v102 : BitVec 32 := Scalar.muli v101 c1024_i32_72
  let c0_i32_73 : BitVec 32 := 0#32
  let v103 : BitVec 32 := Scalar.addi v102 c0_i32_73
  v103
def k0_mult9 (i : grid0.Coords) (k0_t2 : Fin (k0_t2_loop i).trips) : BitVec 32 :=
  let arg1 : BitVec 32 := BitVec.ofNat 32 (i 1).val
  let c1_i32 : BitVec 32 := 1#32
  let v16 : BitVec 32 := Scalar.shrsi arg1 c1_i32
  let c1_i32_104 : BitVec 32 := 1#32
  let v150 : BitVec 32 := Scalar.addi v16 c1_i32_104
  let c4_i32_105 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v151 : BitVec 32 := Scalar.muli c4_i32_105 arg12
  let v152 : BitVec 32 := Scalar.addi v150 v151
  let c2_i32_106 : BitVec 32 := 2#32
  let v153 : BitVec 32 := Scalar.addi v152 c2_i32_106
  let c1024_i32_107 : BitVec 32 := 1024#32
  let v154 : BitVec 32 := Scalar.muli v153 c1024_i32_107
  let c0_i32_108 : BitVec 32 := 0#32
  let v155 : BitVec 32 := Scalar.addi v154 c0_i32_108
  v155
def k0_mult10 (i : grid0.Coords) (k0_t2 : Fin (k0_t2_loop i).trips) : BitVec 32 :=
  let arg1 : BitVec 32 := BitVec.ofNat 32 (i 1).val
  let c1_i32 : BitVec 32 := 1#32
  let v16 : BitVec 32 := Scalar.shrsi arg1 c1_i32
  let c1_i32_139 : BitVec 32 := 1#32
  let v202 : BitVec 32 := Scalar.addi v16 c1_i32_139
  let c4_i32_140 : BitVec 32 := 4#32
  let c0_i32_20 : BitVec 32 := 0#32
  let c15_i32 : BitVec 32 := 15#32
  let v25 : BitVec 32 := Scalar.subi c15_i32 v16
  let c2_i32 : BitVec 32 := 2#32
  let v26 : BitVec 32 := Scalar.shrsi v25 c2_i32
  let v27 : BitVec 32 := Scalar.subi v26 c0_i32_20
  let c1_i32_21 : BitVec 32 := 1#32
  let v29 : BitVec 32 := Scalar.divsi v27 c1_i32_21
  let v30 : BitVec 32 := Scalar.muli v29 c1_i32_21
  let v31 : BitVec 32 := Scalar.addi c0_i32_20 v30
  let c1_i32_23 : BitVec 32 := 1#32
  let arg12 : BitVec 32 := Scf.iv v31 c1_i32_23 k0_t2
  let v203 : BitVec 32 := Scalar.muli c4_i32_140 arg12
  let v204 : BitVec 32 := Scalar.addi v202 v203
  let c3_i32_141 : BitVec 32 := 3#32
  let v205 : BitVec 32 := Scalar.addi v204 c3_i32_141
  let c1024_i32_142 : BitVec 32 := 1024#32
  let v206 : BitVec 32 := Scalar.muli v205 c1024_i32_142
  let c0_i32_143 : BitVec 32 := 0#32
  let v207 : BitVec 32 := Scalar.addi v206 c0_i32_143
  v207
@[reducible] def k0_t3_loop (i : grid0.Coords) : Scf.Loop 32 :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_27 : BitVec 32 := 1#32
  ⟨v33, v38, c1_i32_27⟩
def k0_mult11 (i : grid0.Coords) (k0_t3 : Fin (k0_t3_loop i).trips) : BitVec 32 :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let c1024_i32 : BitVec 32 := 1024#32
  let v46 : BitVec 32 := Scalar.muli arg12 c1024_i32
  let c0_i32_36 : BitVec 32 := 0#32
  let v47 : BitVec 32 := Scalar.addi v46 c0_i32_36
  v47
def k0_off18 (i : grid0.Coords) (k0_t3 : Fin (k0_t3_loop i).trips) : Fin 3 → Nat :=
  let c0_37 : Index := 0#32
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let c1024_i32 : BitVec 32 := 1024#32
  let v46 : BitVec 32 := Scalar.muli arg12 c1024_i32
  let c0_i32_36 : BitVec 32 := 0#32
  let v47 : BitVec 32 := Scalar.addi v46 c0_i32_36
  let v48 : BitVec 32 := v47
  let v49 : Index := Scalar.indexCast v48
  let c0_38 : Index := 0#32
  ![0, v49.toNat, 0]
def k0_off19 (i : grid0.Coords) (k0_t3 : Fin (k0_t3_loop i).trips) : Fin 2 → Nat :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let c1024_i32 : BitVec 32 := 1024#32
  let v46 : BitVec 32 := Scalar.muli arg12 c1024_i32
  let c0_i32_36 : BitVec 32 := 0#32
  let v47 : BitVec 32 := Scalar.addi v46 c0_i32_36
  let v48 : BitVec 32 := v47
  let v52 : Index := Scalar.indexCast v48
  let c0_39 : Index := 0#32
  ![v52.toNat, 0]
def k0_off20 (i : grid0.Coords) (k0_t3 : Fin (k0_t3_loop i).trips) : Fin 4 → Nat :=
  let c0_41 : Index := 0#32
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let v56 : Index := Scalar.indexCast arg12
  let c0_42 : Index := 0#32
  let c0_43 : Index := 0#32
  ![0, v56.toNat, 0, 0]
def k0_off21 (i : grid0.Coords) (k0_t3 : Fin (k0_t3_loop i).trips) : Fin 3 → Nat :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c1_i32_27 : BitVec 32 := 1#32
  let arg12 : BitVec 32 := Scf.iv v33 c1_i32_27 k0_t3
  let v85 : Index := Scalar.indexCast arg12
  let c0_62 : Index := 0#32
  let c0_63 : Index := 0#32
  ![v85.toNat, 0, 0]
@[reducible] def k0_t4_loop (i : grid0.Coords) : Scf.Loop 32 :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let v35 : BitVec 32 := Scalar.addi v33 v34
  let c1_i32_28 : BitVec 32 := 1#32
  ⟨v38, v35, c1_i32_28⟩
def k0_mult12 (i : grid0.Coords) (k0_t4 : Fin (k0_t4_loop i).trips) : BitVec 32 :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let c1024_i32 : BitVec 32 := 1024#32
  let v46 : BitVec 32 := Scalar.muli arg12 c1024_i32
  let c0_i32_36 : BitVec 32 := 0#32
  let v47 : BitVec 32 := Scalar.addi v46 c0_i32_36
  v47
def k0_off22 (i : grid0.Coords) (k0_t4 : Fin (k0_t4_loop i).trips) : Fin 3 → Nat :=
  let c0_37 : Index := 0#32
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let c1024_i32 : BitVec 32 := 1024#32
  let v46 : BitVec 32 := Scalar.muli arg12 c1024_i32
  let c0_i32_36 : BitVec 32 := 0#32
  let v47 : BitVec 32 := Scalar.addi v46 c0_i32_36
  let v48 : BitVec 32 := v47
  let v49 : Index := Scalar.indexCast v48
  let c0_38 : Index := 0#32
  ![0, v49.toNat, 0]
def k0_off23 (i : grid0.Coords) (k0_t4 : Fin (k0_t4_loop i).trips) : Fin 2 → Nat :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let c1024_i32 : BitVec 32 := 1024#32
  let v46 : BitVec 32 := Scalar.muli arg12 c1024_i32
  let c0_i32_36 : BitVec 32 := 0#32
  let v47 : BitVec 32 := Scalar.addi v46 c0_i32_36
  let v48 : BitVec 32 := v47
  let v52 : Index := Scalar.indexCast v48
  let c0_39 : Index := 0#32
  ![v52.toNat, 0]
def k0_off24 (i : grid0.Coords) (k0_t4 : Fin (k0_t4_loop i).trips) : Fin 4 → Nat :=
  let c0_41 : Index := 0#32
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let v56 : Index := Scalar.indexCast arg12
  let c0_42 : Index := 0#32
  let c0_43 : Index := 0#32
  ![0, v56.toNat, 0, 0]
def k0_off25 (i : grid0.Coords) (k0_t4 : Fin (k0_t4_loop i).trips) : Fin 3 → Nat :=
  let c16_i32 : BitVec 32 := 16#32
  let c15_i32 : BitVec 32 := 15#32
  let arg1 : BitVec 32 := BitVec.ofNat 32 (i 1).val
  let c1_i32 : BitVec 32 := 1#32
  let v16 : BitVec 32 := Scalar.shrsi arg1 c1_i32
  let v25 : BitVec 32 := Scalar.subi c15_i32 v16
  let c3_i32 : BitVec 32 := 3#32
  let v32 : BitVec 32 := Scalar.andi v25 c3_i32
  let v33 : BitVec 32 := Scalar.subi c16_i32 v32
  let c16_i32_25 : BitVec 32 := 16#32
  let v34 : BitVec 32 := Scalar.subi c16_i32_25 v33
  let c1_i32_26 : BitVec 32 := 1#32
  let v36 : BitVec 32 := Scalar.divsi v34 c1_i32_26
  let v37 : BitVec 32 := Scalar.muli v36 c1_i32_26
  let v38 : BitVec 32 := Scalar.addi v33 v37
  let c1_i32_28 : BitVec 32 := 1#32
  let arg12 : BitVec 32 := Scf.iv v38 c1_i32_28 k0_t4
  let v85 : Index := Scalar.indexCast arg12
  let c0_62 : Index := 0#32
  let c0_63 : Index := 0#32
  ![v85.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.shrsi arg1 c1_i32
  let c0_i32 : BitVec 32 := 0#32
  let c0_i32_0 : BitVec 32 := 0#32
  ![arg0.toNat, v0.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S16384x8x192 : Shape := ⟨3, ![16384, 8, 192]⟩
abbrev S16384x8x128 : Shape := ⟨3, ![16384, 8, 128]⟩
abbrev S_ : Shape := ⟨0, ![]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S8x16384x192 : Shape := ⟨3, ![8, 16384, 192]⟩
abbrev S8x16384x256 : Shape := ⟨3, ![8, 16384, 256]⟩
abbrev S8x16384x128 : Shape := ⟨3, ![8, 16384, 128]⟩

abbrev nBuf : Space → Nat
  | .hbm => 96
  | .vmem => 0
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S16384x8x128, .f32⟩
  | .hbm, ⟨4, _⟩ => ⟨S_, .f32⟩
  | .hbm, ⟨5, _⟩ => ⟨S16384x8x192, .f32⟩
  | .hbm, ⟨6, _⟩ => ⟨S16384x8x192, .f32⟩
  | .hbm, ⟨7, _⟩ => ⟨S8x16384x16384, .f32⟩
  | .hbm, ⟨8, _⟩ => ⟨S16384, .i32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S1x16384x16384, .i1⟩
  | .hbm, ⟨15, _⟩ => ⟨S_, .f32⟩
  | .hbm, ⟨16, _⟩ => ⟨S_, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384x16384, .f32⟩
  | .hbm, ⟨22, _⟩ => ⟨S_, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .i1⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S_, .f32⟩
  | .hbm, ⟨31, _⟩ => ⟨S8x16384, .f32⟩
  | .hbm, ⟨32, _⟩ => ⟨S8x16384, .f32⟩
  | .hbm, ⟨33, _⟩ => ⟨S_, .f32⟩
  | .hbm, ⟨34, _⟩ => ⟨S8x16384, .f32⟩
  | .hbm, ⟨35, _⟩ => ⟨S8x16384, .i1⟩
  | .hbm, ⟨36, _⟩ => ⟨S_, .f32⟩
  | .hbm, ⟨37, _⟩ => ⟨S8x16384, .f32⟩
  | .hbm, ⟨38, _⟩ => ⟨S8x16384, .i1⟩
  | .hbm, ⟨39, _⟩ => ⟨S_, .f32⟩
  | .hbm, ⟨40, _⟩ => ⟨S8x16384, .f32⟩
  | .hbm, ⟨41, _⟩ => ⟨S_, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .f32⟩
  | .hbm, ⟨46, _⟩ => ⟨S8x16384, .f32⟩
  | .hbm, ⟨47, _⟩ => ⟨S8x16384x1, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S_, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x1, .f32⟩
  | .hbm, ⟨57, _⟩ => ⟨S_, .f32⟩
  | .hbm, ⟨58, _⟩ => ⟨S8x16384x1, .f32⟩
  | .hbm, ⟨59, _⟩ => ⟨S8x16384x1, .f32⟩
  | .hbm, ⟨60, _⟩ => ⟨S8x128x16384, .f32⟩
  | .hbm, ⟨61, _⟩ => ⟨S16384x8x128, .f32⟩
  | .hbm, ⟨62, _⟩ => ⟨S8x128x16384, .f32⟩
  | .hbm, ⟨63, _⟩ => ⟨S8x16384x16384, .f32⟩
  | .hbm, ⟨64, _⟩ => ⟨S8x128x16384, .f32⟩
  | .hbm, ⟨65, _⟩ => ⟨S16384x8x128, .f32⟩
  | .hbm, ⟨66, _⟩ => ⟨S8x16384x16384, .f32⟩
  | .hbm, ⟨67, _⟩ => ⟨S8x16384x16384, .f32⟩
  | .hbm, ⟨68, _⟩ => ⟨S8x16384x16384, .f32⟩
  | .hbm, ⟨69, _⟩ => ⟨S_, .f32⟩
  | .hbm, ⟨70, _⟩ => ⟨S8x16384, .f32⟩
  | .hbm, ⟨71, _⟩ => ⟨S8x16384x1, .f32⟩
  | .hbm, ⟨72, _⟩ => ⟨S8x16384x1, .f32⟩
  | .hbm, ⟨73, _⟩ => ⟨S8x16384x16384, .f32⟩
  | .hbm, ⟨74, _⟩ => ⟨S8x16384x16384, .f32⟩
  | .hbm, ⟨75, _⟩ => ⟨S_, .f32⟩
  | .hbm, ⟨76, _⟩ => ⟨S8x16384, .f32⟩
  | .hbm, ⟨77, _⟩ => ⟨S8x16384x16384, .f32⟩
  | .hbm, ⟨78, _⟩ => ⟨S8x16384x16384, .f32⟩
  | .hbm, ⟨79, _⟩ => ⟨S8x16384x16384, .f32⟩
  | .hbm, ⟨80, _⟩ => ⟨S_, .f32⟩
  | .hbm, ⟨81, _⟩ => ⟨S8x16384x16384, .f32⟩
  | .hbm, ⟨82, _⟩ => ⟨S8x16384x16384, .f32⟩
  | .hbm, ⟨83, _⟩ => ⟨S8x16384x192, .f32⟩
  | .hbm, ⟨84, _⟩ => ⟨S16384x8x192, .f32⟩
  | .hbm, ⟨85, _⟩ => ⟨S8x16384x192, .f32⟩
  | .hbm, ⟨86, _⟩ => ⟨S16384x8x192, .f32⟩
  | .hbm, ⟨87, _⟩ => ⟨S8x16384x192, .f32⟩
  | .hbm, ⟨88, _⟩ => ⟨S_, .i32⟩
  | .hbm, ⟨89, _⟩ => ⟨S_, .f32⟩
  | .hbm, ⟨90, _⟩ => ⟨S8x16384x256, .f32⟩
  | .hbm, ⟨91, _⟩ => ⟨S8x16384x128, .f32⟩
  | .hbm, ⟨92, _⟩ => ⟨S8x16384x192, .f32⟩
  | .hbm, ⟨93, _⟩ => ⟨S_, .i32⟩
  | .hbm, ⟨94, _⟩ => ⟨S_, .f32⟩
  | .hbm, ⟨95, _⟩ => ⟨S8x16384x256, .f32⟩
  | _, _ => ⟨S16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c : Ref sig .tc := ⟨.hbm, 88, rfl⟩
abbrev main_call2_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_call3_v0 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== Kernel2.lean ====
abbrev S16384x8x192 : Shape := ⟨3, ![16384, 8, 192]⟩
abbrev S16384x8x128 : Shape := ⟨3, ![16384, 8, 128]⟩
abbrev S8x16384x192 : Shape := ⟨3, ![8, 16384, 192]⟩
abbrev S_ : Shape := ⟨0, ![]⟩
abbrev S8x16384x256 : Shape := ⟨3, ![8, 16384, 256]⟩
abbrev S8x16384x128 : Shape := ⟨3, ![8, 16384, 128]⟩
abbrev S16384x1024 : Shape := ⟨2, ![16384, 1024]⟩
abbrev S8x16x1x1024 : Shape := ⟨4, ![8, 16, 1, 1024]⟩
abbrev S1x1024x256 : Shape := ⟨3, ![1, 1024, 256]⟩
abbrev S1x16384x256 : Shape := ⟨3, ![1, 16384, 256]⟩
abbrev S1x16384x128 : Shape := ⟨3, ![1, 16384, 128]⟩
abbrev S1024x128 : Shape := ⟨2, ![1024, 128]⟩
abbrev S1x1x1x1024 : Shape := ⟨4, ![1, 1, 1, 1024]⟩
abbrev S64x144x256 : Shape := ⟨3, ![64, 144, 256]⟩
abbrev S1024x256 : Shape := ⟨2, ![1024, 256]⟩
abbrev S16x256 : Shape := ⟨2, ![16, 256]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x16x256 : Shape := ⟨3, ![1, 16, 256]⟩
abbrev S1x1024 : Shape := ⟨2, ![1, 1024]⟩
abbrev S144x1024 : Shape := ⟨2, ![144, 1024]⟩
abbrev S1x512x256 : Shape := ⟨3, ![1, 512, 256]⟩
abbrev S512x256 : Shape := ⟨2, ![512, 256]⟩
abbrev S512x1024 : Shape := ⟨2, ![512, 1024]⟩
abbrev S1024 : Shape := ⟨1, ![1024]⟩
abbrev S1x144x256 : Shape := ⟨3, ![1, 144, 256]⟩
abbrev S144x256 : Shape := ⟨2, ![144, 256]⟩
abbrev S256x1024 : Shape := ⟨2, ![256, 1024]⟩
abbrev S128x1024 : Shape := ⟨2, ![128, 1024]⟩

abbrev nBuf : Space → Nat
  | .hbm => 26
  | .vmem => 11
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S8x16384x192, .f32⟩
  | .hbm, ⟨4, _⟩ => ⟨S_, .i32⟩
  | .hbm, ⟨5, _⟩ => ⟨S_, .f32⟩
  | .hbm, ⟨6, _⟩ => ⟨S8x16384x256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x16384x256, .f32⟩
  | .hbm, ⟨12, _⟩ => ⟨S8x16384x256, .f32⟩
  | .hbm, ⟨13, _⟩ => ⟨S8x16384x256, .bf16⟩
  | .hbm, ⟨14, _⟩ => ⟨S8x16384x192, .f32⟩
  | .hbm, ⟨15, _⟩ => ⟨S_, .i32⟩
  | .hbm, ⟨16, _⟩ => ⟨S_, .f32⟩
  | .hbm, ⟨17, _⟩ => ⟨S8x16384x256, .f32⟩
  | .hbm, ⟨18, _⟩ => ⟨S8x16384x256, .bf16⟩
  | .hbm, ⟨19, _⟩ => ⟨S8x16384x128, .f32⟩
  | .hbm, ⟨20, _⟩ => ⟨S_, .i32⟩
  | .hbm, ⟨21, _⟩ => ⟨S_, .f32⟩
  | .hbm, ⟨22, _⟩ => ⟨S8x16384x128, .f32⟩
  | .hbm, ⟨23, _⟩ => ⟨S8x16384x128, .bf16⟩
  | .hbm, ⟨24, _⟩ => ⟨S16384x1024, .f32⟩
  | .hbm, ⟨25, _⟩ => ⟨S8x16x1x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x16384x128, .bf16⟩
  | .local _ .vmem, ⟨5, _⟩ => ⟨S1x16384x128, .bf16⟩
  | .local _ .vmem, ⟨6, _⟩ => ⟨S1024x128, .f32⟩
  | .local _ .vmem, ⟨7, _⟩ => ⟨S1024x128, .f32⟩
  | .local _ .vmem, ⟨8, _⟩ => ⟨S1x1x1x1024, .f32⟩
  | .local _ .vmem, ⟨9, _⟩ => ⟨S1x1x1x1024, .f32⟩
  | .local _ .vmem, ⟨10, _⟩ => ⟨S64x144x256, .bf16⟩
  | _, _ => ⟨S16384x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_2 : BitVec 32 := 0#32
  let v4 : BitVec 1 := Scalar.cmpi .ne v3 c0_i32_2
  v4

@[reducible] def k0_t1_loop : Scf.Loop 32 :=
  let c0_i32_62 : BitVec 32 := 0#32
  let c64_i32 : BitVec 32 := 64#32
  let v132 : BitVec 32 := Scalar.addi c0_i32_62 c64_i32
  let c1_i32_63 : BitVec 32 := 1#32
  ⟨c0_i32_62, v132, c1_i32_63⟩
def k0_mult1 (k0_t1 : Fin k0_t1_loop.trips) : BitVec 32 :=
  let c0_i32_62 : BitVec 32 := 0#32
  let c1_i32_63 : BitVec 32 := 1#32
  let arg8 : BitVec 32 := Scf.iv c0_i32_62 c1_i32_63 k0_t1
  let c256_i32 : BitVec 32 := 256#32
  let v133 : BitVec 32 := Scalar.muli arg8 c256_i32
  v133
def k0_off1 (k0_t1 : Fin k0_t1_loop.trips) : Fin 3 → Nat :=
  let c0_65 : Index := 0#32
  let c0_i32_62 : BitVec 32 := 0#32
  let c1_i32_63 : BitVec 32 := 1#32
  let arg8 : BitVec 32 := Scf.iv c0_i32_62 c1_i32_63 k0_t1
  let c256_i32 : BitVec 32 := 256#32
  let v133 : BitVec 32 := Scalar.muli arg8 c256_i32
  let v134 : BitVec 32 := v133
  let v135 : Index := Scalar.indexCast v134
  let c0_66 : Index := 0#32
  ![0, v135.toNat, 0]
def k0_off2 (k0_t1 : Fin k0_t1_loop.trips) : Fin 3 → Nat :=
  let c0_i32_62 : BitVec 32 := 0#32
  let c1_i32_63 : BitVec 32 := 1#32
  let arg8 : BitVec 32 := Scf.iv c0_i32_62 c1_i32_63 k0_t1
  let v139 : Index := Scalar.indexCast arg8
  let c0_67 : Index := 0#32
  let c0_68 : Index := 0#32
  ![v139.toNat, 0, 0]
def k0_off3 (k0_t1 : Fin k0_t1_loop.trips) : Fin 3 → Nat :=
  let c0_i32_62 : BitVec 32 := 0#32
  let c1_i32_63 : BitVec 32 := 1#32
  let arg8 : BitVec 32 := Scf.iv c0_i32_62 c1_i32_63 k0_t1
  let v143 : Index := Scalar.indexCast arg8
  let c128 : Index := 128#32
  let c0_69 : Index := 0#32
  ![v143.toNat, 128, 0]
@[reducible] def k0_t2_loop (i : grid0.Coords) : Scf.Loop 32 :=
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_5 : BitVec 32 := 1#32
  ⟨c0_i32_4, v12, c1_i32_5⟩
def k0_mult2 (i : grid0.Coords) (k0_t2 : Fin (k0_t2_loop i).trips) : BitVec 32 :=
  let c4_i32 : BitVec 32 := 4#32
  let c0_i32_4 : BitVec 32 := 0#32
  let c1_i32_5 : BitVec 32 := 1#32
  let arg8 : BitVec 32 := Scf.iv c0_i32_4 c1_i32_5 k0_t2
  let v125 : BitVec 32 := Scalar.muli c4_i32 arg8
  let c0_i32_59 : BitVec 32 := 0#32
  let v126 : BitVec 32 := Scalar.addi v125 c0_i32_59
  let c1024_i32_60 : BitVec 32 := 1024#32
  let v127 : BitVec 32 := Scalar.muli v126 c1024_i32_60
  let c0_i32_61 : BitVec 32 := 0#32
  let v128 : BitVec 32 := Scalar.addi v127 c0_i32_61
  v128
def k0_off4 (i : grid0.Coords) (k0_t2 : Fin (k0_t2_loop i).trips) (c0_i32_59 : BitVec 32) (c0_i32_61 : BitVec 32) : Fin 3 → Nat :=
  let c0_62 : Index := 0#32
  let c4_i32 : BitVec 32 := 4#32
  let c0_i32_4 : BitVec 32 := 0#32
  let c1_i32_5 : BitVec 32 := 1#32
  let arg8 : BitVec 32 := Scf.iv c0_i32_4 c1_i32_5 k0_t2
  let v125 : BitVec 32 := Scalar.muli c4_i32 arg8
  let v126 : BitVec 32 := Scalar.addi v125 c0_i32_59
  let c1024_i32_60 : BitVec 32 := 1024#32
  let v127 : BitVec 32 := Scalar.muli v126 c1024_i32_60
  let v128 : BitVec 32 := Scalar.addi v127 c0_i32_61
  let v129 : BitVec 32 := v128
  let v130 : Index := Scalar.indexCast v129
  let c0_63 : Index := 0#32
  ![0, v130.toNat, 0]
def k0_mult3 (i : grid0.Coords) (k0_t2 : Fin (k0_t2_loop i).trips) : BitVec 32 :=
  let c4_i32 : BitVec 32 := 4#32
  let c0_i32_4 : BitVec 32 := 0#32
  let c1_i32_5 : BitVec 32 := 1#32
  let arg8 : BitVec 32 := Scf.iv c0_i32_4 c1_i32_5 k0_t2
  let v125 : BitVec 32 := Scalar.muli c4_i32 arg8
  let c0_i32_59 : BitVec 32 := 0#32
  let v126 : BitVec 32 := Scalar.addi v125 c0_i32_59
  let c1024_i32_65 : BitVec 32 := 1024#32
  let v134 : BitVec 32 := Scalar.muli v126 c1024_i32_65
  let c512_i32_66 : BitVec 32 := 512#32
  let v135 : BitVec 32 := Scalar.addi v134 c512_i32_66
  v135
def k0_off5 (i : grid0.Coords) (k0_t2 : Fin (k0_t2_loop i).trips) (c0_i32_59 : BitVec 32) (c0_i32_72 : BitVec 32) (c0_i32_74 : BitVec 32) : Fin 3 → Nat :=
  let c2_i32_71 : BitVec 32 := 2#32
  let c4_i32 : BitVec 32 := 4#32
  let c0_i32_4 : BitVec 32 := 0#32
  let c1_i32_5 : BitVec 32 := 1#32
  let arg8 : BitVec 32 := Scf.iv c0_i32_4 c1_i32_5 k0_t2
  let v125 : BitVec 32 := Scalar.muli c4_i32 arg8
  let v126 : BitVec 32 := Scalar.addi v125 c0_i32_59
  let v152 : BitVec 32 := Scalar.muli c2_i32_71 v126
  let v153 : BitVec 32 := Scalar.addi v152 c0_i32_72
  let c2_i32_73 : BitVec 32 := 2#32
  let v154 : BitVec 32 := Scalar.muli v153 c2_i32_73
  let v155 : BitVec 32 := Scalar.addi v154 c0_i32_74
  let v156 : Index := Scalar.indexCast v155
  let c0_75 : Index := 0#32
  let c0_76 : Index := 0#32
  ![v156.toNat, 0, 0]
def k0_mult4 (i : grid0.Coords) (k0_t2 : Fin (k0_t2_loop i).trips) : BitVec 32 :=
  let c4_i32_100 : BitVec 32 := 4#32
  let c0_i32_4 : BitVec 32 := 0#32
  let c1_i32_5 : BitVec 32 := 1#32
  let arg8 : BitVec 32 := Scf.iv c0_i32_4 c1_i32_5 k0_t2
  let v203 : BitVec 32 := Scalar.muli c4_i32_100 arg8
  let c1_i32_101 : BitVec 32 := 1#32
  let v204 : BitVec 32 := Scalar.addi v203 c1_i32_101
  let c1024_i32_102 : BitVec 32 := 1024#32
  let v205 : BitVec 32 := Scalar.muli v204 c1024_i32_102
  let c0_i32_103 : BitVec 32 := 0#32
  let v206 : BitVec 32 := Scalar.addi v205 c0_i32_103
  v206
def k0_mult5 (i : grid0.Coords) (k0_t2 : Fin (k0_t2_loop i).trips) : BitVec 32 :=
  let c4_i32_100 : BitVec 32 := 4#32
  let c0_i32_4 : BitVec 32 := 0#32
  let c1_i32_5 : BitVec 32 := 1#32
  let arg8 : BitVec 32 := Scf.iv c0_i32_4 c1_i32_5 k0_t2
  let v203 : BitVec 32 := Scalar.muli c4_i32_100 arg8
  let c1_i32_101 : BitVec 32 := 1#32
  let v204 : BitVec 32 := Scalar.addi v203 c1_i32_101
  let c1024_i32_107 : BitVec 32 := 1024#32
  let v212 : BitVec 32 := Scalar.muli v204 c1024_i32_107
  let c512_i32_108 : BitVec 32 := 512#32
  let v213 : BitVec 32 := Scalar.addi v212 c512_i32_108
  v213
def k0_mult6 (i : grid0.Coords) (k0_t2 : Fin (k0_t2_loop i).trips) : BitVec 32 :=
  let c4_i32_142 : BitVec 32 := 4#32
  let c0_i32_4 : BitVec 32 := 0#32
  let c1_i32_5 : BitVec 32 := 1#32
  let arg8 : BitVec 32 := Scf.iv c0_i32_4 c1_i32_5 k0_t2
  let v281 : BitVec 32 := Scalar.muli c4_i32_142 arg8
  let c2_i32_143 : BitVec 32 := 2#32
  let v282 : BitVec 32 := Scalar.addi v281 c2_i32_143
  let c1024_i32_144 : BitVec 32 := 1024#32
  let v283 : BitVec 32 := Scalar.muli v282 c1024_i32_144
  let c0_i32_145 : BitVec 32 := 0#32
  let v284 : BitVec 32 := Scalar.addi v283 c0_i32_145
  v284
def k0_mult7 (i : grid0.Coords) (k0_t2 : Fin (k0_t2_loop i).trips) : BitVec 32 :=
  let c4_i32_142 : BitVec 32 := 4#32
  let c0_i32_4 : BitVec 32 := 0#32
  let c1_i32_5 : BitVec 32 := 1#32
  let arg8 : BitVec 32 := Scf.iv c0_i32_4 c1_i32_5 k0_t2
  let v281 : BitVec 32 := Scalar.muli c4_i32_142 arg8
  let c2_i32_143 : BitVec 32 := 2#32
  let v282 : BitVec 32 := Scalar.addi v281 c2_i32_143
  let c1024_i32_149 : BitVec 32 := 1024#32
  let v290 : BitVec 32 := Scalar.muli v282 c1024_i32_149
  let c512_i32_150 : BitVec 32 := 512#32
  let v291 : BitVec 32 := Scalar.addi v290 c512_i32_150
  v291
def k0_mult8 (i : grid0.Coords) (k0_t2 : Fin (k0_t2_loop i).trips) : BitVec 32 :=
  let c4_i32_184 : BitVec 32 := 4#32
  let c0_i32_4 : BitVec 32 := 0#32
  let c1_i32_5 : BitVec 32 := 1#32
  let arg8 : BitVec 32 := Scf.iv c0_i32_4 c1_i32_5 k0_t2
  let v359 : BitVec 32 := Scalar.muli c4_i32_184 arg8
  let c3_i32_185 : BitVec 32 := 3#32
  let v360 : BitVec 32 := Scalar.addi v359 c3_i32_185
  let c1024_i32_186 : BitVec 32 := 1024#32
  let v361 : BitVec 32 := Scalar.muli v360 c1024_i32_186
  let c0_i32_187 : BitVec 32 := 0#32
  let v362 : BitVec 32 := Scalar.addi v361 c0_i32_187
  v362
def k0_mult9 (i : grid0.Coords) (k0_t2 : Fin (k0_t2_loop i).trips) : BitVec 32 :=
  let c4_i32_184 : BitVec 32 := 4#32
  let c0_i32_4 : BitVec 32 := 0#32
  let c1_i32_5 : BitVec 32 := 1#32
  let arg8 : BitVec 32 := Scf.iv c0_i32_4 c1_i32_5 k0_t2
  let v359 : BitVec 32 := Scalar.muli c4_i32_184 arg8
  let c3_i32_185 : BitVec 32 := 3#32
  let v360 : BitVec 32 := Scalar.addi v359 c3_i32_185
  let c1024_i32_191 : BitVec 32 := 1024#32
  let v368 : BitVec 32 := Scalar.muli v360 c1024_i32_191
  let c512_i32_192 : BitVec 32 := 512#32
  let v369 : BitVec 32 := Scalar.addi v368 c512_i32_192
  v369
@[reducible] def k0_t3_loop (i : grid0.Coords) : Scf.Loop 32 :=
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let v9 : BitVec 32 := Scalar.addi c0_i32_4 v8
  let c1_i32_6 : BitVec 32 := 1#32
  ⟨v12, v9, c1_i32_6⟩
def k0_mult10 (i : grid0.Coords) (k0_t3 : Fin (k0_t3_loop i).trips) : BitVec 32 :=
  let c4_i32 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v125 : BitVec 32 := Scalar.muli c4_i32 arg8
  let c0_i32_59 : BitVec 32 := 0#32
  let v126 : BitVec 32 := Scalar.addi v125 c0_i32_59
  let c1024_i32_60 : BitVec 32 := 1024#32
  let v127 : BitVec 32 := Scalar.muli v126 c1024_i32_60
  let c0_i32_61 : BitVec 32 := 0#32
  let v128 : BitVec 32 := Scalar.addi v127 c0_i32_61
  v128
def k0_off6 (i : grid0.Coords) (k0_t3 : Fin (k0_t3_loop i).trips) (c0_i32_59 : BitVec 32) (c0_i32_61 : BitVec 32) : Fin 3 → Nat :=
  let c0_62 : Index := 0#32
  let c4_i32 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v125 : BitVec 32 := Scalar.muli c4_i32 arg8
  let v126 : BitVec 32 := Scalar.addi v125 c0_i32_59
  let c1024_i32_60 : BitVec 32 := 1024#32
  let v127 : BitVec 32 := Scalar.muli v126 c1024_i32_60
  let v128 : BitVec 32 := Scalar.addi v127 c0_i32_61
  let v129 : BitVec 32 := v128
  let v130 : Index := Scalar.indexCast v129
  let c0_63 : Index := 0#32
  ![0, v130.toNat, 0]
def k0_mult11 (i : grid0.Coords) (k0_t3 : Fin (k0_t3_loop i).trips) : BitVec 32 :=
  let c4_i32 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v125 : BitVec 32 := Scalar.muli c4_i32 arg8
  let c0_i32_59 : BitVec 32 := 0#32
  let v126 : BitVec 32 := Scalar.addi v125 c0_i32_59
  let c1024_i32_65 : BitVec 32 := 1024#32
  let v134 : BitVec 32 := Scalar.muli v126 c1024_i32_65
  let c512_i32_66 : BitVec 32 := 512#32
  let v135 : BitVec 32 := Scalar.addi v134 c512_i32_66
  v135
def k0_off7 (i : grid0.Coords) (k0_t3 : Fin (k0_t3_loop i).trips) (c0_i32_59 : BitVec 32) (c0_i32_72 : BitVec 32) (c0_i32_74 : BitVec 32) : Fin 3 → Nat :=
  let c2_i32_71 : BitVec 32 := 2#32
  let c4_i32 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v125 : BitVec 32 := Scalar.muli c4_i32 arg8
  let v126 : BitVec 32 := Scalar.addi v125 c0_i32_59
  let v152 : BitVec 32 := Scalar.muli c2_i32_71 v126
  let v153 : BitVec 32 := Scalar.addi v152 c0_i32_72
  let c2_i32_73 : BitVec 32 := 2#32
  let v154 : BitVec 32 := Scalar.muli v153 c2_i32_73
  let v155 : BitVec 32 := Scalar.addi v154 c0_i32_74
  let v156 : Index := Scalar.indexCast v155
  let c0_75 : Index := 0#32
  let c0_76 : Index := 0#32
  ![v156.toNat, 0, 0]
def k0_mult12 (i : grid0.Coords) (k0_t3 : Fin (k0_t3_loop i).trips) : BitVec 32 :=
  let c4_i32_100 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v203 : BitVec 32 := Scalar.muli c4_i32_100 arg8
  let c1_i32_101 : BitVec 32 := 1#32
  let v204 : BitVec 32 := Scalar.addi v203 c1_i32_101
  let c1024_i32_102 : BitVec 32 := 1024#32
  let v205 : BitVec 32 := Scalar.muli v204 c1024_i32_102
  let c0_i32_103 : BitVec 32 := 0#32
  let v206 : BitVec 32 := Scalar.addi v205 c0_i32_103
  v206
def k0_mult13 (i : grid0.Coords) (k0_t3 : Fin (k0_t3_loop i).trips) : BitVec 32 :=
  let c4_i32_100 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v203 : BitVec 32 := Scalar.muli c4_i32_100 arg8
  let c1_i32_101 : BitVec 32 := 1#32
  let v204 : BitVec 32 := Scalar.addi v203 c1_i32_101
  let c1024_i32_107 : BitVec 32 := 1024#32
  let v212 : BitVec 32 := Scalar.muli v204 c1024_i32_107
  let c512_i32_108 : BitVec 32 := 512#32
  let v213 : BitVec 32 := Scalar.addi v212 c512_i32_108
  v213
def k0_mult14 (i : grid0.Coords) (k0_t3 : Fin (k0_t3_loop i).trips) : BitVec 32 :=
  let c4_i32_142 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v281 : BitVec 32 := Scalar.muli c4_i32_142 arg8
  let c2_i32_143 : BitVec 32 := 2#32
  let v282 : BitVec 32 := Scalar.addi v281 c2_i32_143
  let c1024_i32_144 : BitVec 32 := 1024#32
  let v283 : BitVec 32 := Scalar.muli v282 c1024_i32_144
  let c0_i32_145 : BitVec 32 := 0#32
  let v284 : BitVec 32 := Scalar.addi v283 c0_i32_145
  v284
def k0_mult15 (i : grid0.Coords) (k0_t3 : Fin (k0_t3_loop i).trips) : BitVec 32 :=
  let c4_i32_142 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v281 : BitVec 32 := Scalar.muli c4_i32_142 arg8
  let c2_i32_143 : BitVec 32 := 2#32
  let v282 : BitVec 32 := Scalar.addi v281 c2_i32_143
  let c1024_i32_149 : BitVec 32 := 1024#32
  let v290 : BitVec 32 := Scalar.muli v282 c1024_i32_149
  let c512_i32_150 : BitVec 32 := 512#32
  let v291 : BitVec 32 := Scalar.addi v290 c512_i32_150
  v291
def k0_mult16 (i : grid0.Coords) (k0_t3 : Fin (k0_t3_loop i).trips) : BitVec 32 :=
  let c4_i32_184 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v359 : BitVec 32 := Scalar.muli c4_i32_184 arg8
  let c3_i32_185 : BitVec 32 := 3#32
  let v360 : BitVec 32 := Scalar.addi v359 c3_i32_185
  let c1024_i32_186 : BitVec 32 := 1024#32
  let v361 : BitVec 32 := Scalar.muli v360 c1024_i32_186
  let c0_i32_187 : BitVec 32 := 0#32
  let v362 : BitVec 32 := Scalar.addi v361 c0_i32_187
  v362
def k0_mult17 (i : grid0.Coords) (k0_t3 : Fin (k0_t3_loop i).trips) : BitVec 32 :=
  let c4_i32_184 : BitVec 32 := 4#32
  let c0_i32_4 : BitVec 32 := 0#32
  let arg1 : BitVec 32 := BitVec.ofNat 32 (i 1).val
  let c2_i32 : BitVec 32 := 2#32
  let v7 : BitVec 32 := Scalar.shrsi arg1 c2_i32
  let v8 : BitVec 32 := Scalar.subi v7 c0_i32_4
  let c1_i32 : BitVec 32 := 1#32
  let v10 : BitVec 32 := Scalar.divsi v8 c1_i32
  let v11 : BitVec 32 := Scalar.muli v10 c1_i32
  let v12 : BitVec 32 := Scalar.addi c0_i32_4 v11
  let c1_i32_6 : BitVec 32 := 1#32
  let arg8 : BitVec 32 := Scf.iv v12 c1_i32_6 k0_t3
  let v359 : BitVec 32 := Scalar.muli c4_i32_184 arg8
  let c3_i32_185 : BitVec 32 := 3#32
  let v360 : BitVec 32 := Scalar.addi v359 c3_i32_185
  let c1024_i32_191 : BitVec 32 := 1024#32
  let v368 : BitVec 32 := Scalar.muli v360 c1024_i32_191
  let c512_i32_192 : BitVec 32 := 512#32
  let v369 : BitVec 32 := Scalar.addi v368 c512_i32_192
  v369
@[reducible] def k0_t4_loop (i : grid0.Coords) : Scf.Loop 32 :=
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_8 : BitVec 32 := 1#32
  ⟨v16, v21, c1_i32_8⟩
def k0_mult18 (i : grid0.Coords) (k0_t4 : Fin (k0_t4_loop i).trips) : BitVec 32 :=
  let arg1 : BitVec 32 := BitVec.ofNat 32 (i 1).val
  let c3_i32 : BitVec 32 := 3#32
  let v15 : BitVec 32 := Scalar.andi arg1 c3_i32
  let v16 : BitVec 32 := Scalar.subi arg1 v15
  let c1_i32_8 : BitVec 32 := 1#32
  let arg8 : BitVec 32 := Scf.iv v16 c1_i32_8 k0_t4
  let c1024_i32_59 : BitVec 32 := 1024#32
  let v125 : BitVec 32 := Scalar.muli arg8 c1024_i32_59
  let c0_i32_60 : BitVec 32 := 0#32
  let v126 : BitVec 32 := Scalar.addi v125 c0_i32_60
  v126
def k0_off8 (i : grid0.Coords) (k0_t4 : Fin (k0_t4_loop i).trips) (c0_i32_60 : BitVec 32) : Fin 3 → Nat :=
  let c0_61 : Index := 0#32
  let arg1 : BitVec 32 := BitVec.ofNat 32 (i 1).val
  let c3_i32 : BitVec 32 := 3#32
  let v15 : BitVec 32 := Scalar.andi arg1 c3_i32
  let v16 : BitVec 32 := Scalar.subi arg1 v15
  let c1_i32_8 : BitVec 32 := 1#32
  let arg8 : BitVec 32 := Scf.iv v16 c1_i32_8 k0_t4
  let c1024_i32_59 : BitVec 32 := 1024#32
  let v125 : BitVec 32 := Scalar.muli arg8 c1024_i32_59
  let v126 : BitVec 32 := Scalar.addi v125 c0_i32_60
  let v127 : BitVec 32 := v126
  let v128 : Index := Scalar.indexCast v127
  let c0_62 : Index := 0#32
  ![0, v128.toNat, 0]
def k0_mult19 (i : grid0.Coords) (k0_t4 : Fin (k0_t4_loop i).trips) : BitVec 32 :=
  let arg1 : BitVec 32 := BitVec.ofNat 32 (i 1).val
  let c3_i32 : BitVec 32 := 3#32
  let v15 : BitVec 32 := Scalar.andi arg1 c3_i32
  let v16 : BitVec 32 := Scalar.subi arg1 v15
  let c1_i32_8 : BitVec 32 := 1#32
  let arg8 : BitVec 32 := Scf.iv v16 c1_i32_8 k0_t4
  let c1024_i32_64 : BitVec 32 := 1024#32
  let v132 : BitVec 32 := Scalar.muli arg8 c1024_i32_64
  let c512_i32_65 : BitVec 32 := 512#32
  let v133 : BitVec 32 := Scalar.addi v132 c512_i32_65
  v133
def k0_off9 (i : grid0.Coords) (k0_t4 : Fin (k0_t4_loop i).trips) (c0_i32_71 : BitVec 32) (c0_i32_73 : BitVec 32) : Fin 3 → Nat :=
  let c2_i32_70 : BitVec 32 := 2#32
  let arg1 : BitVec 32 := BitVec.ofNat 32 (i 1).val
  let c3_i32 : BitVec 32 := 3#32
  let v15 : BitVec 32 := Scalar.andi arg1 c3_i32
  let v16 : BitVec 32 := Scalar.subi arg1 v15
  let c1_i32_8 : BitVec 32 := 1#32
  let arg8 : BitVec 32 := Scf.iv v16 c1_i32_8 k0_t4
  let v150 : BitVec 32 := Scalar.muli c2_i32_70 arg8
  let v151 : BitVec 32 := Scalar.addi v150 c0_i32_71
  let c2_i32_72 : BitVec 32 := 2#32
  let v152 : BitVec 32 := Scalar.muli v151 c2_i32_72
  let v153 : BitVec 32 := Scalar.addi v152 c0_i32_73
  let v154 : Index := Scalar.indexCast v153
  let c0_74 : Index := 0#32
  let c0_75 : Index := 0#32
  ![v154.toNat, 0, 0]
@[reducible] def k0_t5_loop (i : grid0.Coords) : Scf.Loop 32 :=
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let v18 : BitVec 32 := Scalar.addi v16 v17
  let c1_i32_9 : BitVec 32 := 1#32
  ⟨v21, v18, c1_i32_9⟩
def k0_mult20 (i : grid0.Coords) (k0_t5 : Fin (k0_t5_loop i).trips) : BitVec 32 :=
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_9 : BitVec 32 := 1#32
  let arg8 : BitVec 32 := Scf.iv v21 c1_i32_9 k0_t5
  let c1024_i32_59 : BitVec 32 := 1024#32
  let v125 : BitVec 32 := Scalar.muli arg8 c1024_i32_59
  let c0_i32_60 : BitVec 32 := 0#32
  let v126 : BitVec 32 := Scalar.addi v125 c0_i32_60
  v126
def k0_off10 (i : grid0.Coords) (k0_t5 : Fin (k0_t5_loop i).trips) (c0_i32_60 : BitVec 32) : Fin 3 → Nat :=
  let c0_61 : Index := 0#32
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_9 : BitVec 32 := 1#32
  let arg8 : BitVec 32 := Scf.iv v21 c1_i32_9 k0_t5
  let c1024_i32_59 : BitVec 32 := 1024#32
  let v125 : BitVec 32 := Scalar.muli arg8 c1024_i32_59
  let v126 : BitVec 32 := Scalar.addi v125 c0_i32_60
  let v127 : BitVec 32 := v126
  let v128 : Index := Scalar.indexCast v127
  let c0_62 : Index := 0#32
  ![0, v128.toNat, 0]
def k0_mult21 (i : grid0.Coords) (k0_t5 : Fin (k0_t5_loop i).trips) : BitVec 32 :=
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_9 : BitVec 32 := 1#32
  let arg8 : BitVec 32 := Scf.iv v21 c1_i32_9 k0_t5
  let c1024_i32_64 : BitVec 32 := 1024#32
  let v132 : BitVec 32 := Scalar.muli arg8 c1024_i32_64
  let c512_i32_65 : BitVec 32 := 512#32
  let v133 : BitVec 32 := Scalar.addi v132 c512_i32_65
  v133
def k0_off11 (i : grid0.Coords) (k0_t5 : Fin (k0_t5_loop i).trips) (c0_i32_71 : BitVec 32) (c0_i32_73 : BitVec 32) : Fin 3 → Nat :=
  let c2_i32_70 : BitVec 32 := 2#32
  let arg1 : BitVec 32 := BitVec.ofNat 32 (i 1).val
  let c3_i32 : BitVec 32 := 3#32
  let v15 : BitVec 32 := Scalar.andi arg1 c3_i32
  let v16 : BitVec 32 := Scalar.subi arg1 v15
  let v17 : BitVec 32 := Scalar.subi arg1 v16
  let c1_i32_7 : BitVec 32 := 1#32
  let v19 : BitVec 32 := Scalar.divsi v17 c1_i32_7
  let v20 : BitVec 32 := Scalar.muli v19 c1_i32_7
  let v21 : BitVec 32 := Scalar.addi v16 v20
  let c1_i32_9 : BitVec 32 := 1#32
  let arg8 : BitVec 32 := Scf.iv v21 c1_i32_9 k0_t5
  let v150 : BitVec 32 := Scalar.muli c2_i32_70 arg8
  let v151 : BitVec 32 := Scalar.addi v150 c0_i32_71
  let c2_i32_72 : BitVec 32 := 2#32
  let v152 : BitVec 32 := Scalar.muli v151 c2_i32_72
  let v153 : BitVec 32 := Scalar.addi v152 c0_i32_73
  let v154 : Index := Scalar.indexCast v153
  let c0_74 : Index := 0#32
  let c0_75 : Index := 0#32
  ![v154.toNat, 0, 0]
def k0_mult22 (i : grid0.Coords) : BitVec 32 :=
  let arg1 : BitVec 32 := BitVec.ofNat 32 (i 1).val
  let c1024_i32 : BitVec 32 := 1024#32
  let v24 : BitVec 32 := Scalar.muli arg1 c1024_i32
  let c0_i32_10 : BitVec 32 := 0#32
  let v25 : BitVec 32 := Scalar.addi v24 c0_i32_10
  v25
def k0_off12 (i : grid0.Coords) (c0_i32_10 : BitVec 32) : Fin 3 → Nat :=
  let c0_11 : Index := 0#32
  let arg1 : BitVec 32 := BitVec.ofNat 32 (i 1).val
  let c1024_i32 : BitVec 32 := 1024#32
  let v24 : BitVec 32 := Scalar.muli arg1 c1024_i32
  let v25 : BitVec 32 := Scalar.addi v24 c0_i32_10
  let v26 : BitVec 32 := v25
  let v27 : Index := Scalar.indexCast v26
  let c0_12 : Index := 0#32
  ![0, v27.toNat, 0]
def k0_mult23 (i : grid0.Coords) : BitVec 32 :=
  let arg1 : BitVec 32 := BitVec.ofNat 32 (i 1).val
  let c1024_i32_14 : BitVec 32 := 1024#32
  let v31 : BitVec 32 := Scalar.muli arg1 c1024_i32_14
  let c512_i32 : BitVec 32 := 512#32
  let v32 : BitVec 32 := Scalar.addi v31 c512_i32
  v32
def k0_off13 (i : grid0.Coords) (c0_i32_24 : BitVec 32) (c0_i32_26 : BitVec 32) : Fin 3 → Nat :=
  let c2_i32_23 : BitVec 32 := 2#32
  let arg1 : BitVec 32 := BitVec.ofNat 32 (i 1).val
  let v61 : BitVec 32 := Scalar.muli c2_i32_23 arg1
  let v62 : BitVec 32 := Scalar.addi v61 c0_i32_24
  let c2_i32_25 : BitVec 32 := 2#32
  let v63 : BitVec 32 := Scalar.muli v62 c2_i32_25
  let v64 : BitVec 32 := Scalar.addi v63 c0_i32_26
  let v65 : Index := Scalar.indexCast v64
  let c0_27 : Index := 0#32
  let c0_28 : Index := 0#32
  ![v65.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "ln2" => some ((Real.log 2 : ℝ) : EReal)
  | "neg_inf" => some ⊥
  | _ => none
-- ==== Reference2Ideal.lean ====
abbrev S16384x8x192 : Shape := ⟨3, ![16384, 8, 192]⟩
abbrev S16384x8x128 : Shape := ⟨3, ![16384, 8, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S16384x1024 : Shape := ⟨2, ![16384, 1024]⟩
abbrev S8x16x1x1024 : Shape := ⟨4, ![8, 16, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x8x192, .f32⟩
  | .hbm, ⟨1, _⟩ => ⟨S16384x8x192, .f32⟩
  | .hbm, ⟨2, _⟩ => ⟨S16384x8x128, .f32⟩
  | .hbm, ⟨3, _⟩ => ⟨S8x16384x16384, .f32⟩
  | .hbm, ⟨4, _⟩ => ⟨S_, .f32⟩
  | .hbm, ⟨5, _⟩ => ⟨S8x16384x16384, .f32⟩
  | .hbm, ⟨6, _⟩ => ⟨S8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384x1, .f32⟩
  | .hbm, ⟨28, _⟩ => ⟨S8x16384x16384, .f32⟩
  | .hbm, ⟨29, _⟩ => ⟨S8x16384x16384, .f32⟩
  | .hbm, ⟨30, _⟩ => ⟨S8x128x16384, .f32⟩
  | .hbm, ⟨31, _⟩ => ⟨S16384x8x128, .f32⟩
  | .hbm, ⟨32, _⟩ => ⟨S8x16384x1, .f32⟩
  | .hbm, ⟨33, _⟩ => ⟨S8x16384x1, .f32⟩
  | .hbm, ⟨34, _⟩ => ⟨S_, .f32⟩
  | .hbm, ⟨35, _⟩ => ⟨S_, .f32⟩
  | .hbm, ⟨36, _⟩ => ⟨S8x16384x1, .f32⟩
  | .hbm, ⟨37, _⟩ => ⟨S8x16384x1, .f32⟩
  | .hbm, ⟨38, _⟩ => ⟨S16384x1024, .f32⟩
  | .hbm, ⟨39, _⟩ => ⟨S8x16x1x1024, .f32⟩
  | _, _ => ⟨S16384x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel3.lean ====
abbrev S16384x1024 : Shape := ⟨2, ![16384, 1024]⟩
abbrev S1x3072 : Shape := ⟨2, ![1, 3072]⟩
abbrev S1024x4304 : Shape := ⟨2, ![1024, 4304]⟩
abbrev S16384x4304 : Shape := ⟨2, ![16384, 4304]⟩
abbrev S1024x384 : Shape := ⟨2, ![1024, 384]⟩
abbrev S1024x256 : Shape := ⟨2, ![1024, 256]⟩
abbrev S1024x1024 : Shape := ⟨2, ![1024, 1024]⟩
abbrev S1024x1536 : Shape := ⟨2, ![1024, 1536]⟩
abbrev S1024x64 : Shape := ⟨2, ![1024, 64]⟩
abbrev S_ : Shape := ⟨0, ![]⟩
abbrev S1024x16 : Shape := ⟨2, ![1024, 16]⟩
abbrev S1024x112 : Shape := ⟨2, ![1024, 112]⟩
abbrev S1024x4480 : Shape := ⟨2, ![1024, 4480]⟩
abbrev S8x3072 : Shape := ⟨2, ![8, 3072]⟩
abbrev S16384x384 : Shape := ⟨2, ![16384, 384]⟩
abbrev S16384x256 : Shape := ⟨2, ![16384, 256]⟩
abbrev S16384x1536 : Shape := ⟨2, ![16384, 1536]⟩
abbrev S16384x64 : Shape := ⟨2, ![16384, 64]⟩
abbrev S16384x128 : Shape := ⟨2, ![16384, 128]⟩
abbrev S16384x16 : Shape := ⟨2, ![16384, 16]⟩
abbrev S8x1024 : Shape := ⟨2, ![8, 1024]⟩
abbrev S256x1024 : Shape := ⟨2, ![256, 1024]⟩
abbrev S256x384 : Shape := ⟨2, ![256, 384]⟩
abbrev S256x256 : Shape := ⟨2, ![256, 256]⟩
abbrev S256x1536 : Shape := ⟨2, ![256, 1536]⟩
abbrev S256x128 : Shape := ⟨2, ![256, 128]⟩
abbrev S1x1024 : Shape := ⟨2, ![1, 1024]⟩
abbrev S1024x128 : Shape := ⟨2, ![1024, 128]⟩
abbrev S1024 : Shape := ⟨1, ![1024]⟩

abbrev nBuf : Space → Nat
  | .hbm => 36
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x3072, .f32⟩
  | .hbm, ⟨3, _⟩ => ⟨S1024x4304, .f32⟩
  | .hbm, ⟨4, _⟩ => ⟨S16384x4304, .f32⟩
  | .hbm, ⟨5, _⟩ => ⟨S1024x4304, .bf16⟩
  | .hbm, ⟨6, _⟩ => ⟨S1024x384, .bf16⟩
  | .hbm, ⟨7, _⟩ => ⟨S1024x256, .bf16⟩
  | .hbm, ⟨8, _⟩ => ⟨S1024x1024, .bf16⟩
  | .hbm, ⟨9, _⟩ => ⟨S1024x1536, .bf16⟩
  | .hbm, ⟨10, _⟩ => ⟨S1024x1024, .bf16⟩
  | .hbm, ⟨11, _⟩ => ⟨S1024x64, .bf16⟩
  | .hbm, ⟨12, _⟩ => ⟨S_, .bf16⟩
  | .hbm, ⟨13, _⟩ => ⟨S1024x64, .bf16⟩
  | .hbm, ⟨14, _⟩ => ⟨S1024x16, .bf16⟩
  | .hbm, ⟨15, _⟩ => ⟨S_, .bf16⟩
  | .hbm, ⟨16, _⟩ => ⟨S1024x112, .bf16⟩
  | .hbm, ⟨17, _⟩ => ⟨S1024x4480, .bf16⟩
  | .hbm, ⟨18, _⟩ => ⟨S16384x4304, .bf16⟩
  | .hbm, ⟨19, _⟩ => ⟨S8x3072, .f32⟩
  | .hbm, ⟨20, _⟩ => ⟨S16384x384, .bf16⟩
  | .hbm, ⟨21, _⟩ => ⟨S16384x256, .bf16⟩
  | .hbm, ⟨22, _⟩ => ⟨S16384x1024, .bf16⟩
  | .hbm, ⟨23, _⟩ => ⟨S16384x1536, .bf16⟩
  | .hbm, ⟨24, _⟩ => ⟨S16384x1024, .bf16⟩
  | .hbm, ⟨25, _⟩ => ⟨S16384x64, .bf16⟩
  | .hbm, ⟨26, _⟩ => ⟨S_, .i32⟩
  | .hbm, ⟨27, _⟩ => ⟨S_, .bf16⟩
  | .hbm, ⟨28, _⟩ => ⟨S16384x128, .bf16⟩
  | .hbm, ⟨29, _⟩ => ⟨S16384x16, .bf16⟩
  | .hbm, ⟨30, _⟩ => ⟨S_, .i32⟩
  | .hbm, ⟨31, _⟩ => ⟨S_, .bf16⟩
  | .hbm, ⟨32, _⟩ => ⟨S16384x128, .bf16⟩
  | .hbm, ⟨33, _⟩ => ⟨S16384x1024, .f32⟩
  | .hbm, ⟨34, _⟩ => ⟨S1024x4480, .f32⟩
  | .hbm, ⟨35, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x3072, .f32⟩
  | .local _ .vmem, ⟨5, _⟩ => ⟨S1024x4480, .bf16⟩
  | .local _ .vmem, ⟨6, _⟩ => ⟨S256x384, .bf16⟩
  | .local _ .vmem, ⟨7, _⟩ => ⟨S256x384, .bf16⟩
  | .local _ .vmem, ⟨8, _⟩ => ⟨S256x256, .bf16⟩
  | .local _ .vmem, ⟨9, _⟩ => ⟨S256x256, .bf16⟩
  | .local _ .vmem, ⟨10, _⟩ => ⟨S256x1024, .bf16⟩
  | .local _ .vmem, ⟨11, _⟩ => ⟨S256x1024, .bf16⟩
  | .local _ .vmem, ⟨12, _⟩ => ⟨S256x1536, .bf16⟩
  | .local _ .vmem, ⟨13, _⟩ => ⟨S256x1536, .bf16⟩
  | .local _ .vmem, ⟨14, _⟩ => ⟨S256x1024, .bf16⟩
  | .local _ .vmem, ⟨15, _⟩ => ⟨S256x1024, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S256x1024, .f32⟩
  | .local _ .vmem, ⟨21, _⟩ => ⟨S256x1024, .f32⟩
  | .local _ .vmem, ⟨22, _⟩ => ⟨S1024x4480, .f32⟩
  | .local _ .vmem, ⟨23, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_call1_v0 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4480 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x4480 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S16384x1024 : Shape := ⟨2, ![16384, 1024]⟩
abbrev S1x3072 : Shape := ⟨2, ![1, 3072]⟩
abbrev S1024x4304 : Shape := ⟨2, ![1024, 4304]⟩
abbrev S16384x4304 : Shape := ⟨2, ![16384, 4304]⟩
abbrev S1x1024 : Shape := ⟨2, ![1, 1024]⟩
abbrev S_ : Shape := ⟨0, ![]⟩
abbrev S4304x1024 : Shape := ⟨2, ![4304, 1024]⟩
abbrev S1024 : Shape := ⟨1, ![1024]⟩
abbrev S1024x384 : Shape := ⟨2, ![1024, 384]⟩
abbrev S1024x256 : Shape := ⟨2, ![1024, 256]⟩
abbrev S1024x64 : Shape := ⟨2, ![1024, 64]⟩
abbrev S1024x1024 : Shape := ⟨2, ![1024, 1024]⟩
abbrev S1024x1536 : Shape := ⟨2, ![1024, 1536]⟩
abbrev S1024x16 : Shape := ⟨2, ![1024, 16]⟩
abbrev S1024x128 : Shape := ⟨2, ![1024, 128]⟩
abbrev S1024x4480 : Shape := ⟨2, ![1024, 4480]⟩
abbrev S2x1024 : Shape := ⟨2, ![2, 1024]⟩
abbrev S8x1024 : Shape := ⟨2, ![8, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x3072, .f32⟩
  | .hbm, ⟨3, _⟩ => ⟨S1024x4304, .f32⟩
  | .hbm, ⟨4, _⟩ => ⟨S16384x4304, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x4304, .f32⟩
  | .hbm, ⟨15, _⟩ => ⟨S4304x1024, .f32⟩
  | .hbm, ⟨16, _⟩ => ⟨S1024x4304, .f32⟩
  | .hbm, ⟨17, _⟩ => ⟨S16384x1024, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S16384x1024, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1024x384, .f32⟩
  | .hbm, ⟨28, _⟩ => ⟨S1024x256, .f32⟩
  | .hbm, ⟨29, _⟩ => ⟨S1024x64, .f32⟩
  | .hbm, ⟨30, _⟩ => ⟨S1024x1024, .f32⟩
  | .hbm, ⟨31, _⟩ => ⟨S1024x1536, .f32⟩
  | .hbm, ⟨32, _⟩ => ⟨S1024x16, .f32⟩
  | .hbm, ⟨33, _⟩ => ⟨S1024x1024, .f32⟩
  | .hbm, ⟨34, _⟩ => ⟨S_, .i32⟩
  | .hbm, ⟨35, _⟩ => ⟨S_, .f32⟩
  | .hbm, ⟨36, _⟩ => ⟨S1024x128, .f32⟩
  | .hbm, ⟨37, _⟩ => ⟨S_, .i32⟩
  | .hbm, ⟨38, _⟩ => ⟨S_, .f32⟩
  | .hbm, ⟨39, _⟩ => ⟨S1024x128, .f32⟩
  | .hbm, ⟨40, _⟩ => ⟨S1024x4480, .f32⟩
  | .hbm, ⟨41, _⟩ => ⟨S16384x1024, .f32⟩
  | .hbm, ⟨42, _⟩ => ⟨S2x1024, .f32⟩
  | .hbm, ⟨43, _⟩ => ⟨S_, .i32⟩
  | .hbm, ⟨44, _⟩ => ⟨S_, .f32⟩
  | .hbm, ⟨45, _⟩ => ⟨S8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_c_2 : Ref sig .tc := ⟨.hbm, 37, rfl⟩
abbrev main_call1_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_call2_v0 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel4.lean ====
abbrev S8x1024x1076 : Shape := ⟨3, ![8, 1024, 1076]⟩
abbrev S1024x1076 : Shape := ⟨2, ![1024, 1076]⟩
abbrev S8x128x1076 : Shape := ⟨3, ![8, 128, 1076]⟩
abbrev S128x1076 : Shape := ⟨2, ![128, 1076]⟩
abbrev S1x128x1076 : Shape := ⟨3, ![1, 128, 1076]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1076, .bf16⟩
  | .hbm, ⟨1, _⟩ => ⟨S1024x1076, .f32⟩
  | .hbm, ⟨2, _⟩ => ⟨S1024x1076, .f32⟩
  | .hbm, ⟨3, _⟩ => ⟨S1024x1076, .f32⟩
  | .hbm, ⟨4, _⟩ => ⟨S1024x1076, .f32⟩
  | .hbm, ⟨5, _⟩ => ⟨S1024x1076, .f32⟩
  | .hbm, ⟨6, _⟩ => ⟨S1024x1076, .f32⟩
  | .hbm, ⟨7, _⟩ => ⟨S1024x1076, .f32⟩
  | .local _ .vmem, ⟨0, _⟩ => ⟨S8x128x1076, .bf16⟩
  | .local _ .vmem, ⟨1, _⟩ => ⟨S8x128x1076, .bf16⟩
  | .local _ .vmem, ⟨2, _⟩ => ⟨S128x1076, .f32⟩
  | .local _ .vmem, ⟨3, _⟩ => ⟨S128x1076, .f32⟩
  | .local _ .vmem, ⟨4, _⟩ => ⟨S128x1076, .f32⟩
  | .local _ .vmem, ⟨5, _⟩ => ⟨S128x1076, .f32⟩
  | .local _ .vmem, ⟨6, _⟩ => ⟨S128x1076, .f32⟩
  | .local _ .vmem, ⟨7, _⟩ => ⟨S128x1076, .f32⟩
  | .local _ .vmem, ⟨8, _⟩ => ⟨S128x1076, .f32⟩
  | .local _ .vmem, ⟨9, _⟩ => ⟨S128x1076, .f32⟩
  | .local _ .vmem, ⟨10, _⟩ => ⟨S128x1076, .f32⟩
  | .local _ .vmem, ⟨11, _⟩ => ⟨S128x1076, .f32⟩
  | .local _ .vmem, ⟨12, _⟩ => ⟨S128x1076, .f32⟩
  | .local _ .vmem, ⟨13, _⟩ => ⟨S128x1076, .f32⟩
  | .local _ .vmem, ⟨14, _⟩ => ⟨S128x1076, .f32⟩
  | .local _ .vmem, ⟨15, _⟩ => ⟨S128x1076, .f32⟩
  | _, _ => ⟨S8x1024x1076, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1076 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1076 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1076 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1076 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1076 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1076 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1076 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1076 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x1024x1076 : Shape := ⟨3, ![8, 1024, 1076]⟩
abbrev S1024x1076 : Shape := ⟨2, ![1024, 1076]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1076, .bf16⟩
  | .hbm, ⟨1, _⟩ => ⟨S1024x1076, .f32⟩
  | .hbm, ⟨2, _⟩ => ⟨S1024x1076, .f32⟩
  | .hbm, ⟨3, _⟩ => ⟨S1024x1076, .f32⟩
  | .hbm, ⟨4, _⟩ => ⟨S8x1024x1076, .f32⟩
  | .hbm, ⟨5, _⟩ => ⟨S_, .f32⟩
  | .hbm, ⟨6, _⟩ => ⟨S1024x1076, .f32⟩
  | .hbm, ⟨7, _⟩ => ⟨S_, .f32⟩
  | .hbm, ⟨8, _⟩ => ⟨S1024x1076, .f32⟩
  | .hbm, ⟨9, _⟩ => ⟨S1024x1076, .f32⟩
  | .hbm, ⟨10, _⟩ => ⟨S_, .f32⟩
  | .hbm, ⟨11, _⟩ => ⟨S1024x1076, .f32⟩
  | .hbm, ⟨12, _⟩ => ⟨S1024x1076, .f32⟩
  | .hbm, ⟨13, _⟩ => ⟨S1024x1076, .f32⟩
  | .hbm, ⟨14, _⟩ => ⟨S_, .f32⟩
  | .hbm, ⟨15, _⟩ => ⟨S1024x1076, .f32⟩
  | .hbm, ⟨16, _⟩ => ⟨S1024x1076, .f32⟩
  | .hbm, ⟨17, _⟩ => ⟨S1024x1076, .f32⟩
  | .hbm, ⟨18, _⟩ => ⟨S_, .f32⟩
  | .hbm, ⟨19, _⟩ => ⟨S1024x1076, .f32⟩
  | .hbm, ⟨20, _⟩ => ⟨S1024x1076, .f32⟩
  | .hbm, ⟨21, _⟩ => ⟨S1024x1076, .f32⟩
  | .hbm, ⟨22, _⟩ => ⟨S_, .f32⟩
  | .hbm, ⟨23, _⟩ => ⟨S1024x1076, .f32⟩
  | .hbm, ⟨24, _⟩ => ⟨S1024x1076, .f32⟩
  | .hbm, ⟨25, _⟩ => ⟨S_, .f32⟩
  | .hbm, ⟨26, _⟩ => ⟨S1024x1076, .f32⟩
  | .hbm, ⟨27, _⟩ => ⟨S1024x1076, .f32⟩
  | .hbm, ⟨28, _⟩ => ⟨S1024x1076, .f32⟩
  | .hbm, ⟨29, _⟩ => ⟨S_, .f32⟩
  | .hbm, ⟨30, _⟩ => ⟨S1024x1076, .f32⟩
  | .hbm, ⟨31, _⟩ => ⟨S1024x1076, .f32⟩
  | .hbm, ⟨32, _⟩ => ⟨S1024x1076, .f32⟩
  | .hbm, ⟨33, _⟩ => ⟨S_, .f32⟩
  | .hbm, ⟨34, _⟩ => ⟨S1024x1076, .f32⟩
  | .hbm, ⟨35, _⟩ => ⟨S1024x1076, .f32⟩
  | .hbm, ⟨36, _⟩ => ⟨S1024x1076, .f32⟩
  | .hbm, ⟨37, _⟩ => ⟨S_, .f32⟩
  | .hbm, ⟨38, _⟩ => ⟨S1024x1076, .f32⟩
  | .hbm, ⟨39, _⟩ => ⟨S1024x1076, .f32⟩
  | _, _ => ⟨S8x1024x1076, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel5.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference5Ideal.lean ====
abbrev S8x16x1024 : Shape := ⟨3, ![8, 16, 1024]⟩
abbrev S16x1024 : Shape := ⟨2, ![16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Rules.lean ====
/- Loads and stores of a memref owned at known contents, with what is read and what is left as functions of those
   contents; a counted loop as a fold of what its trips do. -/
module

public import Idealize.ShloMosaic.Lib.Tactic
public import Idealize.ShloMosaic.Lib.Memref
public import Idealize.ShloMosaic.Lib.LoopRemainder

@[expose] public section

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The elements of `X` under the rectangle `r`. -/
def rd {s : Shape} {α : Type} (r : Rect s) (X : s.Idx → α) : r.shape.Idx → α := fun j => X (r.emb j)

open Classical in
/-- `X` with the elements under the rectangle `r` replaced by `w`. -/
def wr {s : Shape} {α : Type} (r : Rect s) (X : s.Idx → α) (w : r.shape.Idx → α) : s.Idx → α := fun i =>
  if h : ∃ j, r.emb j = i then w h.choose else X i

theorem wr_emb {s : Shape} {α : Type} (r : Rect s) (X : s.Idx → α) (w : r.shape.Idx → α) (j : r.shape.Idx) :
    wr r X w (r.emb j) = w j := by
  unfold wr
  have h : ∃ j', r.emb j' = r.emb j := ⟨j, rfl⟩
  rw [dif_pos h]
  exact congrArg w (r.emb.injective h.choose_spec)

theorem wr_of_not {s : Shape} {α : Type} (r : Rect s) (X : s.Idx → α) (w : r.shape.Idx → α) (i : s.Idx)
    (h : ¬ ∃ j, r.emb j = i) : wr r X w i = X i := by
  unfold wr; rw [dif_neg h]

/-- A rectangle of the whole shape places every index at itself. -/
theorem whole_emb {s : Shape} {off : Fin s.rank → ℕ} (inb : ∀ a, off a + s.size a ≤ s.size a)
    (j : (Rect.unit off s.size inb).shape.Idx) : (Rect.unit off s.size inb).emb j = j := by
  funext a
  have h0 := inb a
  exact Fin.ext (by show off a + 1 * (j a).val = (j a).val; omega)

theorem rd_whole {s : Shape} {α : Type} {off : Fin s.rank → ℕ} (inb : ∀ a, off a + s.size a ≤ s.size a) (X : s.Idx → α) :
    rd (Rect.unit off s.size inb) X = X := funext fun j => congrArg X (whole_emb inb j)

theorem wr_whole {s : Shape} {α : Type} {off : Fin s.rank → ℕ} (inb : ∀ a, off a + s.size a ≤ s.size a) (X w : s.Idx → α) :
    wr (Rect.unit off s.size inb) X w = w := funext fun j => by
  have h := wr_emb (Rect.unit off s.size inb) X w j
  rwa [whole_emb inb j] at h

section Rules

variable {nD : ℕ} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {c : Thread nD τ} {bd : Option 𝒱.V} {E : Set Name} {α : Type}

theorem wp_load_owns {cs : CoreSpace} {s : Shape} {e : EltTy} {M : Memref sig c.2.kind cs s e} {r : Rect s}
    {hl : M.view.LoadsAt r.toLoadRect} {X : s.Idx → Val e} {k : (r.shape.Idx → Val e) → Prog (TpuEff nD τ sig Val Λ c.2) α} {Q : α → sProp 𝕄} :
    (owns c M fullShare X : sProp 𝕄) ⊢ iprop((owns c M fullShare X -∗ wp frame (wpE defs 𝒱 c bd) E (k (rd r X)) Q)
      -∗ wp frame (wpE defs 𝒱 c bd) E (.op (.load M r.toLoadRect hl) k) Q) := by
  unfold owns
  iintro ⟨%f, %hf, H⟩ Hk
  have hr := wp_load (U := U) (Lvl := Lvl) (defs := defs) 𝒱 c bd E (m := M) (r := r.toLoadRect) (hl := hl) (k := k)
    (q := fullShare) (f := f) (Q := Q) (S := M.view.set) (Γ := .empty) (M.view.setOn_subset_set r.set)
  iapply hr $$ H
  iintro H
  have hv : M.view.readAt Val r.toLoadRect f = rd r X := by subst hf; rfl
  rw [hv]
  iapply Hk
  iexists f
  isplitr
  · ipureintro; exact hf
  · iexact H

theorem wp_store_owns {cs : CoreSpace} {s : Shape} {e : EltTy} {M : Memref sig c.2.kind cs s e} {r : Rect s}
    {w : r.shape.Idx → Val e} {hx : (M.access r).Stores Finset.univ} {hm : Finset.univ = Finset.univ ∨ ∀ a, r.stride a = 1}
    {X : s.Idx → Val e} {k : PUnit → Prog (TpuEff nD τ sig Val Λ c.2) α} {Q : α → sProp 𝕄} :
    (owns c M fullShare X : sProp 𝕄) ⊢ iprop((owns c M fullShare (wr r X w) -∗ wp frame (wpE defs 𝒱 c bd) E (k ⟨⟩) Q)
      -∗ wp frame (wpE defs 𝒱 c bd) E (.op (.store M r w Finset.univ hx hm) k) Q) := by
  unfold owns
  iintro ⟨%f, %hf, H⟩ Hk
  have hr := wp_store (U := U) (Lvl := Lvl) (defs := defs) 𝒱 c bd E (m := M) (r := r) (w := w) (Mk := Finset.univ) (hx := hx) (hm := hm) (k := k)
    (f := f) (Q := Q) (S := M.view.set) (Γ := .empty)
    (by rw [View.setOn_univ, View.set_slice]; exact M.view.setOn_subset_set r.set)
  iapply hr $$ H
  iintro H
  iapply Hk
  iexists (M.access r).write Val f w Finset.univ
  isplitr
  · ipureintro
    funext i
    by_cases h : ∃ j, r.emb j = i
    · obtain ⟨j, rfl⟩ := h
      rw [wr_emb]
      exact View.read_slice_write_emb r f w (Finset.mem_univ j)
    · rw [wr_of_not _ _ _ _ h, ← hf]
      exact View.read_slice_write_of_not_mem r f w Finset.univ (fun hm => h (by
        obtain ⟨j, -, hj⟩ := Finset.mem_map.mp hm; exact ⟨j, hj⟩))
  · iexact H

/-- Trips one after the other, each taking what is held at a state to what is held at the state after it, run to what is
    held at the fold of the states. -/
theorem wp_forFrom {σ : Type} {n : ℕ} (body : Fin n → Unit → Prog (TpuEff nD τ sig Val Λ c.2) Unit) (H : σ → sProp 𝕄)
    (f : σ → Fin n → σ) (h : ∀ k x, H x ⊢ wp frame (wpE defs 𝒱 c bd) E (body k ()) fun _ => H (f x k)) (ks : List (Fin n)) (x : σ) :
    H x ⊢ wp frame (wpE defs 𝒱 c bd) E (Scf.forFrom body ks ()) fun _ => H (ks.foldl f x) := by
  induction ks generalizing x with
  | nil =>
    rw [Scf.forFrom_nil, wp_ret]
    exact fupd_intro
  | cons k ks ih =>
    rw [Scf.forFrom_cons, wp_bind]
    exact (h k x).trans (wp_mono _ _ _ (fun _ => ih (f x k)))

end Rules

end Cert.Att

end
-- ==== Proof.Step.lean ====
/- One step of the backward kernel's inner loop — one block of queries against the point's block of keys — as a program of
   loads and stores and as a function of what the buffers hold, and the loops' trips as such steps. -/
module

public import proofs.«01_k».proof.Proof.Gen.KernelIdeal.Frame
public import proofs.«01_k».proof.Proof.Gen.KernelIdeal.Loops
public import proofs.«01_k».proof.Proof.Rules

@[expose] public section

set_option maxRecDepth 65536

noncomputable section

namespace Cert.Bwd

open Cert.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A weakest precondition of the kernel's own programs, on core `c`. -/
abbrev wpk (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The kernel's memrefs. -/
structure Mems where
  k : Memref sig .tc .vmem S1x512x256 .bf16
  v : Memref sig .tc .vmem S1x512x128 .bf16
  q : Memref sig .tc .vmem S1x16384x256 .bf16
  d : Memref sig .tc .vmem S16384x128 .bf16
  l : Memref sig .tc .vmem S1x16x1x1024 .f32
  e : Memref sig .tc .vmem S1x16x1x1024 .f32
  dk : Memref sig .tc .vmem S1x512x256 .f32
  dv : Memref sig .tc .vmem S1x512x128 .f32
  dq : Memref sig .tc .vmem S1x1024x256 .f32
  sc : Memref sig .tc .vmem S16x256x1024 .f32

/-- The contents of the input memrefs: keys, values, queries, cotangents, log-sums, row sums of the cotangent. -/
structure Ins (F : FTy → Type) where
  k : Vec F S1x512x256 .bf16
  v : Vec F S1x512x128 .bf16
  q : Vec F S1x16384x256 .bf16
  d : Vec F S16384x128 .bf16
  l : Vec F S1x16x1x1024 .f32
  e : Vec F S1x16x1x1024 .f32

/-- The contents of the memrefs the body writes, but the query gradient's. -/
structure St (F : FTy → Type) where
  dk : Vec F S1x512x256 .f32
  dv : Vec F S1x512x128 .f32
  sc : Vec F S16x256x1024 .f32

abbrev rdk : Rect S1x512x256 := Rect.unit (s := S1x512x256) ![0, 0, 0] S1x512x256.size inb_S1x512x256_S1x512x256_0_0_0
abbrev rdv : Rect S1x512x128 := Rect.unit (s := S1x512x128) ![0, 0, 0] S1x512x128.size inb_S1x512x128_S1x512x128_0_0_0

/-- One unmasked step as the kernel spells it. -/
def stepProg (M : Mems) (v1 : FVec F S512x256 .bf16) (v2 : FVec F S256x512 .bf16) (v4 : FVec F S512x128 .bf16)
    (o4 : Fin 3 → ℕ) (h4 : ∀ a, o4 a + S1x1024x256.size a ≤ S1x16384x256.size a)
    (o5 : Fin 2 → ℕ) (h5 : ∀ a, o5 a + S1024x128.size a ≤ S16384x128.size a)
    (o6 : Fin 4 → ℕ) (h6 : ∀ a, o6 a + S1x1x1x1024.size a ≤ S1x16x1x1024.size a)
    (o11 : Fin 3 → ℕ) (h11 : ∀ a, o11 a + S1x256x1024.size a ≤ S16x256x1024.size a) :
    Prog (TpuEff nD τ sig (Elt F) Λ₀ .tc) Unit := do
  let q : Vec F S1x1024x256 .bf16 ← Prog.lift (.load M.q (Rect.unit (s := S1x16384x256) o4 S1x1024x256.size h4).toLoadRect (View.loadsAt_vmem h_S1x1024x256))
  let d : Vec F S1024x128 .bf16 ← Prog.lift (.load M.d (Rect.unit (s := S16384x128) o5 S1024x128.size h5).toLoadRect (View.loadsAt_vmem h_S1024x128))
  let l : Vec F S1x1x1x1024 .f32 ← Prog.lift (.load M.l (Rect.unit (s := S1x16x1x1024) o6 S1x1x1x1024.size h6).toLoadRect (View.loadsAt_vmem h_S1x1x1x1024))
  let dv : Vec F S1x512x128 .f32 ← Prog.lift (.load M.dv rdv.toLoadRect (View.loadsAt_vmem h_S1x512x128))
  let _ : Vec F S1x512x128 .f32 ← Prog.lift (.load M.dv rdv.toLoadRect (View.loadsAt_vmem h_S1x512x128))
  Prog.lift (.store M.dv rdv (k0_pay19 v1 q d l dv) Finset.univ (View.stores_vmem_bits_univ h_S1x512x128 rfl) (.inl rfl))
  let e : Vec F S1x1x1x1024 .f32 ← Prog.lift (.load M.e (Rect.unit (s := S1x16x1x1024) o6 S1x1x1x1024.size h6).toLoadRect (View.loadsAt_vmem h_S1x1x1x1024))
  let dk : Vec F S1x512x256 .f32 ← Prog.lift (.load M.dk rdk.toLoadRect (View.loadsAt_vmem h_S1x512x256))
  let _ : Vec F S1x512x256 .f32 ← Prog.lift (.load M.dk rdk.toLoadRect (View.loadsAt_vmem h_S1x512x256))
  Prog.lift (.store M.dk rdk (k0_pay22 (k0_pay16 q) (k0_pay20 v1 v4 q d l e) dk) Finset.univ (View.stores_vmem_bits_univ h_S1x512x256 rfl) (.inl rfl))
  let s : Vec F S1x256x1024 .f32 ← Prog.lift (.load M.sc (Rect.unit (s := S16x256x1024) o11 S1x256x1024.size h11).toLoadRect (View.loadsAt_vmem h_S1x256x1024))
  let _ : Vec F S1x256x1024 .f32 ← Prog.lift (.load M.sc (Rect.unit (s := S16x256x1024) o11 S1x256x1024.size h11).toLoadRect (View.loadsAt_vmem h_S1x256x1024))
  Prog.lift (.store M.sc (Rect.unit (s := S16x256x1024) o11 S1x256x1024.size h11) (k0_pay23 v2 (k0_pay20 v1 v4 q d l e) s) Finset.univ (View.stores_vmem_bits_univ h_S1x256x1024 rfl) (.inl rfl))
  pure ()

/-- What the step leaves. -/
def stepSt (I : Ins F) (v1 : FVec F S512x256 .bf16) (v2 : FVec F S256x512 .bf16) (v4 : FVec F S512x128 .bf16)
    (o4 : Fin 3 → ℕ) (h4 : ∀ a, o4 a + S1x1024x256.size a ≤ S1x16384x256.size a)
    (o5 : Fin 2 → ℕ) (h5 : ∀ a, o5 a + S1024x128.size a ≤ S16384x128.size a)
    (o6 : Fin 4 → ℕ) (h6 : ∀ a, o6 a + S1x1x1x1024.size a ≤ S1x16x1x1024.size a)
    (o11 : Fin 3 → ℕ) (h11 : ∀ a, o11 a + S1x256x1024.size a ≤ S16x256x1024.size a) (x : St F) : St F :=
  let q : Vec F S1x1024x256 .bf16 := rd (Rect.unit (s := S1x16384x256) o4 S1x1024x256.size h4) I.q
  let d : Vec F S1024x128 .bf16 := rd (Rect.unit (s := S16384x128) o5 S1024x128.size h5) I.d
  let l : Vec F S1x1x1x1024 .f32 := rd (Rect.unit (s := S1x16x1x1024) o6 S1x1x1x1024.size h6) I.l
  let e : Vec F S1x1x1x1024 .f32 := rd (Rect.unit (s := S1x16x1x1024) o6 S1x1x1x1024.size h6) I.e
  { dv := k0_pay19 v1 q d l x.dv
    dk := k0_pay22 (k0_pay16 q) (k0_pay20 v1 v4 q d l e) x.dk
    sc := wr (Rect.unit (s := S16x256x1024) o11 S1x256x1024.size h11) x.sc (k0_pay23 v2 (k0_pay20 v1 v4 q d l e)
      (rd (Rect.unit (s := S16x256x1024) o11 S1x256x1024.size h11) x.sc)) }

/-- The memrefs a step touches, owned at the inputs `I` and the state `x`. -/
def held (c : Dev nD) (M : Mems) (I : Ins F) (x : St F) : sProp 𝕄 :=
  iprop(owns (c : Thread nD τ) M.q fullShare I.q ∗ owns (c : Thread nD τ) M.d fullShare I.d ∗ owns (c : Thread nD τ) M.l fullShare I.l
    ∗ owns (c : Thread nD τ) M.e fullShare I.e ∗ owns (c : Thread nD τ) M.dk fullShare x.dk ∗ owns (c : Thread nD τ) M.dv fullShare x.dv
    ∗ owns (c : Thread nD τ) M.sc fullShare x.sc)

theorem wp_step (c : Dev nD) (M : Mems) (I : Ins F) (v1 : FVec F S512x256 .bf16) (v2 : FVec F S256x512 .bf16) (v4 : FVec F S512x128 .bf16)
    (o4 : Fin 3 → ℕ) (h4 : ∀ a, o4 a + S1x1024x256.size a ≤ S1x16384x256.size a)
    (o5 : Fin 2 → ℕ) (h5 : ∀ a, o5 a + S1024x128.size a ≤ S16384x128.size a)
    (o6 : Fin 4 → ℕ) (h6 : ∀ a, o6 a + S1x1x1x1024.size a ≤ S1x16x1x1024.size a)
    (o11 : Fin 3 → ℕ) (h11 : ∀ a, o11 a + S1x256x1024.size a ≤ S16x256x1024.size a) (x : St F) :
    held c M I x ⊢ wpk c (stepProg M v1 v2 v4 o4 h4 o5 h5 o6 h6 o11 h11)
      fun _ => held c M I (stepSt I v1 v2 v4 o4 h4 o5 h5 o6 h6 o11 h11 x) := by
  unfold held stepProg stepSt wpk
  iintro ⟨Hq, Hd, Hl, He, Hk, Hv, Hs⟩
  iapply wp_load_owns $$ Hq; iintro Hq
  iapply wp_load_owns $$ Hd; iintro Hd
  iapply wp_load_owns $$ Hl; iintro Hl
  iapply wp_load_owns $$ Hv; iintro Hv
  iapply wp_load_owns $$ Hv; iintro Hv
  iapply wp_store_owns $$ Hv; iintro Hv
  iapply wp_load_owns $$ He; iintro He
  iapply wp_load_owns $$ Hk; iintro Hk
  iapply wp_load_owns $$ Hk; iintro Hk
  iapply wp_store_owns $$ Hk; iintro Hk
  iapply wp_load_owns $$ Hs; iintro Hs
  iapply wp_load_owns $$ Hs; iintro Hs
  iapply wp_store_owns $$ Hs; iintro Hs
  simp only [Prog.bind]
  sl_step
  rw [wr_whole, wr_whole, rd_whole, rd_whole]
  isplitl [Hq]; · iexact Hq
  isplitl [Hd]; · iexact Hd
  isplitl [Hl]; · iexact Hl
  isplitl [He]; · iexact He
  isplitl [Hk]; · iexact Hk
  isplitl [Hv]; · iexact Hv
  iexact Hs

end Cert.Bwd

end
-- ==== Proof.Trips.lean ====
/- The trips of the kernel's two counted loops as steps. -/
module

public import proofs.«01_k».proof.Proof.Step

@[expose] public section

set_option maxRecDepth 65536

noncomputable section

namespace Cert.Bwd

open Cert.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (i : grid0.Coords) (arg2 : Memref sig .tc .vmem S1x512x256 .bf16) (harg2 : arg2.IsWhole)
  (arg3 : Memref sig .tc .vmem S1x512x128 .bf16) (harg3 : arg3.IsWhole) (arg4 : Memref sig .tc .vmem S1x16384x256 .bf16) (harg4 : arg4.IsWhole)
  (arg5 : Memref sig .tc .vmem S16384x128 .bf16) (harg5 : arg5.IsWhole) (arg6 : Memref sig .tc .vmem S1x16x1x1024 .f32) (harg6 : arg6.IsWhole)
  (arg7 : Memref sig .tc .vmem S1x16x1x1024 .f32) (harg7 : arg7.IsWhole) (arg8 : Memref sig .tc .vmem S1x512x256 .f32) (harg8 : arg8.IsWhole)
  (arg9 : Memref sig .tc .vmem S1x512x128 .f32) (harg9 : arg9.IsWhole) (arg10 : Memref sig .tc .vmem S1x1024x256 .f32) (harg10 : arg10.IsWhole)
  (arg11 : Memref sig .tc .vmem S16x256x1024 .f32) (harg11 : arg11.IsWhole)
  (v1 : FVec F S512x256 .bf16) (v2 : FVec F S256x512 .bf16) (v4 : FVec F S512x128 .bf16)

/-- Step `u` of the main loop's trip `t`. -/
def step1Prog (t : Fin (k0_t1_loop i).trips) (u : Fin 4) : Prog (TpuEff nD τ sig (Elt F) Λ₀ .tc) Unit :=
  stepProg ⟨arg2, arg3, arg4, arg5, arg6, arg7, arg8, arg9, arg10, arg11⟩ v1 v2 v4
    (k0_off10 i t (BitVec.ofNat 32 u.val)) (k0_off10_inb i t u) (k0_off11 i t (BitVec.ofNat 32 u.val)) (k0_off11_inb i t u)
    (k0_off12 i t (BitVec.ofNat 32 u.val)) (k0_off12_inb i t u) (k0_off13 i t (BitVec.ofNat 32 u.val)) (k0_off13_inb i t u)

theorem t1_body_eq (v16 : BitVec 32) (t : Fin (k0_t1_loop i).trips) :
    k0_t1_body i arg2 harg2 arg3 harg3 arg4 harg4 arg5 harg5 arg6 harg6 arg7 harg7 arg8 harg8 arg9 harg9 arg10 harg10 arg11 harg11 v1 v2 v4 v16 t ()
      = (do
        step1Prog i arg2 arg3 arg4 arg5 arg6 arg7 arg8 arg9 arg10 arg11 v1 v2 v4 t 0
        step1Prog i arg2 arg3 arg4 arg5 arg6 arg7 arg8 arg9 arg10 arg11 v1 v2 v4 t 1
        step1Prog i arg2 arg3 arg4 arg5 arg6 arg7 arg8 arg9 arg10 arg11 v1 v2 v4 t 2
        step1Prog i arg2 arg3 arg4 arg5 arg6 arg7 arg8 arg9 arg10 arg11 v1 v2 v4 t 3) := rfl

theorem t3_body_eq (v33 : BitVec 32) (t : Fin (k0_t3_loop i).trips) :
    k0_t3_body i arg2 harg2 arg3 harg3 arg4 harg4 arg5 harg5 arg6 harg6 arg7 harg7 arg8 harg8 arg9 harg9 arg10 harg10 arg11 harg11 v1 v2 v4 v33 t ()
      = stepProg ⟨arg2, arg3, arg4, arg5, arg6, arg7, arg8, arg9, arg10, arg11⟩ v1 v2 v4
          (k0_off18 i t) (k0_off18_inb i t) (k0_off19 i t) (k0_off19_inb i t)
          (k0_off20 i t) (k0_off20_inb i t) (k0_off21 i t) (k0_off21_inb i t) := rfl

end Cert.Bwd

end
-- ==== Proof.Body.lean ====
/- The kernel's body at one grid point: what it leaves in the buffers it writes, as a function of what the buffers held. -/
module

public import proofs.«01_k».proof.Proof.Trips

@[expose] public section

set_option maxRecDepth 65536

noncomputable section

namespace Cert.Bwd

open Cert.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (i : grid0.Coords) (M : Mems) (I : Ins F)

/-- The point's key block as a word. -/
abbrev jw : BitVec 32 := BitVec.ofNat 32 (i 1).val
/-- The query block of the diagonal as a word. -/
abbrev fw : BitVec 32 := Scalar.shrsi (jw i) 1#32
/-- Whether the point is its head's first, as the kernel tests it. -/
abbrev cond1 : BitVec 1 := Scalar.cmpi .ne (Scalar.extui (Scalar.cmpi .eq (jw i) 0#32)) 0#32

/-- The scratch set to zero. -/
def zeroProg : Prog (TpuEff nD τ sig (Elt F) Λ₀ .tc) PUnit := do
  let _ : Vec F S16x256x1024 .f32 ← Prog.lift (.load M.sc (Rect.unit (s := S16x256x1024) ![0, 0, 0] S16x256x1024.size inb_S16x256x1024_S16x256x1024_0_0_0).toLoadRect (View.loadsAt_vmem h_S16x256x1024))
  Prog.lift (.store M.sc (Rect.unit (s := S16x256x1024) ![0, 0, 0] S16x256x1024.size inb_S16x256x1024_S16x256x1024_0_0_0) (k0_pay99 (F := F)) Finset.univ (View.stores_vmem_bits_univ h_S16x256x1024 rfl) (.inl rfl))
  pure ⟨⟩

/-- The masked step of an even point: the diagonal query block whole. -/
def fullProg (v0 : Vec F S1x512x256 .bf16) (v3 : Vec F S1x512x128 .bf16) (h : k0_cond2 i = 1#1) : Prog (TpuEff nD τ sig (Elt F) Λ₀ .tc) PUnit := do
  let q : Vec F S1x1024x256 .bf16 ← Prog.lift (.load M.q (Rect.unit (s := S1x16384x256) (k0_off1 i) S1x1024x256.size (k0_off1_inb i h)).toLoadRect (View.loadsAt_vmem h_S1x1024x256))
  let d : Vec F S1024x128 .bf16 ← Prog.lift (.load M.d (Rect.unit (s := S16384x128) (k0_off2 i) S1024x128.size (k0_off2_inb i h)).toLoadRect (View.loadsAt_vmem h_S1024x128))
  let l : Vec F S1x1x1x1024 .f32 ← Prog.lift (.load M.l (Rect.unit (s := S1x16x1x1024) (k0_off3 i) S1x1x1x1024.size (k0_off3_inb i h)).toLoadRect (View.loadsAt_vmem h_S1x1x1x1024))
  let dv : Vec F S1x512x128 .f32 ← Prog.lift (.load M.dv rdv.toLoadRect (View.loadsAt_vmem h_S1x512x128))
  let _ : Vec F S1x512x128 .f32 ← Prog.lift (.load M.dv rdv.toLoadRect (View.loadsAt_vmem h_S1x512x128))
  Prog.lift (.store M.dv rdv (k0_pay9 (jw i) (k0_pay96 v0) (fw i) q d l dv) Finset.univ (View.stores_vmem_bits_univ h_S1x512x128 rfl) (.inl rfl))
  let e : Vec F S1x1x1x1024 .f32 ← Prog.lift (.load M.e (Rect.unit (s := S1x16x1x1024) (k0_off3 i) S1x1x1x1024.size (k0_off3_inb i h)).toLoadRect (View.loadsAt_vmem h_S1x1x1x1024))
  let dk : Vec F S1x512x256 .f32 ← Prog.lift (.load M.dk rdk.toLoadRect (View.loadsAt_vmem h_S1x512x256))
  let _ : Vec F S1x512x256 .f32 ← Prog.lift (.load M.dk rdk.toLoadRect (View.loadsAt_vmem h_S1x512x256))
  Prog.lift (.store M.dk rdk (k0_pay103 (k0_pay6 q) (k0_pay8 (jw i) (k0_pay96 v0) (fw i) q l) (k0_pay10 (k0_pay98 v3) d) e dk) Finset.univ (View.stores_vmem_bits_univ h_S1x512x256 rfl) (.inl rfl))
  let s : Vec F S1x256x1024 .f32 ← Prog.lift (.load M.sc (Rect.unit (s := S16x256x1024) (k0_off4 i) S1x256x1024.size (k0_off4_inb i h)).toLoadRect (View.loadsAt_vmem h_S1x256x1024))
  let _ : Vec F S1x256x1024 .f32 ← Prog.lift (.load M.sc (Rect.unit (s := S16x256x1024) (k0_off4 i) S1x256x1024.size (k0_off4_inb i h)).toLoadRect (View.loadsAt_vmem h_S1x256x1024))
  Prog.lift (.store M.sc (Rect.unit (s := S16x256x1024) (k0_off4 i) S1x256x1024.size (k0_off4_inb i h)) (k0_pay104 v0 (k0_pay8 (jw i) (k0_pay96 v0) (fw i) q l) (k0_pay10 (k0_pay98 v3) d) e s) Finset.univ (View.stores_vmem_bits_univ h_S1x256x1024 rfl) (.inl rfl))
  pure ⟨⟩

/-- What it leaves. -/
def fullSt (h : k0_cond2 i = 1#1) (x : St F) : St F :=
  let q : Vec F S1x1024x256 .bf16 := rd (Rect.unit (s := S1x16384x256) (k0_off1 i) S1x1024x256.size (k0_off1_inb i h)) I.q
  let d : Vec F S1024x128 .bf16 := rd (Rect.unit (s := S16384x128) (k0_off2 i) S1024x128.size (k0_off2_inb i h)) I.d
  let l : Vec F S1x1x1x1024 .f32 := rd (Rect.unit (s := S1x16x1x1024) (k0_off3 i) S1x1x1x1024.size (k0_off3_inb i h)) I.l
  let e : Vec F S1x1x1x1024 .f32 := rd (Rect.unit (s := S1x16x1x1024) (k0_off3 i) S1x1x1x1024.size (k0_off3_inb i h)) I.e
  { dv := k0_pay9 (jw i) (k0_pay96 I.k) (fw i) q d l x.dv
    dk := k0_pay103 (k0_pay6 q) (k0_pay8 (jw i) (k0_pay96 I.k) (fw i) q l) (k0_pay10 (k0_pay98 I.v) d) e x.dk
    sc := wr (Rect.unit (s := S16x256x1024) (k0_off4 i) S1x256x1024.size (k0_off4_inb i h)) x.sc
      (k0_pay104 I.k (k0_pay8 (jw i) (k0_pay96 I.k) (fw i) q l) (k0_pay10 (k0_pay98 I.v) d) e
        (rd (Rect.unit (s := S16x256x1024) (k0_off4 i) S1x256x1024.size (k0_off4_inb i h)) x.sc)) }

/-- The masked step of an odd point, the diagonal query block's later half, and the finished query gradient's block
    written out. -/
def halfProg (v0 : Vec F S1x512x256 .bf16) (v3 : Vec F S1x512x128 .bf16) (h : k0_cond3 i = 1#1) : Prog (TpuEff nD τ sig (Elt F) Λ₀ .tc) PUnit := do
  let q : Vec F S1x512x256 .bf16 ← Prog.lift (.load M.q (Rect.unit (s := S1x16384x256) (k0_off5 i) S1x512x256.size (k0_off5_inb i h)).toLoadRect (View.loadsAt_vmem h_S1x512x256))
  let d : Vec F S512x128 .bf16 ← Prog.lift (.load M.d (Rect.unit (s := S16384x128) (k0_off6 i) S512x128.size (k0_off6_inb i h)).toLoadRect (View.loadsAt_vmem h_S512x128))
  let l : Vec F S1x1x1x1024 .f32 ← Prog.lift (.load M.l (Rect.unit (s := S1x16x1x1024) (k0_off7 i) S1x1x1x1024.size (k0_off7_inb i h)).toLoadRect (View.loadsAt_vmem h_S1x1x1x1024))
  let dv : Vec F S1x512x128 .f32 ← Prog.lift (.load M.dv rdv.toLoadRect (View.loadsAt_vmem h_S1x512x128))
  let _ : Vec F S1x512x128 .f32 ← Prog.lift (.load M.dv rdv.toLoadRect (View.loadsAt_vmem h_S1x512x128))
  Prog.lift (.store M.dv rdv (k0_pay14 (jw i) (k0_pay96 v0) (fw i) q d l dv) Finset.univ (View.stores_vmem_bits_univ h_S1x512x128 rfl) (.inl rfl))
  let e : Vec F S1x1x1x1024 .f32 ← Prog.lift (.load M.e (Rect.unit (s := S1x16x1x1024) (k0_off7 i) S1x1x1x1024.size (k0_off7_inb i h)).toLoadRect (View.loadsAt_vmem h_S1x1x1x1024))
  let dk : Vec F S1x512x256 .f32 ← Prog.lift (.load M.dk rdk.toLoadRect (View.loadsAt_vmem h_S1x512x256))
  let _ : Vec F S1x512x256 .f32 ← Prog.lift (.load M.dk rdk.toLoadRect (View.loadsAt_vmem h_S1x512x256))
  Prog.lift (.store M.dk rdk (k0_pay106 (k0_pay11 q) (k0_pay13 (jw i) (k0_pay96 v0) (fw i) q l) (k0_pay15 (k0_pay98 v3) d) e dk) Finset.univ (View.stores_vmem_bits_univ h_S1x512x256 rfl) (.inl rfl))
  let s : Vec F S1x256x512 .f32 ← Prog.lift (.load M.sc (Rect.unit (s := S16x256x1024) (k0_off8 i) S1x256x512.size (k0_off8_inb i h)).toLoadRect (View.loadsAt_vmem h_S1x256x512))
  let _ : Vec F S1x256x512 .f32 ← Prog.lift (.load M.sc (Rect.unit (s := S16x256x1024) (k0_off8 i) S1x256x512.size (k0_off8_inb i h)).toLoadRect (View.loadsAt_vmem h_S1x256x512))
  Prog.lift (.store M.sc (Rect.unit (s := S16x256x1024) (k0_off8 i) S1x256x512.size (k0_off8_inb i h)) (k0_pay107 v0 (k0_pay13 (jw i) (k0_pay96 v0) (fw i) q l) (k0_pay15 (k0_pay98 v3) d) e s) Finset.univ (View.stores_vmem_bits_univ h_S1x256x512 rfl) (.inl rfl))
  let g : Vec F S1x256x1024 .f32 ← Prog.lift (.load M.sc (Rect.unit (s := S16x256x1024) (k0_off9 i) S1x256x1024.size (k0_off9_inb i h)).toLoadRect (View.loadsAt_vmem h_S1x256x1024))
  let _ : Vec F S1x1024x256 .f32 ← Prog.lift (.load M.dq (Rect.unit (s := S1x1024x256) ![0, 0, 0] S1x1024x256.size inb_S1x1024x256_S1x1024x256_0_0_0).toLoadRect (View.loadsAt_vmem h_S1x1024x256))
  Prog.lift (.store M.dq (Rect.unit (s := S1x1024x256) ![0, 0, 0] S1x1024x256.size inb_S1x1024x256_S1x1024x256_0_0_0) (k0_pay108 g) Finset.univ (View.stores_vmem_bits_univ h_S1x1024x256 rfl) (.inl rfl))
  pure ⟨⟩

/-- What it leaves. -/
def halfSt (h : k0_cond3 i = 1#1) (x : St F) : St F :=
  let q : Vec F S1x512x256 .bf16 := rd (Rect.unit (s := S1x16384x256) (k0_off5 i) S1x512x256.size (k0_off5_inb i h)) I.q
  let d : Vec F S512x128 .bf16 := rd (Rect.unit (s := S16384x128) (k0_off6 i) S512x128.size (k0_off6_inb i h)) I.d
  let l : Vec F S1x1x1x1024 .f32 := rd (Rect.unit (s := S1x16x1x1024) (k0_off7 i) S1x1x1x1024.size (k0_off7_inb i h)) I.l
  let e : Vec F S1x1x1x1024 .f32 := rd (Rect.unit (s := S1x16x1x1024) (k0_off7 i) S1x1x1x1024.size (k0_off7_inb i h)) I.e
  { dv := k0_pay14 (jw i) (k0_pay96 I.k) (fw i) q d l x.dv
    dk := k0_pay106 (k0_pay11 q) (k0_pay13 (jw i) (k0_pay96 I.k) (fw i) q l) (k0_pay15 (k0_pay98 I.v) d) e x.dk
    sc := wr (Rect.unit (s := S16x256x1024) (k0_off8 i) S1x256x512.size (k0_off8_inb i h)) x.sc
      (k0_pay107 I.k (k0_pay13 (jw i) (k0_pay96 I.k) (fw i) q l) (k0_pay15 (k0_pay98 I.v) d) e
        (rd (Rect.unit (s := S16x256x1024) (k0_off8 i) S1x256x512.size (k0_off8_inb i h)) x.sc)) }

/-- The query gradient's block an odd point writes out, from the scratch. -/
def outDq (h : k0_cond3 i = 1#1) (x : St F) : Vec F S1x1024x256 .f32 :=
  k0_pay108 (rd (Rect.unit (s := S16x256x1024) (k0_off9 i) S1x256x1024.size (k0_off9_inb i h)) x.sc)

variable {M I}

theorem wp_zero (c : Dev nD) (x : St F) : held c M I x ⊢ wpk c (zeroProg M) fun _ => held c M I { x with sc := k0_pay99 } := by
  unfold held zeroProg wpk
  iintro ⟨Hq, Hd, Hl, He, Hk, Hv, Hs⟩
  iapply wp_load_owns $$ Hs; iintro Hs
  iapply wp_store_owns $$ Hs; iintro Hs
  simp only [Prog.bind]
  sl_step
  rw [wr_whole]
  isplitl [Hq]; · iexact Hq
  isplitl [Hd]; · iexact Hd
  isplitl [Hl]; · iexact Hl
  isplitl [He]; · iexact He
  isplitl [Hk]; · iexact Hk
  isplitl [Hv]; · iexact Hv
  iexact Hs

theorem wp_full (c : Dev nD) (h : k0_cond2 i = 1#1) (x : St F) :
    held c M I x ⊢ wpk c (fullProg i M I.k I.v h) fun _ => held c M I (fullSt i I h x) := by
  unfold held fullProg fullSt wpk
  iintro ⟨Hq, Hd, Hl, He, Hk, Hv, Hs⟩
  iapply wp_load_owns $$ Hq; iintro Hq
  iapply wp_load_owns $$ Hd; iintro Hd
  iapply wp_load_owns $$ Hl; iintro Hl
  iapply wp_load_owns $$ Hv; iintro Hv
  iapply wp_load_owns $$ Hv; iintro Hv
  iapply wp_store_owns $$ Hv; iintro Hv
  iapply wp_load_owns $$ He; iintro He
  iapply wp_load_owns $$ Hk; iintro Hk
  iapply wp_load_owns $$ Hk; iintro Hk
  iapply wp_store_owns $$ Hk; iintro Hk
  iapply wp_load_owns $$ Hs; iintro Hs
  iapply wp_load_owns $$ Hs; iintro Hs
  iapply wp_store_owns $$ Hs; iintro Hs
  simp only [Prog.bind]
  sl_step
  rw [wr_whole, wr_whole, rd_whole, rd_whole]
  isplitl [Hq]; · iexact Hq
  isplitl [Hd]; · iexact Hd
  isplitl [Hl]; · iexact Hl
  isplitl [He]; · iexact He
  isplitl [Hk]; · iexact Hk
  isplitl [Hv]; · iexact Hv
  iexact Hs

theorem wp_half (c : Dev nD) (h : k0_cond3 i = 1#1) (x : St F) (y : Vec F S1x1024x256 .f32) :
    iprop(owns (c : Thread nD τ) M.dq fullShare y ∗ held c M I x) ⊢ wpk c (halfProg i M I.k I.v h) fun _ =>
      iprop(owns (c : Thread nD τ) M.dq fullShare (outDq i h (halfSt i I h x)) ∗ held c M I (halfSt i I h x)) := by
  unfold held halfProg outDq halfSt wpk
  iintro ⟨Hy, Hq, Hd, Hl, He, Hk, Hv, Hs⟩
  iapply wp_load_owns $$ Hq; iintro Hq
  iapply wp_load_owns $$ Hd; iintro Hd
  iapply wp_load_owns $$ Hl; iintro Hl
  iapply wp_load_owns $$ Hv; iintro Hv
  iapply wp_load_owns $$ Hv; iintro Hv
  iapply wp_store_owns $$ Hv; iintro Hv
  iapply wp_load_owns $$ He; iintro He
  iapply wp_load_owns $$ Hk; iintro Hk
  iapply wp_load_owns $$ Hk; iintro Hk
  iapply wp_store_owns $$ Hk; iintro Hk
  iapply wp_load_owns $$ Hs; iintro Hs
  iapply wp_load_owns $$ Hs; iintro Hs
  iapply wp_store_owns $$ Hs; iintro Hs
  iapply wp_load_owns $$ Hs; iintro Hs
  iapply wp_load_owns $$ Hy; iintro Hy
  iapply wp_store_owns $$ Hy; iintro Hy
  simp only [Prog.bind]
  sl_step
  rw [wr_whole, wr_whole, wr_whole, rd_whole, rd_whole]
  isplitl [Hy]; · iexact Hy
  isplitl [Hq]; · iexact Hq
  isplitl [Hd]; · iexact Hd
  isplitl [Hl]; · iexact Hl
  isplitl [He]; · iexact He
  isplitl [Hk]; · iexact Hk
  isplitl [Hv]; · iexact Hv
  iexact Hs

end Cert.Bwd

end
-- ==== Proof.Point.lean ====
/- The whole of the kernel's body at a grid point, from its buffers' contents to theirs. -/
module

public import proofs.«01_k».proof.Proof.Body

@[expose] public section

set_option maxRecDepth 65536

noncomputable section

namespace Cert.Bwd

open Cert.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Seq

variable (c : Dev nD) {α : Type}

theorem wpk_seq {A B : sProp 𝕄} {p : Prog (TpuEff nD τ sig (Elt F) Λ₀ .tc) PUnit} {k : PUnit → Prog (TpuEff nD τ sig (Elt F) Λ₀ .tc) α}
    {Q : α → sProp 𝕄} (hp : A ⊢ wpk c p fun _ => B) (hk : B ⊢ wpk c (k ⟨⟩) Q) : A ⊢ wpk c (p >>= k) Q := by
  unfold wpk at *
  rw [wp_bind]
  exact hp.trans (wp_mono _ _ _ fun _ => hk)

theorem wpk_pure {A : sProp 𝕄} {a : α} {Q : α → sProp 𝕄} (h : A ⊢ Q a) : A ⊢ wpk c (pure a) Q := by
  unfold wpk
  rw [wp_pure]
  exact h.trans fupd_intro

/-- A branch that does nothing where its condition fails. -/
def whenProg (B : Prop) [Decidable B] (p : B → Prog (TpuEff nD τ sig (Elt F) Λ₀ .tc) PUnit) : Prog (TpuEff nD τ sig (Elt F) Λ₀ .tc) PUnit :=
  if h : B then p h else pure ⟨⟩

theorem whenProg_bind (B : Prop) [Decidable B] (p : B → Prog (TpuEff nD τ sig (Elt F) Λ₀ .tc) PUnit)
    (k : PUnit → Prog (TpuEff nD τ sig (Elt F) Λ₀ .tc) α) : whenProg B p >>= k = if h : B then p h >>= k else k ⟨⟩ := by
  unfold whenProg
  split <;> rfl

theorem wpk_when {A : sProp 𝕄} {B : Prop} [Decidable B] {p : B → Prog (TpuEff nD τ sig (Elt F) Λ₀ .tc) PUnit} {Q : sProp 𝕄}
    (ht : ∀ h, A ⊢ wpk c (p h) fun _ => Q) (hf : ¬B → A ⊢ Q) : A ⊢ wpk c (whenProg B p) fun _ => Q := by
  unfold whenProg
  by_cases h : B
  · rw [dif_pos h]; exact ht h
  · rw [dif_neg h]; exact wpk_pure c (hf h)

theorem wpk_frame {A B R : sProp 𝕄} {p : Prog (TpuEff nD τ sig (Elt F) Λ₀ .tc) PUnit} (h : A ⊢ wpk c p fun _ => B) :
    iprop(R ∗ A) ⊢ wpk c p fun _ => iprop(R ∗ B) :=
  (sep_mono .rfl h).trans (wp_frame_l _ _ _)

end Seq

/-- All the kernel's memrefs owned: the key and value blocks, the query gradient's block at `y`, and the rest. -/
def held' (c : Dev nD) (M : Mems) (I : Ins F) (y : Vec F S1x1024x256 .f32) (x : St F) : sProp 𝕄 :=
  iprop(owns (c : Thread nD τ) M.k fullShare I.k ∗ owns (c : Thread nD τ) M.v fullShare I.v
    ∗ owns (c : Thread nD τ) M.dq fullShare y ∗ held c M I x)

/-- The two accumulators set to zero. -/
def initProg (M : Mems) : Prog (TpuEff nD τ sig (Elt F) Λ₀ .tc) PUnit := do
  let _ : Vec F S1x512x256 .f32 ← Prog.lift (.load M.dk rdk.toLoadRect (View.loadsAt_vmem h_S1x512x256))
  Prog.lift (.store M.dk rdk (k0_pay100 (F := F)) Finset.univ (View.stores_vmem_bits_univ h_S1x512x256 rfl) (.inl rfl))
  let _ : Vec F S1x512x128 .f32 ← Prog.lift (.load M.dv rdv.toLoadRect (View.loadsAt_vmem h_S1x512x128))
  Prog.lift (.store M.dv rdv (k0_pay101 (F := F)) Finset.univ (View.stores_vmem_bits_univ h_S1x512x128 rfl) (.inl rfl))
  pure ⟨⟩

/-- The key gradient's block scaled. -/
def lastProg (M : Mems) : Prog (TpuEff nD τ sig (Elt F) Λ₀ .tc) PUnit := do
  let dk : Vec F S1x512x256 .f32 ← Prog.lift (.load M.dk rdk.toLoadRect (View.loadsAt_vmem h_S1x512x256))
  let _ : Vec F S1x512x256 .f32 ← Prog.lift (.load M.dk rdk.toLoadRect (View.loadsAt_vmem h_S1x512x256))
  Prog.lift (.store M.dk rdk (k0_pay5 dk) Finset.univ (View.stores_vmem_bits_univ h_S1x512x256 rfl) (.inl rfl))
  pure ⟨⟩

/-- The body's loops and what follows them, at the values computed before them. -/
def tailProg (i : grid0.Coords) (M : Mems) (h_k : M.k.IsWhole) (h_v : M.v.IsWhole) (h_q : M.q.IsWhole) (h_d : M.d.IsWhole) (h_l : M.l.IsWhole)
    (h_e : M.e.IsWhole) (h_dk : M.dk.IsWhole) (h_dv : M.dv.IsWhole) (h_dq : M.dq.IsWhole) (h_sc : M.sc.IsWhole)
    (r : Σ' (v1 : FVec F S512x256 .bf16) (v2 : FVec F S256x512 .bf16) (v4 : FVec F S512x128 .bf16) (v16 : BitVec 32) (v25 : BitVec 32), BitVec 32) :
    Prog (TpuEff nD τ sig (Elt F) Λ₀ .tc) PUnit := do
  Scf.Loop.for (k0_t1_loop i) (k0_t1_ok i) ⟨⟩ (k0_t1_body i M.k h_k M.v h_v M.q h_q M.d h_d M.l h_l M.e h_e M.dk h_dk M.dv h_dv M.dq h_dq M.sc h_sc r.1 r.2.1 r.2.2.1 r.2.2.2.1)
  Scf.Loop.for (k0_t2_loop i) (k0_t2_ok i) ⟨⟩ (k0_t2_body i M.k h_k M.v h_v M.q h_q M.d h_d M.l h_l M.e h_e M.dk h_dk M.dv h_dv M.dq h_dq M.sc h_sc r.1 r.2.1 r.2.2.1 r.2.2.2.1
    (Scalar.addi 0#32 (Scalar.muli (Scalar.divsi (Scalar.subi r.2.2.2.2.2 0#32) 1#32) 1#32)))
  Scf.Loop.for (k0_t3_loop i) (k0_t3_ok i) ⟨⟩ (k0_t3_body i M.k h_k M.v h_v M.q h_q M.d h_d M.l h_l M.e h_e M.dk h_dk M.dv h_dv M.dq h_dq M.sc h_sc r.1 r.2.1 r.2.2.1
    (Scalar.subi 16#32 (Scalar.andi r.2.2.2.2.1 3#32)))
  Scf.Loop.for (k0_t4_loop i) (k0_t4_ok i) ⟨⟩ (k0_t4_body i M.k h_k M.v h_v M.q h_q M.d h_d M.l h_l M.e h_e M.dk h_dk M.dv h_dv M.dq h_dq M.sc h_sc r.1 r.2.1 r.2.2.1
    (Scalar.addi (Scalar.subi 16#32 (Scalar.andi r.2.2.2.2.1 3#32)) (Scalar.muli (Scalar.divsi (Scalar.subi 16#32 (Scalar.subi 16#32 (Scalar.andi r.2.2.2.2.1 3#32))) 1#32) 1#32)))
  lastProg M
section Eqs

variable (i : grid0.Coords) (arg2 : Memref sig .tc .vmem S1x512x256 .bf16) (harg2 : arg2.IsWhole)
  (arg3 : Memref sig .tc .vmem S1x512x128 .bf16) (harg3 : arg3.IsWhole) (arg4 : Memref sig .tc .vmem S1x16384x256 .bf16) (harg4 : arg4.IsWhole)
  (arg5 : Memref sig .tc .vmem S16384x128 .bf16) (harg5 : arg5.IsWhole) (arg6 : Memref sig .tc .vmem S1x16x1x1024 .f32) (harg6 : arg6.IsWhole)
  (arg7 : Memref sig .tc .vmem S1x16x1x1024 .f32) (harg7 : arg7.IsWhole) (arg8 : Memref sig .tc .vmem S1x512x256 .f32) (harg8 : arg8.IsWhole)
  (arg9 : Memref sig .tc .vmem S1x512x128 .f32) (harg9 : arg9.IsWhole) (arg10 : Memref sig .tc .vmem S1x1024x256 .f32) (harg10 : arg10.IsWhole)
  (arg11 : Memref sig .tc .vmem S16x256x1024 .f32) (harg11 : arg11.IsWhole)

theorem part17_eq :
    k0_part17 (F := F) i arg2 harg2 arg3 harg3 arg4 harg4 arg5 harg5 arg6 harg6 arg7 harg7 arg8 harg8 arg9 harg9 arg10 harg10 arg11 harg11
      = (do
        let v0 : Vec F S1x512x256 .bf16 ← Prog.lift (.load arg2 (Rect.unit (s := S1x512x256) ![0, 0, 0] S1x512x256.size inb_S1x512x256_S1x512x256_0_0_0).toLoadRect (View.loadsAt_vmem h_S1x512x256))
        let v3 : Vec F S1x512x128 .bf16 ← Prog.lift (.load arg3 (Rect.unit (s := S1x512x128) ![0, 0, 0] S1x512x128.size inb_S1x512x128_S1x512x128_0_0_0).toLoadRect (View.loadsAt_vmem h_S1x512x128))
        whenProg (cond1 i = 1#1) fun h => zeroProg ⟨arg2, arg3, arg4, arg5, arg6, arg7, arg8, arg9, arg10, arg11⟩
        initProg ⟨arg2, arg3, arg4, arg5, arg6, arg7, arg8, arg9, arg10, arg11⟩
        whenProg (k0_cond2 i = 1#1) fun h => fullProg i ⟨arg2, arg3, arg4, arg5, arg6, arg7, arg8, arg9, arg10, arg11⟩ v0 v3 h
        whenProg (k0_cond3 i = 1#1) fun h => halfProg i ⟨arg2, arg3, arg4, arg5, arg6, arg7, arg8, arg9, arg10, arg11⟩ v0 v3 h
        pure ⟨k0_pay96 v0, k0_pay97 v0, k0_pay98 v3, fw i, Scalar.subi 15#32 (fw i), Scalar.shrsi (Scalar.subi 15#32 (fw i)) 2#32⟩) := by
  rw [k0_part17_eq_skeleton]
  simp only [whenProg_bind]
  rfl

theorem body_eq :
    cc0_attn_bwd (F := F) i arg2 harg2 arg3 harg3 arg4 harg4 arg5 harg5 arg6 harg6 arg7 harg7 arg8 harg8 arg9 harg9 arg10 harg10 arg11 harg11
      = (k0_part17 (F := F) i arg2 harg2 arg3 harg3 arg4 harg4 arg5 harg5 arg6 harg6 arg7 harg7 arg8 harg8 arg9 harg9 arg10 harg10 arg11 harg11
        >>= tailProg i ⟨arg2, arg3, arg4, arg5, arg6, arg7, arg8, arg9, arg10, arg11⟩ harg2 harg3 harg4 harg5 harg6 harg7 harg8 harg9 harg10 harg11) := by
  rw [cc0_attn_bwd_eq_skeleton]
  rfl

end Eqs

/-- The second loop of each pair is what is left of the first: no trip. -/
theorem t2_trips (i : grid0.Coords) : (k0_t2_loop i).trips = 0 := by
  revert i
  decide +kernel

theorem t4_trips (i : grid0.Coords) : (k0_t4_loop i).trips = 0 := by
  revert i
  decide +kernel

section Values

variable (i : grid0.Coords) (I : Ins F)

/-- One step of the main loop. -/
def step1St (t : Fin (k0_t1_loop i).trips) (u : Fin 4) (x : St F) : St F :=
  stepSt I (k0_pay96 I.k) (k0_pay97 I.k) (k0_pay98 I.v)
    (k0_off10 i t (BitVec.ofNat 32 u.val)) (k0_off10_inb i t u) (k0_off11 i t (BitVec.ofNat 32 u.val)) (k0_off11_inb i t u)
    (k0_off12 i t (BitVec.ofNat 32 u.val)) (k0_off12_inb i t u) (k0_off13 i t (BitVec.ofNat 32 u.val)) (k0_off13_inb i t u) x

/-- One step of the loop over what is left. -/
def step3St (t : Fin (k0_t3_loop i).trips) (x : St F) : St F :=
  stepSt I (k0_pay96 I.k) (k0_pay97 I.k) (k0_pay98 I.v)
    (k0_off18 i t) (k0_off18_inb i t) (k0_off19 i t) (k0_off19_inb i t)
    (k0_off20 i t) (k0_off20_inb i t) (k0_off21 i t) (k0_off21_inb i t) x

/-- The state after the masked step, from the scratch. -/
def maskedSt (s : Vec F S16x256x1024 .f32) : St F :=
  let x0 : St F := { dk := k0_pay100, dv := k0_pay101, sc := if cond1 i = 1#1 then k0_pay99 else s }
  let x1 : St F := if h : k0_cond2 i = 1#1 then fullSt i I h x0 else x0
  if h : k0_cond3 i = 1#1 then halfSt i I h x1 else x1

/-- The query gradient's block after the point, `y` before it. -/
def pointDq (s : Vec F S16x256x1024 .f32) (y : Vec F S1x1024x256 .f32) : Vec F S1x1024x256 .f32 :=
  if h : k0_cond3 i = 1#1 then outDq i h (maskedSt i I s) else y

/-- The state after the loops. -/
def loopsSt (x : St F) : St F :=
  (List.finRange (k0_t3_loop i).trips).foldl (fun x t => step3St i I t x)
    ((List.finRange (k0_t1_loop i).trips).foldl (fun x t => step1St i I t 3 (step1St i I t 2 (step1St i I t 1 (step1St i I t 0 x)))) x)

/-- The key gradient's block scaled. -/
def lastSt (x : St F) : St F := { x with dk := k0_pay5 x.dk }

/-- The state after the point, from the scratch. -/
def pointSt (s : Vec F S16x256x1024 .f32) : St F := lastSt (loopsSt i I (maskedSt i I s))

end Values

variable (i : grid0.Coords) (M : Mems) (I : Ins F)

theorem wp_init (c : Dev nD) (x : St F) : held c M I x ⊢ wpk c (initProg M) fun _ => held c M I { x with dk := k0_pay100, dv := k0_pay101 } := by
  unfold held initProg wpk
  iintro ⟨Hq, Hd, Hl, He, Hk, Hv, Hs⟩
  iapply wp_load_owns $$ Hk; iintro Hk
  iapply wp_store_owns $$ Hk; iintro Hk
  iapply wp_load_owns $$ Hv; iintro Hv
  iapply wp_store_owns $$ Hv; iintro Hv
  simp only [Prog.bind]
  sl_step
  rw [wr_whole, wr_whole]
  isplitl [Hq]; · iexact Hq
  isplitl [Hd]; · iexact Hd
  isplitl [Hl]; · iexact Hl
  isplitl [He]; · iexact He
  isplitl [Hk]; · iexact Hk
  isplitl [Hv]; · iexact Hv
  iexact Hs

theorem wp_last (c : Dev nD) (x : St F) : held c M I x ⊢ wpk c (lastProg M) fun _ => held c M I (lastSt x) := by
  unfold held lastProg lastSt wpk
  iintro ⟨Hq, Hd, Hl, He, Hk, Hv, Hs⟩
  iapply wp_load_owns $$ Hk; iintro Hk
  iapply wp_load_owns $$ Hk; iintro Hk
  iapply wp_store_owns $$ Hk; iintro Hk
  simp only [Prog.bind]
  sl_step
  rw [wr_whole, rd_whole]
  isplitl [Hq]; · iexact Hq
  isplitl [Hd]; · iexact Hd
  isplitl [Hl]; · iexact Hl
  isplitl [He]; · iexact He
  isplitl [Hk]; · iexact Hk
  isplitl [Hv]; · iexact Hv
  iexact Hs

theorem wp_step1 (c : Dev nD) (t : Fin (k0_t1_loop i).trips) (u : Fin 4) (x : St F) :
    held c M I x ⊢ wpk c (step1Prog i M.k M.v M.q M.d M.l M.e M.dk M.dv M.dq M.sc (k0_pay96 I.k) (k0_pay97 I.k) (k0_pay98 I.v) t u)
      fun _ => held c M I (step1St i I t u x) :=
  wp_step c M I _ _ _ _ _ _ _ _ _ _ _ x

/-- The query gradient's block owned beside the rest. -/
abbrev heldq (c : Dev nD) (y : Vec F S1x1024x256 .f32) (x : St F) : sProp 𝕄 :=
  iprop(owns (c : Thread nD τ) M.dq fullShare y ∗ held c M I x)

theorem wp_masked (c : Dev nD) (s : Vec F S16x256x1024 .f32) (dk : Vec F S1x512x256 .f32) (dv : Vec F S1x512x128 .f32)
    (y : Vec F S1x1024x256 .f32) {α : Type} (k : PUnit → Prog (TpuEff nD τ sig (Elt F) Λ₀ .tc) α) (R : sProp 𝕄) (Q : α → sProp 𝕄)
    (hk : iprop(R ∗ heldq M I c (pointDq i I s y) (maskedSt i I s)) ⊢ wpk c (k ⟨⟩) Q) :
    iprop(R ∗ heldq M I c y { dk := dk, dv := dv, sc := s }) ⊢ wpk c (do
        whenProg (cond1 i = 1#1) fun h => zeroProg M
        initProg M
        whenProg (k0_cond2 i = 1#1) fun h => fullProg i M I.k I.v h
        whenProg (k0_cond3 i = 1#1) fun h => halfProg i M I.k I.v h
        k ⟨⟩) Q := by
  refine wpk_seq c (B := iprop(R ∗ heldq M I c y { dk := dk, dv := dv, sc := if cond1 i = 1#1 then k0_pay99 else s }))
    (wpk_frame c (wpk_when c (fun h => ?_) fun h => ?_)) ?_
  · rw [if_pos h]; exact wpk_frame c (wp_zero c _)
  · rw [if_neg h]
  refine wpk_seq c (wpk_frame c (wpk_frame c (wp_init M I c _))) ?_
  refine wpk_seq c (B := iprop(R ∗ heldq M I c y (if h : k0_cond2 i = 1#1 then fullSt i I h
        { dk := k0_pay100, dv := k0_pay101, sc := if cond1 i = 1#1 then k0_pay99 else s }
      else { dk := k0_pay100, dv := k0_pay101, sc := if cond1 i = 1#1 then k0_pay99 else s })))
    (wpk_frame c (wpk_when c (fun h => ?_) fun h => ?_)) ?_
  · rw [dif_pos h]; exact wpk_frame c (wp_full i c h _)
  · rw [dif_neg h]
  refine wpk_seq c (wpk_frame c (wpk_when c (fun h => ?_) fun h => ?_)) hk
  · unfold pointDq maskedSt
    simp only [dif_pos h]
    exact wp_half i c h _ y
  · unfold pointDq maskedSt
    simp only [dif_neg h]
    exact .rfl

theorem wpk_loop (c : Dev nD) (l : Scf.Loop 32) (hok : Scf.OK l.lb l.ub l.st) (body : Fin l.trips → Unit → Prog (TpuEff nD τ sig (Elt F) Λ₀ .tc) Unit)
    (f : St F → Fin l.trips → St F) (h : ∀ t x, held c M I x ⊢ wpk c (body t ()) fun _ => held c M I (f x t)) (x : St F) :
    held c M I x ⊢ wpk c (Scf.Loop.for l hok () body) fun _ => held c M I ((List.finRange l.trips).foldl f x) := by
  unfold Scf.Loop.for wpk
  rw [Scf.for_eq]
  exact wp_forFrom (defs := defs₀ (F := F)) (𝒱 := Variants.none) (c := (c : Thread nD τ)) (bd := none) (E := Set.univ) body (fun x => held c M I x) f h _ x

theorem wpk_loop_none (c : Dev nD) (l : Scf.Loop 32) (hok : Scf.OK l.lb l.ub l.st) (body : Fin l.trips → Unit → Prog (TpuEff nD τ sig (Elt F) Λ₀ .tc) Unit)
    (h : l.trips = 0) (A : sProp 𝕄) : A ⊢ wpk c (Scf.Loop.for l hok () body) fun _ => A := by
  unfold Scf.Loop.for
  rw [Scf.for_eq_ret _ _ _ _ _ _ h]
  exact wpk_pure c .rfl

/-- What holds at the kernel's own memrefs holds of its body: everything owned before, the point's values owned after. -/
theorem wp_body (c : Dev nD) (s : Vec F S16x256x1024 .f32) (dk : Vec F S1x512x256 .f32) (dv : Vec F S1x512x128 .f32) (y : Vec F S1x1024x256 .f32)
    (hk : M.k.IsWhole) (hv : M.v.IsWhole) (hq : M.q.IsWhole) (hd : M.d.IsWhole) (hl : M.l.IsWhole) (he : M.e.IsWhole)
    (hdk : M.dk.IsWhole) (hdv : M.dv.IsWhole) (hdq : M.dq.IsWhole) (hs : M.sc.IsWhole) :
    held' c M I y { dk := dk, dv := dv, sc := s }
      ⊢ wpk c (cc0_attn_bwd i M.k hk M.v hv M.q hq M.d hd M.l hl M.e he M.dk hdk M.dv hdv M.dq hdq M.sc hs)
          fun _ => held' c M I (pointDq i I s y) (pointSt i I s) := by
  rw [body_eq, part17_eq]
  unfold wpk
  rw [wp_bind]
  unfold held'
  iintro ⟨H2, H3, H⟩
  iapply wp_load_owns $$ H2; iintro H2
  iapply wp_load_owns $$ H3; iintro H3
  rw [rd_whole, rd_whole]
  icombine H2 H3 as H2
  icombine H2 H as H
  have hmain := wp_masked i M I c s dk dv y (fun _ : Unit =>
      pure (⟨k0_pay96 I.k, k0_pay97 I.k, k0_pay98 I.v, fw i, Scalar.subi 15#32 (fw i), Scalar.shrsi (Scalar.subi 15#32 (fw i)) 2#32⟩ :
        Σ' (v1 : FVec F S512x256 .bf16) (v2 : FVec F S256x512 .bf16) (v4 : FVec F S512x128 .bf16) (v16 : BitVec 32) (v25 : BitVec 32), BitVec 32))
    (iprop(owns (c : Thread nD τ) M.k fullShare I.k ∗ owns (c : Thread nD τ) M.v fullShare I.v)) (fun r => wpk c (tailProg i M hk hv hq hd hl he hdk hdv hdq hs r)
        fun _ => held' c M I (pointDq i I s y) (pointSt i I s)) (wpk_pure c ?_)
  · iapply hmain $$ H
  · unfold tailProg held'
    refine wpk_seq c (wpk_frame c (wpk_frame c (wpk_loop M I c _ _ _
      (fun x t => step1St i I t 3 (step1St i I t 2 (step1St i I t 1 (step1St i I t 0 x)))) (fun t x => ?_) _))) ?_
    · rw [t1_body_eq]
      exact wpk_seq c (wp_step1 i M I c t 0 _) (wpk_seq c (wp_step1 i M I c t 1 _) (wpk_seq c (wp_step1 i M I c t 2 _) (wp_step1 i M I c t 3 _)))
    refine wpk_seq c (wpk_loop_none c _ _ _ (t2_trips i) _) ?_
    refine wpk_seq c (wpk_frame c (wpk_frame c (wpk_loop M I c _ _ _ (fun x t => step3St i I t x) (fun t x => ?_) _))) ?_
    · rw [t3_body_eq]
      exact wp_step c M I _ _ _ _ _ _ _ _ _ _ _ x
    refine wpk_seq c (wpk_loop_none c _ _ _ (t4_trips i) _) ?_
    refine (wpk_frame c (wpk_frame c (wp_last M I c _))).trans ?_
    unfold wpk
    refine wp_mono _ _ _ fun _ => ?_
    iintro ⟨⟨H2, H3⟩, H⟩
    isplitl [H2]; · iexact H2
    isplitl [H3]; · iexact H3
    iexact H

end Cert.Bwd

end
-- ==== Proof.Run.lean ====
/- The kernel's run: what its buffers hold point by point, the pipeline's proof data, the body's obligation and the launch. -/
module

public import proofs.«01_k».proof.Proof.Point
public import proofs.«01_k».proof.Proof.Gen.KernelIdeal.Frame
public import Idealize.ShloMosaic.Lib.Pipeline.FrameBody
public import Idealize.ShloMosaic.Lib.Tactic
public import Idealize.ShloMosaic.Lib.Claim

@[expose] public section

set_option maxRecDepth 65536

noncomputable section

namespace Cert.Bwd

open Cert.Att
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents point by point -/

/-- The input blocks of point `t`. -/
def ins (c : Dev nD) (t : Fin cfg0.N) : Ins F where
  k := iblk m c 0 t
  v := iblk m c 1 t
  q := iblk m c 2 t
  d := iblk m c 3 t
  l := iblk m c 4 t
  e := iblk m c 5 t

/-- The scratch before point `n` (at the first point, where the body discards it, zeros). -/
def scr (c : Dev nD) : ℕ → Vec F S16x256x1024 .f32
  | 0 => k0_pay99
  | n + 1 => if h : n < cfg0.N then (pointSt (grid0.coords ⟨n, h⟩) (ins m c ⟨n, h⟩) (scr c n)).sc else k0_pay99

/-- The accumulators and the scratch after point `t`. -/
def stAt (c : Dev nD) (t : Fin cfg0.N) : St F := pointSt (grid0.coords t) (ins m c t) (scr m c t.val)

/-- The query gradient's block as point `t` writes it, where it does. -/
def dqAt (c : Dev nD) (t : Fin cfg0.N) : Vec F S1x1024x256 .f32 :=
  pointDq (grid0.coords t) (ins m c t) (scr m c t.val) fun _ => Scalar.ofBits .f32 0#32

theorem scr_succ (c : Dev nD) (t : Fin cfg0.N) : scr m c (t.val + 1) = (stAt m c t).sc := by
  rw [scr, dif_pos t.isLt]; rfl

/-- A head's first point discards the scratch. -/
theorem maskedSt_first {i : grid0.Coords} (h : cond1 i = 1#1) (I : Ins F) (s s' : Vec F S16x256x1024 .f32) :
    maskedSt i I s = maskedSt i I s' := by
  unfold maskedSt; rw [if_pos h, if_pos h]

/-! ## The buffers -/

/-- The staging buffers of point `t` and the scratch. -/
def mems (t : Fin cfg0.N) : Mems where
  k := win0_0.stage (cfg0.slots t 0)
  v := win0_1.stage (cfg0.slots t 1)
  q := win0_2.stage (cfg0.slots t 2)
  d := win0_3.stage (cfg0.slots t 3)
  l := win0_4.stage (cfg0.slots t 4)
  e := win0_5.stage (cfg0.slots t 5)
  dk := win0_6.stage (cfg0.slots t 6)
  dv := win0_7.stage (cfg0.slots t 7)
  dq := win0_8.stage (cfg0.slots t 8)
  sc := Memref.whole cc0_scratch0

theorem bodyAt_eq (t : Fin cfg0.N) : bodyAt0 (F := F) t
    = cc0_attn_bwd (grid0.coords t) (mems t).k (hstage0_0 ((cfg0.slots t 0).cast nbuf0_0)) (mems t).v (hstage0_1 ((cfg0.slots t 1).cast nbuf0_1)) (mems t).q (hstage0_2 ((cfg0.slots t 2).cast nbuf0_2)) (mems t).d (hstage0_3 ((cfg0.slots t 3).cast nbuf0_3)) (mems t).l (hstage0_4 ((cfg0.slots t 4).cast nbuf0_4)) (mems t).e (hstage0_5 ((cfg0.slots t 5).cast nbuf0_5)) (mems t).dk (hstage0_6 ((cfg0.slots t 6).cast nbuf0_6)) (mems t).dv (hstage0_7 ((cfg0.slots t 7).cast nbuf0_7)) (mems t).dq (hstage0_8 ((cfg0.slots t 8).cast nbuf0_8)) (mems t).sc (Memref.isWhole_whole _) := rfl

/-- The region's own resources: the scratch at some contents and the generator's register. -/
theorem phiA_eq (c : Dev nD) : (Pipeline.ΦA spec0 c : sProp 𝕄)
    = iprop((∃ d, owns (c : Thread nD τ) (Memref.whole cc0_scratch0 : Memref sig .tc .vmem S16x256x1024 .f32) fullShare d) ∗ (∃ r, prngReg c r)) := by
  unfold Pipeline.ΦA; rw [scopedRest0_eq]; simp only [owns_whole]; try rfl

/-- The invariant before point `n`: the scratch at its contents. -/
def Inv (c : Dev nD) : (n : ℕ) → n ≤ cfg0.N → sProp 𝕄
  | 0, _ => Pipeline.ΦA spec0 c
  | n + 1, _ => iprop(owns (c : Thread nD τ) (Memref.whole cc0_scratch0 : Memref sig .tc .vmem S16x256x1024 .f32) fullShare (scr m c (n + 1)) ∗ (∃ r, prngReg c r))

theorem inv_succ (c : Dev nD) (n : ℕ) (h : n + 1 ≤ cfg0.N) : Inv m c (n + 1) h
    = iprop(owns (c : Thread nD τ) (Memref.whole cc0_scratch0 : Memref sig .tc .vmem S16x256x1024 .f32) fullShare (scr m c (n + 1)) ∗ (∃ r, prngReg c r)) := rfl

/-- Before any point the scratch holds something that the body does not tell from what is stated. -/
theorem inv_open (c : Dev nD) (t : Fin cfg0.N) : Inv m c t.val (Nat.le_of_lt t.isLt)
    ⊢ iprop((∃ s, owns (c : Thread nD τ) (Memref.whole cc0_scratch0 : Memref sig .tc .vmem S16x256x1024 .f32) fullShare s
        ∗ ⌜maskedSt (grid0.coords t) (ins m c t) s = maskedSt (grid0.coords t) (ins m c t) (scr m c t.val)⌝) ∗ (∃ r, prngReg c r)) := by
  obtain ⟨n, hn⟩ := t
  cases n with
  | zero =>
    unfold Inv
    rw [phiA_eq]
    iintro ⟨⟨%s, H⟩, Hg⟩
    isplitl [H]
    · iexists s
      isplitl [H]; · iexact H
      ipureintro
      exact maskedSt_first (by revert hn; decide +kernel) _ _ _
    iexact Hg
  | succ n =>
    unfold Inv
    iintro ⟨H, Hg⟩
    isplitl [H]
    · iexists _
      isplitl [H]; · iexact H
      ipureintro; rfl
    iexact Hg

/-! ## The pipeline's proof data -/

/-- On core `c`: the arrays as the region finds them; after the body each input's buffer at its block and each output's at
    the point's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t).dk
    | ⟨7, _⟩ => (stAt m c t).dv
    | ⟨8, _⟩ => dqAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (stAt m c t).dk := by dsimp only [dats]
theorem after_7 (c : Dev nD) (t : Fin cfg0.N) : (dats m 0 c).after 7 t = (stAt m c t).dv := by dsimp only [dats]
theorem after_8 (c : Dev nD) (t : Fin cfg0.N) : (dats m 0 c).after 8 t = dqAt m c t := by dsimp only [dats]

theorem before_0 (c : Dev nD) (t : Fin cfg0.N) (d) : (dats m 0 c).before 0 t d = (ins m c t).k :=
  before0_0_of m (dats m 0 c) (A_eq m c 0) (after_0 m c) t d
theorem before_1 (c : Dev nD) (t : Fin cfg0.N) (d) : (dats m 0 c).before 1 t d = (ins m c t).v :=
  before0_1_of m (dats m 0 c) (A_eq m c 1) (after_1 m c) t d
theorem before_2 (c : Dev nD) (t : Fin cfg0.N) (d) : (dats m 0 c).before 2 t d = (ins m c t).q :=
  before0_2_of m (dats m 0 c) (A_eq m c 2) (after_2 m c) t d
theorem before_3 (c : Dev nD) (t : Fin cfg0.N) (d) : (dats m 0 c).before 3 t d = (ins m c t).d :=
  before0_3_of m (dats m 0 c) (A_eq m c 3) (after_3 m c) t d
theorem before_4 (c : Dev nD) (t : Fin cfg0.N) (d) : (dats m 0 c).before 4 t d = (ins m c t).l :=
  before0_4_of m (dats m 0 c) (A_eq m c 4) (after_4 m c) t d
theorem before_5 (c : Dev nD) (t : Fin cfg0.N) (d) : (dats m 0 c).before 5 t d = (ins m c t).e :=
  before0_5_of m (dats m 0 c) (A_eq m c 5) (after_5 m c) t d

/-- The query gradient's window is idle at the even points, -/
theorem idle_even : ∀ t : Fin cfg0.N, ¬k0_cond3 (grid0.coords t) = 1#1 → cfg0.idle 8 (grid0.coords t) = true := by decide +kernel
/-- not written back there, -/
theorem noFlush_even : ∀ t : Fin cfg0.N, ¬k0_cond3 (grid0.coords t) = 1#1 → (cfg0.win 8).flush t = false := by decide +kernel
/-- and live at the odd ones. -/
theorem live_odd : ∀ t : Fin cfg0.N, k0_cond3 (grid0.coords t) = 1#1 → cfg0.idle 8 (grid0.coords t) = false := by decide +kernel

/-- A window that is never idle is left at its contents after the point. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_0 (c : Dev nD) (t : Fin cfg0.N) : (dats m 0 c).leavesExact 0 t = owns (c : Thread nD τ) (mems t).k fullShare (ins m c t).k :=
  (leaves_live m c 0 t rfl).trans (by rw [after_0]; rfl)
theorem leaves_1 (c : Dev nD) (t : Fin cfg0.N) : (dats m 0 c).leavesExact 1 t = owns (c : Thread nD τ) (mems t).v fullShare (ins m c t).v :=
  (leaves_live m c 1 t rfl).trans (by rw [after_1]; rfl)
theorem leaves_2 (c : Dev nD) (t : Fin cfg0.N) : (dats m 0 c).leavesExact 2 t = owns (c : Thread nD τ) (mems t).q fullShare (ins m c t).q :=
  (leaves_live m c 2 t rfl).trans (by rw [after_2]; rfl)
theorem leaves_3 (c : Dev nD) (t : Fin cfg0.N) : (dats m 0 c).leavesExact 3 t = owns (c : Thread nD τ) (mems t).d fullShare (ins m c t).d :=
  (leaves_live m c 3 t rfl).trans (by rw [after_3]; rfl)
theorem leaves_4 (c : Dev nD) (t : Fin cfg0.N) : (dats m 0 c).leavesExact 4 t = owns (c : Thread nD τ) (mems t).l fullShare (ins m c t).l :=
  (leaves_live m c 4 t rfl).trans (by rw [after_4]; rfl)
theorem leaves_5 (c : Dev nD) (t : Fin cfg0.N) : (dats m 0 c).leavesExact 5 t = owns (c : Thread nD τ) (mems t).e fullShare (ins m c t).e :=
  (leaves_live m c 5 t rfl).trans (by rw [after_5]; rfl)
theorem leaves_6 (c : Dev nD) (t : Fin cfg0.N) : (dats m 0 c).leavesExact 6 t = owns (c : Thread nD τ) (mems t).dk fullShare (stAt m c t).dk :=
  (leaves_live m c 6 t rfl).trans (by rw [after_6]; rfl)
theorem leaves_7 (c : Dev nD) (t : Fin cfg0.N) : (dats m 0 c).leavesExact 7 t = owns (c : Thread nD τ) (mems t).dv fullShare (stAt m c t).dv :=
  (leaves_live m c 7 t rfl).trans (by rw [after_7]; rfl)

/-- The query gradient's buffer after the point: what the point writes where it does, else what was there. -/
theorem leaves_dq (c : Dev nD) (t : Fin cfg0.N) (d) :
    owns (c : Thread nD τ) (mems t).dq fullShare (pointDq (grid0.coords t) (ins m c t) (scr m c t.val) ((dats m 0 c).before 8 t d))
      ⊢ (dats m 0 c).leavesExact 8 t := by
  by_cases h : k0_cond3 (grid0.coords t) = 1#1
  · rw [leaves_live m c 8 t (live_odd t h), after_8]
    unfold dqAt pointDq
    rw [dif_pos h, dif_pos h]
    exact .rfl
  · rw [Dat.leavesExact_idle (dats m 0 c) 8 t (idle_even t h) (noFlush_even t h)]
    unfold pointDq
    rw [dif_neg h]
    iintro H
    iexists d
    iexact H

/-! ## The body's obligation -/

/-- What the obligation hands the body, window by window, -/
def bodyPre (c : Dev nD) (t : Fin cfg0.N) : sProp 𝕄 :=
  iprop((dats m 0 c).Φ t.castSucc ∗ (dats m 0 c).owesAt () t.castSucc
    ∗ (∃ d, owns (c : Thread nD τ) (mems t).k fullShare ((dats m 0 c).before 0 t d))
    ∗ (∃ d, owns (c : Thread nD τ) (mems t).v fullShare ((dats m 0 c).before 1 t d))
    ∗ (∃ d, owns (c : Thread nD τ) (mems t).q fullShare ((dats m 0 c).before 2 t d))
    ∗ (∃ d, owns (c : Thread nD τ) (mems t).d fullShare ((dats m 0 c).before 3 t d))
    ∗ (∃ d, owns (c : Thread nD τ) (mems t).l fullShare ((dats m 0 c).before 4 t d))
    ∗ (∃ d, owns (c : Thread nD τ) (mems t).e fullShare ((dats m 0 c).before 5 t d))
    ∗ (∃ d, owns (c : Thread nD τ) (mems t).dk fullShare ((dats m 0 c).before 6 t d))
    ∗ (∃ d, owns (c : Thread nD τ) (mems t).dv fullShare ((dats m 0 c).before 7 t d))
    ∗ (∃ d, owns (c : Thread nD τ) (mems t).dq fullShare ((dats m 0 c).before 8 t d)))

/-- and what it takes back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The order of what the body leaves, and the order of what the obligation takes back. -/
theorem regroup {A0 A1 A2 A3 A4 A5 A6 A7 A8 A8' S G O : sProp 𝕄} (h : A8 ⊢ A8') :
    iprop((G ∗ O) ∗ A0 ∗ A1 ∗ A8 ∗ A2 ∗ A3 ∗ A4 ∗ A5 ∗ A6 ∗ A7 ∗ S)
      ⊢ iprop((S ∗ G) ∗ O ∗ A0 ∗ A1 ∗ A2 ∗ A3 ∗ A4 ∗ A5 ∗ A6 ∗ A7 ∗ A8') := by
  iintro ⟨⟨Hg, Ho⟩, H0, H1, H8, H2, H3, H4, H5, H6, H7, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h $$ H8

/-- The obligation's resources opened and put in the body's order. -/
theorem open_all {T D0 D1 D2 D3 D4 D5 D6 D7 D8 : Type} {A0 A1 A2 A3 A4 A5 G O W : sProp 𝕄} {A6 : D6 → sProp 𝕄} {A7 : D7 → sProp 𝕄} {A8 : D8 → sProp 𝕄}
    {S : T → sProp 𝕄} {P : T → Prop} (h : ∀ s d6 d7 d8, P s → iprop((G ∗ O) ∗ A0 ∗ A1 ∗ A8 d8 ∗ A2 ∗ A3 ∗ A4 ∗ A5 ∗ A6 d6 ∗ A7 d7 ∗ S s) ⊢ W) :
    iprop(((∃ s, S s ∗ ⌜P s⌝) ∗ G) ∗ O ∗ (∃ _ : D0, A0) ∗ (∃ _ : D1, A1) ∗ (∃ _ : D2, A2) ∗ (∃ _ : D3, A3) ∗ (∃ _ : D4, A4) ∗ (∃ _ : D5, A5)
      ∗ (∃ d, A6 d) ∗ (∃ d, A7 d) ∗ (∃ d, A8 d)) ⊢ W := by
  iintro ⟨⟨⟨%s, Hs, %hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply h s d6 d7 d8 hs
  isplitl [Hg Ho]
  · isplitl [Hg]; · iexact Hg
    iexact Ho
  isplitl [H0]; · iexact H0
  isplitl [H1]; · iexact H1
  isplitl [H8]; · iexact H8
  isplitl [H2]; · iexact H2
  isplitl [H3]; · iexact H3
  isplitl [H4]; · iexact H4
  isplitl [H5]; · iexact H5
  isplitl [H6]; · iexact H6
  isplitl [H7]; · iexact H7
  iexact Hs

/-- What the body leaves is what the obligation takes back. -/
theorem body_close (c : Dev nD) (t : Fin cfg0.N) (d) :
    iprop(((∃ r, prngReg c r) ∗ (dats m 0 c).owesAt () t.castSucc) ∗ held' c (mems t) (ins m c t)
      (pointDq (grid0.coords t) (ins m c t) (scr m c t.val) ((dats m 0 c).before 8 t d)) (stAt m c t)) ⊢ bodyPost m c t := by
  unfold bodyPost held' held
  rw [show (dats m 0 c).owesAt () t.succ = (dats m 0 c).owesAt () t.castSucc from rfl]
  rw [show (dats m 0 c).Φ t.succ = Inv m c (t.val + 1) t.isLt from rfl, inv_succ, leaves_0, leaves_1, leaves_2, leaves_3, leaves_4, leaves_5, leaves_6, leaves_7]
  rw [scr_succ]
  exact regroup (leaves_dq m c t d)

theorem sound_body (c : Dev nD) (t : Fin cfg0.N) : bodyPre m c t ⊢ wpk c (bodyAt0 t) fun _ => bodyPost m c t := by
  unfold bodyPre
  rw [bodyAt_eq]
  simp only [before_0, before_1, before_2, before_3, before_4, before_5]
  rw [inv_castSucc]
  refine (sep_mono (inv_open m c t) .rfl).trans ?_
  refine open_all fun s d6 d7 d8 hs => ?_
  have hb := wp_body (grid0.coords t) (mems t) (ins m c t) c s ((dats m 0 c).before 6 t d6) ((dats m 0 c).before 7 t d7) ((dats m 0 c).before 8 t d8)
    (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (Memref.isWhole_whole _)
  rw [show pointSt (grid0.coords t) (ins m c t) s = stAt m c t by unfold stAt pointSt; rw [hs],
    show pointDq (grid0.coords t) (ins m c t) s ((dats m 0 c).before 8 t d8) = pointDq (grid0.coords t) (ins m c t) (scr m c t.val) ((dats m 0 c).before 8 t d8) by
      unfold pointDq; rw [hs]] at hb
  exact (wpk_frame c (R := iprop((∃ r, prngReg c r) ∗ (dats m 0 c).owesAt () t.castSucc)) hb).trans
    (wp_mono _ _ _ fun _ => body_close m c t d8)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = Inv m c 256 (le_of_eq N_0.symm) from rfl, phiA_eq]
  unfold Inv
  iintro ⟨Hs, Hg⟩
  isplitl [Hs]
  · iexists _; iexact Hs
  iexact Hg

/-! ## The run -/

-- the launch rule's implicit arguments are found by unifying its conclusion with this one
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were and every semaphore at zero, at any floats. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Bwd

end
-- ==== Proof.Frames.lean ====
/- The frames of the three programs and the named constant. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import Idealize.ShloMosaic.Lib.Quiescent

@[expose] public section

set_option maxRecDepth 65536

noncomputable section

namespace Cert.Bwd

open Idealize.ShloMosaic Idealize.SL Idealize.SL.Sem

theorem quiescent_ideal : Cert.quiescent_KernelIdeal := fun m g _ => quiescent m g

/-- A named constant at the floats' own bits: the printed word. -/
@[reducible] def namedBits : Named Bits where
  named _ _ {_} b := b

/-- The printed program's frame is the idealised program's at the floats' bits: the two differ in the named constant alone,
    which there is the word printed. -/
theorem quiescent_bits_eq : Cert.quiescent_Kernel = (letI := namedBits
    ∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0)) := by
  sl_kernel_rfl

theorem quiescent_bits : Cert.quiescent_Kernel := by
  rw [quiescent_bits_eq]
  intro m g _
  exact @quiescent Bits _ namedBits m g

theorem quiescent_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

/-! The same two with finite arguments, which they do not need. -/

theorem quiescent_ideal_finite [Cert.Pre_finite.Facts] : Cert.quiescent_KernelIdeal_pre_finite := fun m g _ => quiescent m g

theorem quiescent_reference_finite [Cert.Pre_finite.Facts] : Cert.quiescent_ReferenceIdeal_pre_finite := fun m g _ => quiescent_reference m g trivial

/-- The side conditions of the precondition's text. -/
theorem finite_facts : Cert.Pre_finite.Facts where
  bcast_S_S16384x8x192 := by decide
  bcast_S_S16384x8x128 := by decide

theorem preserves_ln2 : Cert.preserves_Kernel_KernelIdeal :=
  IdealRules.named_const.statement Cert.KernelIdeal.κ "ln2" .f32 0x3F317218#32 ((Real.log 2 : ℝ) : EReal) rfl

end Cert.Bwd

end
-- ==== Proof.Offsets.lean ====
/- The offsets, conditions and trip counts of the backward kernel's body as numbers of the grid's coordinates. -/
module

public import proofs.«01_k».proof.Proof.Point

@[expose] public section

set_option maxRecDepth 16384

noncomputable section

namespace Cert.Bwd

open Cert.Att
open Cert.KernelIdeal Cert.KernelIdeal.Gen
open Idealize.ShloMosaic
/-- The masked step's offsets and words. -/
theorem off_masked : ∀ i : grid0.Coords, fw i = BitVec.ofNat 32 ((i 1).val / 2)
    ∧ k0_off1 i = ![0, 1024 * ((i 1).val / 2), 0] ∧ k0_off2 i = ![1024 * ((i 1).val / 2), 0] ∧ k0_off3 i = ![0, (i 1).val / 2, 0, 0] ∧ k0_off4 i = ![(i 1).val / 2, 0, 0]
    ∧ k0_off5 i = ![0, 1024 * ((i 1).val / 2) + 512, 0] ∧ k0_off6 i = ![1024 * ((i 1).val / 2) + 512, 0] ∧ k0_off7 i = ![0, (i 1).val / 2, 0, 0]
    ∧ k0_off8 i = ![(i 1).val / 2, 0, 512] ∧ k0_off9 i = ![(i 1).val / 2, 0, 0]
    ∧ (cond1 i = 1#1 ↔ (i 1).val = 0) ∧ (k0_cond2 i = 1#1 ↔ (i 1).val % 2 = 0) ∧ (k0_cond3 i = 1#1 ↔ (i 1).val % 2 = 1) := by
  decide +kernel

/-- The two loops' trips. -/
theorem trips1 : ∀ i : grid0.Coords, (k0_t1_loop i).trips = (15 - (i 1).val / 2) / 4 := by decide +kernel

theorem trips3 : ∀ i : grid0.Coords, (k0_t3_loop i).trips = (15 - (i 1).val / 2) % 4 := by decide +kernel

/-- The two loops' offsets. -/
theorem off_t1 : ∀ (i : grid0.Coords) (t : Fin (k0_t1_loop i).trips) (u : Fin 4), let b := (i 1).val / 2 + 1 + 4 * t.val + u.val
    k0_off10 i t (BitVec.ofNat 32 u) = ![0, 1024 * b, 0] ∧ k0_off11 i t (BitVec.ofNat 32 u) = ![1024 * b, 0]
    ∧ k0_off12 i t (BitVec.ofNat 32 u) = ![0, b, 0, 0] ∧ k0_off13 i t (BitVec.ofNat 32 u) = ![b, 0, 0] := by decide +kernel

theorem off_t3 : ∀ (i : grid0.Coords) (t : Fin (k0_t3_loop i).trips), let b := 16 - (15 - (i 1).val / 2) % 4 + t.val
    k0_off18 i t = ![0, 1024 * b, 0] ∧ k0_off19 i t = ![1024 * b, 0]
    ∧ k0_off20 i t = ![0, b, 0, 0] ∧ k0_off21 i t = ![b, 0, 0] := by decide +kernel
end Cert.Bwd
-- ==== Proof.Pay.lean ====
/- The values the backward kernel stores, read at an index on the extended reals. -/
module

public import proofs.«01_k».proof.Proof.Gen.KernelIdeal.Skeleton
public import Idealize.ShloMosaic.Lib.Pointwise

@[expose] public section

set_option maxRecDepth 16384

noncomputable section

namespace Cert.Bwd

open Cert.KernelIdeal Cert.KernelIdeal.Gen
open Idealize.ShloMosaic

/-! The blocks as the body first casts them. -/

theorem pay96_apply (k : Vec Ideal S1x512x256 .bf16) (r : Fin 512) (y : Fin 256) : k0_pay96 k (ix2 r y) = k (ix3 0 r y) := by
  pointwise [k0_pay96]

theorem pay98_apply (v : Vec Ideal S1x512x128 .bf16) (r : Fin 512) (y : Fin 128) : k0_pay98 v (ix2 r y) = v (ix3 0 r y) := by
  pointwise [k0_pay98]

theorem pay6_apply (q : Vec Ideal S1x1024x256 .bf16) (c : Fin 1024) (y : Fin 256) : k0_pay6 q (ix2 c y) = q (ix3 0 c y) := by
  pointwise [k0_pay6]

theorem pay11_apply (q : Vec Ideal S1x512x256 .bf16) (c : Fin 512) (y : Fin 256) : k0_pay11 q (ix2 c y) = q (ix3 0 c y) := by
  pointwise [k0_pay11]

/-! A step off the diagonal. -/

theorem pay20_apply (k : FVec Ideal S512x256 .bf16) (v : FVec Ideal S512x128 .bf16) (q : Vec Ideal S1x1024x256 .bf16) (d : Vec Ideal S1024x128 .bf16)
    (l e : Vec Ideal S1x1x1x1024 .f32) (r : Fin 512) (c : Fin 1024) :
    k0_pay20 k v q d l e (ix2 r c) = FloatOps.exp2 (F := Ideal) (φ := .f32) ((∑ y : Fin 256, k (ix2 r y) * q (ix3 0 c y)) - l (ix4 0 0 0 c))
      * ((∑ y : Fin 128, v (ix2 r y) * d (ix2 c y)) - e (ix4 0 0 0 c)) := by
  pointwise [k0_pay20, k0_pay18, k0_pay17, k0_pay16]

theorem pay19_apply (k : FVec Ideal S512x256 .bf16) (q : Vec Ideal S1x1024x256 .bf16) (d : Vec Ideal S1024x128 .bf16) (l : Vec Ideal S1x1x1x1024 .f32)
    (z : Vec Ideal S1x512x128 .f32) (r : Fin 512) (y : Fin 128) :
    k0_pay19 k q d l z (ix3 0 r y) = z (ix3 0 r y)
      + ∑ c : Fin 1024, FloatOps.exp2 (F := Ideal) (φ := .f32) ((∑ x : Fin 256, k (ix2 r x) * q (ix3 0 c x)) - l (ix4 0 0 0 c)) * d (ix2 c y) := by
  pointwise [k0_pay19, k0_pay18, k0_pay17, k0_pay16]

theorem pay22_apply (q : FVec Ideal S1024x256 .bf16) (w : FVec Ideal S512x1024 .f32) (z : Vec Ideal S1x512x256 .f32) (r : Fin 512) (y : Fin 256) :
    k0_pay22 q w z (ix3 0 r y) = z (ix3 0 r y) + ∑ c : Fin 1024, w (ix2 r c) * q (ix2 c y) := by
  pointwise [k0_pay22, k0_pay21]

theorem pay23_apply (k : FVec Ideal S256x512 .bf16) (w : FVec Ideal S512x1024 .f32) (z : Vec Ideal S1x256x1024 .f32) (y : Fin 256) (c : Fin 1024) :
    k0_pay23 k w z (ix3 0 y c) = z (ix3 0 y c) + ∑ r : Fin 512, k (ix2 y r) * w (ix2 r c) := by
  pointwise [k0_pay23, k0_pay21]

theorem pay16_apply (q : Vec Ideal S1x1024x256 .bf16) (c : Fin 1024) (y : Fin 256) : k0_pay16 q (ix2 c y) = q (ix3 0 c y) := by
  pointwise [k0_pay16]

theorem pay97_apply (k : Vec Ideal S1x512x256 .bf16) (y : Fin 256) (r : Fin 512) : k0_pay97 k (ix2 y r) = k (ix3 0 r y) := by
  pointwise [k0_pay97, k0_pay96]

/-! The masked step of an even point. -/

/-- Whether lane `c` of the queries from row `1024 f + o` on is at or after row `r` of key block `j`, as the kernel asks it. -/
def seen (j f o : BitVec 32) (c r : ℕ) : BitVec 1 :=
  IntOp.cmpi .sge (IntOp.addi (Scalar.addi (Scalar.muli f 1024#32) o) (BitVec.ofNat 32 c)) (IntOp.addi (Scalar.muli j 512#32) (BitVec.ofNat 32 r))

theorem pay8_apply (j f : BitVec 32) (k : FVec Ideal S512x256 .bf16) (q : Vec Ideal S1x1024x256 .bf16) (l : Vec Ideal S1x1x1x1024 .f32)
    (r : Fin 512) (c : Fin 1024) :
    k0_pay8 j k f q l (ix2 r c) = Scalar.select (seen j f 0#32 c r)
      (FloatOps.exp2 (F := Ideal) (φ := .f32) ((∑ y : Fin 256, k (ix2 r y) * q (ix3 0 c y)) - l (ix4 0 0 0 c))) (0 : EReal) := by
  pointwise [k0_pay8, k0_pay6]; rfl

theorem pay9_apply (j f : BitVec 32) (k : FVec Ideal S512x256 .bf16) (q : Vec Ideal S1x1024x256 .bf16) (d : Vec Ideal S1024x128 .bf16)
    (l : Vec Ideal S1x1x1x1024 .f32) (z : Vec Ideal S1x512x128 .f32) (r : Fin 512) (y : Fin 128) :
    k0_pay9 j k f q d l z (ix3 0 r y) = z (ix3 0 r y) + ∑ c : Fin 1024, k0_pay8 j k f q l (ix2 r c) * d (ix2 c y) := by
  pointwise [k0_pay9, k0_pay7]

theorem pay103_apply (q : FVec Ideal S1024x256 .bf16) (w u : FVec Ideal S512x1024 .f32) (e : Vec Ideal S1x1x1x1024 .f32) (z : Vec Ideal S1x512x256 .f32)
    (r : Fin 512) (y : Fin 256) :
    k0_pay103 q w u e z (ix3 0 r y) = z (ix3 0 r y) + ∑ c : Fin 1024, w (ix2 r c) * (u (ix2 r c) - e (ix4 0 0 0 c)) * q (ix2 c y) := by
  pointwise [k0_pay103, k0_pay102]

theorem pay10_apply (v : FVec Ideal S512x128 .bf16) (d : Vec Ideal S1024x128 .bf16) (r : Fin 512) (c : Fin 1024) :
    k0_pay10 v d (ix2 r c) = ∑ y : Fin 128, v (ix2 r y) * d (ix2 c y) := by
  pointwise [k0_pay10, k0_pay7]

theorem pay104_apply (k : Vec Ideal S1x512x256 .bf16) (w u : FVec Ideal S512x1024 .f32) (e : Vec Ideal S1x1x1x1024 .f32) (z : Vec Ideal S1x256x1024 .f32)
    (y : Fin 256) (c : Fin 1024) :
    k0_pay104 k w u e z (ix3 0 y c) = z (ix3 0 y c) + ∑ r : Fin 512, k (ix3 0 r y) * (w (ix2 r c) * (u (ix2 r c) - e (ix4 0 0 0 c))) := by
  pointwise [k0_pay104, k0_pay102, k0_pay97, k0_pay96]

/-! The masked step of an odd point, on the block's later half. -/

theorem pay13_apply (j f : BitVec 32) (k : FVec Ideal S512x256 .bf16) (q : Vec Ideal S1x512x256 .bf16) (l : Vec Ideal S1x1x1x1024 .f32)
    (r c : Fin 512) :
    k0_pay13 j k f q l (ix2 r c) = Scalar.select (seen j f 512#32 c r)
      (FloatOps.exp2 (F := Ideal) (φ := .f32) ((∑ y : Fin 256, k (ix2 r y) * q (ix3 0 c y)) - l (ix4 0 0 0 ⟨512 + c, by omega⟩))) (0 : EReal) := by
  pointwise [k0_pay13, k0_pay11]; rfl

theorem pay14_apply (j f : BitVec 32) (k : FVec Ideal S512x256 .bf16) (q : Vec Ideal S1x512x256 .bf16) (d : Vec Ideal S512x128 .bf16)
    (l : Vec Ideal S1x1x1x1024 .f32) (z : Vec Ideal S1x512x128 .f32) (r : Fin 512) (y : Fin 128) :
    k0_pay14 j k f q d l z (ix3 0 r y) = z (ix3 0 r y) + ∑ c : Fin 512, k0_pay13 j k f q l (ix2 r c) * d (ix2 c y) := by
  pointwise [k0_pay14, k0_pay12]

theorem pay106_apply (q : FVec Ideal S512x256 .bf16) (w u : FVec Ideal S512x512 .f32) (e : Vec Ideal S1x1x1x1024 .f32) (z : Vec Ideal S1x512x256 .f32)
    (r : Fin 512) (y : Fin 256) :
    k0_pay106 q w u e z (ix3 0 r y) = z (ix3 0 r y)
      + ∑ c : Fin 512, w (ix2 r c) * (u (ix2 r c) - e (ix4 0 0 0 ⟨512 + c, by omega⟩)) * q (ix2 c y) := by
  pointwise [k0_pay106, k0_pay105]

theorem pay15_apply (v : FVec Ideal S512x128 .bf16) (d : Vec Ideal S512x128 .bf16) (r c : Fin 512) :
    k0_pay15 v d (ix2 r c) = ∑ y : Fin 128, v (ix2 r y) * d (ix2 c y) := by
  pointwise [k0_pay15, k0_pay12]

theorem pay107_apply (k : Vec Ideal S1x512x256 .bf16) (w u : FVec Ideal S512x512 .f32) (e : Vec Ideal S1x1x1x1024 .f32) (z : Vec Ideal S1x256x512 .f32)
    (y : Fin 256) (c : Fin 512) :
    k0_pay107 k w u e z (ix3 0 y c) = z (ix3 0 y c)
      + ∑ r : Fin 512, k (ix3 0 r y) * (w (ix2 r c) * (u (ix2 r c) - e (ix4 0 0 0 ⟨512 + c, by omega⟩))) := by
  pointwise [k0_pay107, k0_pay105, k0_pay97, k0_pay96]

/-! What a point starts from and what it writes out. -/

theorem pay99_apply (b : Fin 16) (y : Fin 256) (c : Fin 1024) : k0_pay99 (F := Ideal) (ix3 b y c) = 0 := by
  pointwise [k0_pay99]

theorem pay100_apply (r : Fin 512) (y : Fin 256) : k0_pay100 (F := Ideal) (ix3 0 r y) = 0 := by
  pointwise [k0_pay100]

theorem pay101_apply (r : Fin 512) (y : Fin 128) : k0_pay101 (F := Ideal) (ix3 0 r y) = 0 := by
  pointwise [k0_pay101]

theorem pay108_apply (z : Vec Ideal S1x256x1024 .f32) (c : Fin 1024) (y : Fin 256) : k0_pay108 z (ix3 0 c y) = z (ix3 0 y c) := by
  pointwise [k0_pay108]

theorem pay5_apply (z : Vec Ideal S1x512x256 .f32) (r : Fin 512) (y : Fin 256) :
    k0_pay5 z (ix3 0 r y) = z (ix3 0 r y) * ((Real.log 2 : ℝ) : EReal) := by
  pointwise [k0_pay5]
  congr 1

end Cert.Bwd
-- ==== Proof.Reals.lean ====
/- The steps of the backward kernel over the real numbers: one head's arrays as functions of row and lane, what a block of
   queries adds to a point's gradients, and that each step of the kernel, on finite inputs, adds it. -/
module

public import proofs.«01_k».proof.Proof.Point
public import proofs.«01_k».proof.Proof.Pay
public import Idealize.ShloMosaic.Lib.Pipeline.ValueKit

@[expose] public section

set_option maxRecDepth 16384

noncomputable section

namespace Cert.Bwd

open Cert.Att
open Cert.KernelIdeal Cert.KernelIdeal.Gen
open Idealize.ShloMosaic

/-- A finite sum of numbers, read among the extended ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_exp2 (φ : FTy) (x : ℝ) : FloatOps.exp2 (F := Ideal) (φ := φ) (x : EReal) = ((Real.rpow 2 x : ℝ) : EReal) := rfl

/-- One head's arrays as numbers: the scaled queries in base 2, the keys, the values, the output's cotangent, each row's
    log-sum in base 2 and each row's sum of output times cotangent. -/
structure Head where
  q : ℕ → ℕ → ℝ
  k : ℕ → ℕ → ℝ
  v : ℕ → ℕ → ℝ
  c : ℕ → ℕ → ℝ
  lse : ℕ → ℝ
  del : ℕ → ℝ

namespace Head
variable (D : Head)

/-- The weight of query row `a` on key row `b`. -/
def p (a b : ℕ) : ℝ := if b ≤ a then Real.rpow 2 ((∑ x : Fin 256, D.k b x * D.q a x) - D.lse a) else 0

/-- The gradient of the score of query row `a` and key row `b`. -/
def ds (a b : ℕ) : ℝ := D.p a b * ((∑ e : Fin 128, D.v b e * D.c a e) - D.del a)

/-- What query block `b` adds to the value gradient of key block `j`. -/
def pv (j b r e : ℕ) : ℝ := ∑ c : Fin 1024, D.p (1024 * b + c) (512 * j + r) * D.c (1024 * b + c) e

/-- What query block `b` adds to the key gradient of key block `j`. -/
def pk (j b r y : ℕ) : ℝ := ∑ c : Fin 1024, D.ds (1024 * b + c) (512 * j + r) * D.q (1024 * b + c) y

/-- What key block `j` adds to the query gradient of query block `b`. -/
def pq (j b y c : ℕ) : ℝ := ∑ r : Fin 512, D.k (512 * j + r) y * D.ds (1024 * b + c) (512 * j + r)

end Head

/-- The point's inputs are head `D`'s arrays, at key block `j`. -/
structure InsR (I : Ins Ideal) (j : ℕ) (D : Head) : Prop where
  k : ∀ (r : Fin 512) (x : Fin 256), I.k (ix3 0 r x) = (D.k (512 * j + r) x : EReal)
  v : ∀ (r : Fin 512) (x : Fin 128), I.v (ix3 0 r x) = (D.v (512 * j + r) x : EReal)
  q : ∀ (r : Fin 16384) (x : Fin 256), I.q (ix3 0 r x) = (D.q r x : EReal)
  d : ∀ (r : Fin 16384) (x : Fin 128), I.d (ix2 r x) = (D.c r x : EReal)
  l : ∀ (b : Fin 16) (c : Fin 1024), I.l (ix4 0 b 0 c) = (D.lse (1024 * b + c) : EReal)
  e : ∀ (b : Fin 16) (c : Fin 1024), I.e (ix4 0 b 0 c) = (D.del (1024 * b + c) : EReal)

/-- The state is these numbers. -/
structure StR (x : St Ideal) (A B : ℕ → ℕ → ℝ) (G : ℕ → ℕ → ℕ → ℝ) : Prop where
  dk : ∀ (r : Fin 512) (y : Fin 256), x.dk (ix3 0 r y) = (A r y : EReal)
  dv : ∀ (r : Fin 512) (y : Fin 128), x.dv (ix3 0 r y) = (B r y : EReal)
  sc : ∀ (b : Fin 16) (y : Fin 256) (c : Fin 1024), x.sc (ix3 b y c) = (G b y c : EReal)

theorem rd_rows3 {n w : ℕ} {α : Type} (N : ℕ) (o : ℕ) (h) (X : (⟨3, ![1, N, w]⟩ : Shape).Idx → α) (r : Fin n) (x : Fin w) (hr : o + r < N) :
    rd (Rect.unit (s := ⟨3, ![1, N, w]⟩) ![0, o, 0] ![1, n, w] h) X (ix3 0 r x) = X (ix3 0 ⟨o + r, hr⟩ x) := by
  unfold rd; congr 1; funext a; apply Fin.ext
  match a with
  | ⟨0, _⟩ => rfl
  | ⟨1, _⟩ => show o + 1 * (r : ℕ) = o + r; omega
  | ⟨2, _⟩ => show 0 + 1 * (x : ℕ) = x; omega

theorem rd_rows2 {n w : ℕ} {α : Type} (N : ℕ) (o : ℕ) (h) (X : (⟨2, ![N, w]⟩ : Shape).Idx → α) (r : Fin n) (x : Fin w) (hr : o + r < N) :
    rd (Rect.unit (s := ⟨2, ![N, w]⟩) ![o, 0] ![n, w] h) X (ix2 r x) = X (ix2 ⟨o + r, hr⟩ x) := by
  unfold rd; congr 1; funext a; apply Fin.ext
  match a with
  | ⟨0, _⟩ => show o + 1 * (r : ℕ) = o + r; omega
  | ⟨1, _⟩ => show 0 + 1 * (x : ℕ) = x; omega

theorem rd_lane4 {w : ℕ} {α : Type} (N : ℕ) (o : ℕ) (h) (X : (⟨4, ![1, N, 1, w]⟩ : Shape).Idx → α) (x : Fin w) (hr : o < N) :
    rd (Rect.unit (s := ⟨4, ![1, N, 1, w]⟩) ![0, o, 0, 0] ![1, 1, 1, w] h) X (ix4 0 0 0 x) = X (ix4 0 ⟨o, hr⟩ 0 x) := by
  unfold rd; congr 1; funext a; apply Fin.ext
  match a with
  | ⟨0, _⟩ => rfl
  | ⟨1, _⟩ => rfl
  | ⟨2, _⟩ => rfl
  | ⟨3, _⟩ => show 0 + 1 * (x : ℕ) = x; omega

theorem rd_block3 {n w : ℕ} {α : Type} (N M o lo : ℕ) (h) (X : (⟨3, ![N, w, M]⟩ : Shape).Idx → α) (y : Fin w) (c : Fin n) (ho : o < N)
    (hc : lo + c < M) :
    rd (Rect.unit (s := ⟨3, ![N, w, M]⟩) ![o, 0, lo] ![1, w, n] h) X (ix3 0 y c) = X (ix3 ⟨o, ho⟩ y ⟨lo + c, hc⟩) := by
  unfold rd; congr 1; funext a; apply Fin.ext
  match a with
  | ⟨0, _⟩ => rfl
  | ⟨1, _⟩ => show 0 + 1 * (y : ℕ) = y; omega
  | ⟨2, _⟩ => show lo + 1 * (c : ℕ) = lo + c; omega

/-- A store into lanes of one block of the scratch, inside them. -/
theorem wr_block3_in {n w : ℕ} {α : Type} (N M o lo : ℕ) (h) (X : (⟨3, ![N, w, M]⟩ : Shape).Idx → α) (W : (⟨3, ![1, w, n]⟩ : Shape).Idx → α)
    (y : Fin w) (c : Fin n) (ho : o < N) (hc : lo + c < M) :
    wr (Rect.unit (s := ⟨3, ![N, w, M]⟩) ![o, 0, lo] ![1, w, n] h) X W (ix3 ⟨o, ho⟩ y ⟨lo + c, hc⟩) = W (ix3 0 y c) := by
  rw [← wr_emb (Rect.unit (s := ⟨3, ![N, w, M]⟩) ![o, 0, lo] ![1, w, n] h) X W (ix3 0 y c)]
  congr 1; funext a; apply Fin.ext
  match a with
  | ⟨0, _⟩ => rfl
  | ⟨1, _⟩ => show (y : ℕ) = 0 + 1 * y; omega
  | ⟨2, _⟩ => show lo + (c : ℕ) = lo + 1 * c; omega

/-- A store into lanes of one block of the scratch, outside them. -/
theorem wr_block3_out {n w : ℕ} {α : Type} (N M o lo : ℕ) (h) (X : (⟨3, ![N, w, M]⟩ : Shape).Idx → α) (W : (⟨3, ![1, w, n]⟩ : Shape).Idx → α)
    (b : Fin N) (y : Fin w) (c : Fin M) (hn : (b : ℕ) ≠ o ∨ (c : ℕ) < lo) :
    wr (Rect.unit (s := ⟨3, ![N, w, M]⟩) ![o, 0, lo] ![1, w, n] h) X W (ix3 b y c) = X (ix3 b y c) := by
  apply wr_of_not
  rintro ⟨j, hj⟩
  have h0 : o + 1 * (j 0 : ℕ) = b := congrArg (fun i : (⟨3, ![N, w, M]⟩ : Shape).Idx => (i 0 : ℕ)) hj
  have h2 : lo + 1 * (j 2 : ℕ) = c := congrArg (fun i : (⟨3, ![N, w, M]⟩ : Shape).Idx => (i 2 : ℕ)) hj
  have : (j 0 : ℕ) < 1 := (j 0).isLt
  omega

/-! A rectangle's elements, its offsets given by an equation. -/

section Blocks
variable {I : Ins Ideal} {j : ℕ} {D : Head} {b o : ℕ}

theorem InsR.rd_q {n : ℕ} (hI : InsR I j D) {O : Fin 3 → ℕ} (e : O = ![0, o, 0]) (h) (ho : o + n ≤ 16384) (c : Fin n) (y : Fin 256) :
    rd (Rect.unit (s := S1x16384x256) O ![1, n, 256] h) I.q (ix3 0 c y) = (D.q (o + c) y : EReal) := by
  subst e; exact (rd_rows3 16384 o h I.q c y (by omega)).trans (hI.q _ _)

theorem InsR.rd_d {n : ℕ} (hI : InsR I j D) {O : Fin 2 → ℕ} (e : O = ![o, 0]) (h) (ho : o + n ≤ 16384) (c : Fin n) (y : Fin 128) :
    rd (Rect.unit (s := S16384x128) O ![n, 128] h) I.d (ix2 c y) = (D.c (o + c) y : EReal) := by
  subst e; exact (rd_rows2 16384 o h I.d c y (by omega)).trans (hI.d _ _)

theorem InsR.rd_l (hI : InsR I j D) {O : Fin 4 → ℕ} (e : O = ![0, b, 0, 0]) (h) (hb : b < 16) (c : Fin 1024) :
    rd (Rect.unit (s := S1x16x1x1024) O S1x1x1x1024.size h) I.l (ix4 0 0 0 c) = (D.lse (1024 * b + c) : EReal) := by
  subst e; exact (rd_lane4 16 b h I.l c hb).trans (hI.l _ _)

theorem InsR.rd_e (hI : InsR I j D) {O : Fin 4 → ℕ} (e : O = ![0, b, 0, 0]) (h) (hb : b < 16) (c : Fin 1024) :
    rd (Rect.unit (s := S1x16x1x1024) O S1x1x1x1024.size h) I.e (ix4 0 0 0 c) = (D.del (1024 * b + c) : EReal) := by
  subst e; exact (rd_lane4 16 b h I.e c hb).trans (hI.e _ _)

end Blocks

section Scratch
variable {o : ℕ} {O : Fin 3 → ℕ} (ho : o < 16) (X : Vec Ideal S16x256x1024 .f32)
include ho

theorem rd_sc (e : O = ![o, 0, 0]) (h) (y : Fin 256) (c : Fin 1024) :
    rd (Rect.unit (s := S16x256x1024) O S1x256x1024.size h) X (ix3 0 y c) = X (ix3 ⟨o, ho⟩ y c) := by
  subst e
  refine (rd_block3 16 1024 o 0 h X y c ho (by omega)).trans ?_
  congr 2; exact Fin.ext (Nat.zero_add _)

theorem rd_sc_half (e : O = ![o, 0, 512]) (h) (y : Fin 256) (c : Fin 512) :
    rd (Rect.unit (s := S16x256x1024) O S1x256x512.size h) X (ix3 0 y c) = X (ix3 ⟨o, ho⟩ y ⟨512 + c, by omega⟩) := by
  subst e; exact rd_block3 16 1024 o 512 h X y c ho (by omega)

theorem wr_sc (e : O = ![o, 0, 0]) (h) (W : Vec Ideal S1x256x1024 .f32) (b : Fin 16) (y : Fin 256) (c : Fin 1024) :
    wr (Rect.unit (s := S16x256x1024) O S1x256x1024.size h) X W (ix3 b y c)
      = if (b : ℕ) = o then W (ix3 0 y c) else X (ix3 b y c) := by
  subst e
  split
  · rename_i hb
    obtain rfl : b = ⟨o, ho⟩ := Fin.ext hb
    refine Eq.trans ?_ (wr_block3_in (n := 1024) 16 1024 o 0 h X W y c ho (by omega))
    congr 2; exact Fin.ext (Nat.zero_add _).symm
  · rename_i hb
    exact wr_block3_out (n := 1024) 16 1024 o 0 h X W b y c (.inl hb)

theorem wr_sc_half (e : O = ![o, 0, 512]) (h) (W : Vec Ideal S1x256x512 .f32) (b : Fin 16) (y : Fin 256) (c : Fin 1024) :
    wr (Rect.unit (s := S16x256x1024) O S1x256x512.size h) X W (ix3 b y c)
      = if hc : (b : ℕ) = o ∧ 512 ≤ (c : ℕ) then W (ix3 0 y ⟨c - 512, by omega⟩) else X (ix3 b y c) := by
  subst e
  split
  · rename_i hb
    obtain rfl : b = ⟨o, ho⟩ := Fin.ext hb.1
    have hlt : 512 + (c.val - 512) < 1024 := by omega
    refine Eq.trans ?_ (wr_block3_in (n := 512) 16 1024 o 512 h X W y ⟨c - 512, by omega⟩ ho hlt)
    congr 2; exact Fin.ext (by show (c : ℕ) = 512 + (c - 512); omega)
  · rename_i hb
    exact wr_block3_out (n := 512) 16 1024 o 512 h X W b y c (by omega)

end Scratch

theorem sle_ofNat {a b : ℕ} (ha : a < 2 ^ 31) (hb : b < 2 ^ 31) : (BitVec.ofNat 32 a).sle (BitVec.ofNat 32 b) = decide (a ≤ b) := by
  rw [BitVec.sle]
  congr 1
  rw [BitVec.toInt_eq_toNat_of_lt, BitVec.toInt_eq_toNat_of_lt, BitVec.toNat_ofNat, BitVec.toNat_ofNat, Nat.mod_eq_of_lt, Nat.mod_eq_of_lt]
  · exact propext Int.ofNat_le
  all_goals first | omega | (simp only [BitVec.toNat_ofNat]; omega)

/-- The kernel's question on words, as one on numbers. -/
theorem seen_eq {j f c r : ℕ} (o : ℕ) (hj : j < 32) (hf : f < 16) (ho : o ≤ 512) (hc : c < 1024) (hr : r < 512) :
    seen (BitVec.ofNat 32 j) (BitVec.ofNat 32 f) (BitVec.ofNat 32 o) c r = BitVec.ofBool (decide (512 * j + r ≤ 1024 * f + (o + c))) := by
  have e1 : IntOp.addi (Scalar.addi (Scalar.muli (BitVec.ofNat 32 f) 1024#32) (BitVec.ofNat 32 o)) (BitVec.ofNat 32 c) = BitVec.ofNat 32 (1024 * f + (o + c)) := by
    show BitVec.ofNat 32 f * BitVec.ofNat 32 1024 + BitVec.ofNat 32 o + BitVec.ofNat 32 c = _
    rw [← BitVec.ofNat_mul, ← BitVec.ofNat_add, ← BitVec.ofNat_add, mul_comm, add_assoc]
  have e2 : IntOp.addi (Scalar.muli (BitVec.ofNat 32 j) 512#32) (BitVec.ofNat 32 r) = BitVec.ofNat 32 (512 * j + r) := by
    show BitVec.ofNat 32 j * BitVec.ofNat 32 512 + BitVec.ofNat 32 r = _
    rw [← BitVec.ofNat_mul, ← BitVec.ofNat_add, mul_comm]
  rw [seen, e1, e2]
  show BitVec.ofBool ((BitVec.ofNat 32 _).sle (BitVec.ofNat 32 _)) = _
  rw [sle_ofNat (by omega) (by omega)]

/-- A masked weight. -/
theorem select_coe (P : Prop) [Decidable P] (x : ℝ) :
    Scalar.select (BitVec.ofBool (decide P)) (x : EReal) (0 : EReal) = ((if P then x else 0 : ℝ) : EReal) := by
  by_cases h : P <;> simp [h, Scalar.select]

section Step
variable {I : Ins Ideal} {j : ℕ} {D : Head} {x : St Ideal} {A B : ℕ → ℕ → ℝ} {G : ℕ → ℕ → ℕ → ℝ} {b : ℕ}

/-- A step off the diagonal adds its block. -/
theorem StR.step (hI : InsR I j D) (hx : StR x A B G) (hb : b < 16) (hj : j < 2 * b)
    {o4 : Fin 3 → ℕ} {h4} {o5 : Fin 2 → ℕ} {h5} {o6 : Fin 4 → ℕ} {h6} {o11 : Fin 3 → ℕ} {h11}
    (e4 : o4 = ![0, 1024 * b, 0]) (e5 : o5 = ![1024 * b, 0]) (e6 : o6 = ![0, b, 0, 0]) (e11 : o11 = ![b, 0, 0]) :
    StR (stepSt I (k0_pay96 I.k) (k0_pay97 I.k) (k0_pay98 I.v) o4 h4 o5 h5 o6 h6 o11 h11 x)
      (fun r y => A r y + D.pk j b r y) (fun r y => B r y + D.pv j b r y)
      (fun b' y c => G b' y c + if b' = b then D.pq j b y c else 0) := by
  have q := hI.rd_q e4 h4 (by omega)
  have d := hI.rd_d e5 h5 (by omega)
  have l := hI.rd_l e6 h6 hb
  have e := hI.rd_e e6 h6 hb
  have hp (c : Fin 1024) (r : Fin 512) : D.p (1024 * b + c) (512 * j + r)
      = Real.rpow 2 ((∑ x : Fin 256, D.k (512 * j + r) x * D.q (1024 * b + c) x) - D.lse (1024 * b + c)) := if_pos (by omega)
  have hs (c : Fin 1024) (r : Fin 512) : k0_pay20 (k0_pay96 I.k) (k0_pay98 I.v)
      (rd (Rect.unit (s := S1x16384x256) o4 S1x1024x256.size h4) I.q)
      (rd (Rect.unit (s := S16384x128) o5 S1024x128.size h5) I.d) (rd (Rect.unit (s := S1x16x1x1024) o6 S1x1x1x1024.size h6) I.l)
      (rd (Rect.unit (s := S1x16x1x1024) o6 S1x1x1x1024.size h6) I.e) (ix2 r c) = (D.ds (1024 * b + c) (512 * j + r) : EReal) := by
    rw [pay20_apply]
    simp only [pay96_apply, pay98_apply, q, d, l, e, hI.k, hI.v, ← EReal.coe_sub, coe_exp2, ← EReal.coe_mul, ← coe_sum]
    rw [Head.ds, hp]
  refine ⟨fun r y => ?_, fun r y => ?_, fun b' y c => ?_⟩ <;> dsimp only [stepSt]
  · rw [pay22_apply]
    simp only [pay16_apply, hx.dk, hs, q, ← EReal.coe_mul, ← coe_sum, ← EReal.coe_add]; rfl
  · rw [pay19_apply]
    simp only [pay96_apply, hx.dv, q, d, l, hI.k, ← EReal.coe_sub, coe_exp2, ← EReal.coe_mul, ← coe_sum, ← EReal.coe_add, ← hp]; rfl
  · rw [wr_sc hb _ e11]
    split
    · rename_i hbb
      rw [pay23_apply, rd_sc hb _ e11]
      simp only [pay97_apply, hx.sc, hs, hI.k, ← EReal.coe_mul, ← coe_sum, ← EReal.coe_add, hbb]; rfl
    · rw [hx.sc, add_zero]

/-- The masked step of an even point adds the diagonal block. -/
theorem StR.full {i : grid0.Coords} (hi : (i 1 : ℕ) = j) (h : k0_cond2 i = 1#1) (hI : InsR I j D) (hx : StR x A B G) (hb : b < 16)
    (hj : j < 32) (hf : fw i = BitVec.ofNat 32 b)
    (e1 : k0_off1 i = ![0, 1024 * b, 0]) (e2 : k0_off2 i = ![1024 * b, 0]) (e3 : k0_off3 i = ![0, b, 0, 0]) (e4 : k0_off4 i = ![b, 0, 0]) :
    StR (fullSt i I h x) (fun r y => A r y + D.pk j b r y) (fun r y => B r y + D.pv j b r y)
      (fun b' y c => G b' y c + if b' = b then D.pq j b y c else 0) := by
  have q := hI.rd_q e1 (k0_off1_inb i h) (by omega)
  have d := hI.rd_d e2 (k0_off2_inb i h) (by omega)
  have l := hI.rd_l e3 (k0_off3_inb i h) hb
  have e := hI.rd_e e3 (k0_off3_inb i h) hb
  have hs (c : Fin 1024) (r : Fin 512) : k0_pay8 (jw i) (k0_pay96 I.k) (fw i)
      (rd (Rect.unit (s := S1x16384x256) (k0_off1 i) S1x1024x256.size (k0_off1_inb i h)) I.q)
      (rd (Rect.unit (s := S1x16x1x1024) (k0_off3 i) S1x1x1x1024.size (k0_off3_inb i h)) I.l) (ix2 r c)
      = (D.p (1024 * b + c) (512 * j + r) : EReal) := by
    have hsn := seen_eq (j := j) (f := b) (c := c) (r := r) 0 hj hb (by omega) c.isLt r.isLt
    rw [Nat.zero_add] at hsn
    rw [pay8_apply, jw, hi, hf, hsn]
    simp only [pay96_apply, q, l, hI.k, ← EReal.coe_sub, coe_exp2, ← EReal.coe_mul, ← coe_sum]
    exact select_coe _ _
  refine ⟨fun r y => ?_, fun r y => ?_, fun b' y c => ?_⟩ <;> dsimp only [fullSt]
  · rw [pay103_apply]
    simp only [pay6_apply, pay10_apply, pay98_apply, hx.dk, hs, q, d, e, hI.v, ← EReal.coe_mul, ← coe_sum, ← EReal.coe_sub, ← EReal.coe_add]; rfl
  · rw [pay9_apply]
    simp only [hx.dv, hs, d, ← EReal.coe_mul, ← coe_sum, ← EReal.coe_add]; rfl
  · rw [wr_sc hb _ e4]
    split
    · rename_i hbb
      rw [pay104_apply, rd_sc hb _ e4]
      simp only [pay10_apply, pay98_apply, hx.sc, hs, d, e, hI.k, hI.v, ← EReal.coe_mul, ← coe_sum, ← EReal.coe_sub, ← EReal.coe_add, hbb]; rfl
    · rw [hx.sc, add_zero]

/-- A sum over a block of queries of which only the later half counts. -/
theorem sum_half (f : ℕ → ℝ) (h0 : ∀ c < 512, f c = 0) : ∑ c : Fin 1024, f c = ∑ c : Fin 512, f (512 + c) := by
  rw [Fin.sum_univ_add (a := 512) (b := 512) (fun c : Fin (512 + 512) => f c)]
  simp only [Fin.val_castAdd, Fin.val_natAdd]
  rw [Finset.sum_eq_zero (fun (c : Fin 512) _ => h0 c c.isLt), zero_add]

/-- The masked step of an odd point, on the later half of the diagonal block, adds the block: the earlier half weighs nothing. -/
theorem StR.half {i : grid0.Coords} (hi : (i 1 : ℕ) = j) (h : k0_cond3 i = 1#1) (hI : InsR I j D) (hx : StR x A B G) (hb : b < 16)
    (hj : j < 32) (hjb : j = 2 * b + 1) (hf : fw i = BitVec.ofNat 32 b)
    (e1 : k0_off5 i = ![0, 1024 * b + 512, 0]) (e2 : k0_off6 i = ![1024 * b + 512, 0]) (e3 : k0_off7 i = ![0, b, 0, 0]) (e4 : k0_off8 i = ![b, 0, 512]) :
    StR (halfSt i I h x) (fun r y => A r y + D.pk j b r y) (fun r y => B r y + D.pv j b r y)
      (fun b' y c => G b' y c + if b' = b then D.pq j b y c else 0) := by
  have q := hI.rd_q e1 (k0_off5_inb i h) (by omega)
  have d := hI.rd_d e2 (k0_off6_inb i h) (by omega)
  have l := hI.rd_l e3 (k0_off7_inb i h) hb
  have e := hI.rd_e e3 (k0_off7_inb i h) hb
  have hs (c : Fin 512) (r : Fin 512) : k0_pay13 (jw i) (k0_pay96 I.k) (fw i)
      (rd (Rect.unit (s := S1x16384x256) (k0_off5 i) S1x512x256.size (k0_off5_inb i h)) I.q)
      (rd (Rect.unit (s := S1x16x1x1024) (k0_off7 i) S1x1x1x1024.size (k0_off7_inb i h)) I.l) (ix2 r c)
      = (D.p (1024 * b + (512 + c)) (512 * j + r) : EReal) := by
    rw [pay13_apply, jw, hi, hf, seen_eq 512 hj hb le_rfl (by omega) r.isLt]
    simp only [pay96_apply, q, l, hI.k, ← EReal.coe_sub, coe_exp2, ← EReal.coe_mul, ← coe_sum]
    rw [select_coe, Head.p, add_assoc]
  have hp0 (c : ℕ) (hc : c < 512) (r : Fin 512) : D.p (1024 * b + c) (512 * j + r) = 0 := if_neg (by omega)
  have hd0 (c : ℕ) (hc : c < 512) (r : Fin 512) : D.ds (1024 * b + c) (512 * j + r) = 0 := by rw [Head.ds, hp0 c hc, zero_mul]
  have hk (r : Fin 512) (y : Fin 256) : D.pk j b r y = ∑ c : Fin 512, D.ds (1024 * b + (512 + c)) (512 * j + r) * D.q (1024 * b + (512 + c)) y :=
    sum_half (fun c => D.ds (1024 * b + c) (512 * j + r) * D.q (1024 * b + c) y) fun c hc => by rw [hd0 c hc, zero_mul]
  have hv (r : Fin 512) (y : Fin 128) : D.pv j b r y = ∑ c : Fin 512, D.p (1024 * b + (512 + c)) (512 * j + r) * D.c (1024 * b + (512 + c)) y :=
    sum_half (fun c => D.p (1024 * b + c) (512 * j + r) * D.c (1024 * b + c) y) fun c hc => by rw [hp0 c hc, zero_mul]
  refine ⟨fun r y => ?_, fun r y => ?_, fun b' y c => ?_⟩ <;> dsimp only [halfSt]
  · rw [pay106_apply, hk]
    simp only [pay11_apply, pay15_apply, pay98_apply, hx.dk, hs, q, d, e, hI.v, ← EReal.coe_mul, ← coe_sum, ← EReal.coe_sub, ← EReal.coe_add, add_assoc]; rfl
  · rw [pay14_apply, hv]
    simp only [hx.dv, hs, d, ← EReal.coe_mul, ← coe_sum, ← EReal.coe_add, add_assoc]
  · rw [wr_sc_half hb _ e4]
    split
    · rename_i hbb
      rw [pay107_apply, rd_sc_half hb _ e4]
      have hcc : 512 + ((c : ℕ) - 512) = c := by omega
      simp only [pay15_apply, pay98_apply, hx.sc, hs, d, e, hI.k, hI.v, ← EReal.coe_mul, ← coe_sum, ← EReal.coe_sub, ← EReal.coe_add, hbb.1, add_assoc, hcc, if_true]
      rfl
    · rename_i hbb
      rw [hx.sc]
      split
      · rename_i hbe
        rw [show D.pq j b y c = 0 from Finset.sum_eq_zero fun r _ => by rw [hd0 c (by omega), mul_zero], add_zero]
      · rw [add_zero]

end Step

end Cert.Bwd
-- ==== Proof.PointR.lean ====
/- A grid point of the backward kernel over the real numbers: from the scratch's contents, what the point leaves in the key
   and value gradients' blocks, in the scratch and, at an odd point, in the query gradient's block. -/
module

public import proofs.«01_k».proof.Proof.Offsets
public import proofs.«01_k».proof.Proof.Reals

@[expose] public section

set_option maxRecDepth 16384

noncomputable section

namespace Cert.Bwd

open Cert.Att
open Cert.KernelIdeal Cert.KernelIdeal.Gen
open Idealize.ShloMosaic
/-! ## The loops -/

/-- A fold of steps that each add to the state adds their sum. -/
theorem StR.fold {n : ℕ} (f : Fin n → St Ideal → St Ideal) (P Q : Fin n → ℕ → ℕ → ℝ) (R : Fin n → ℕ → ℕ → ℕ → ℝ)
    (hf : ∀ t x A B G, StR x A B G → StR (f t x) (fun r y => A r y + P t r y) (fun r y => B r y + Q t r y) (fun b y c => G b y c + R t b y c))
    {x : St Ideal} {A B : ℕ → ℕ → ℝ} {G : ℕ → ℕ → ℕ → ℝ} (hx : StR x A B G) :
    StR ((List.finRange n).foldl (fun x t => f t x) x) (fun r y => A r y + ∑ t, P t r y) (fun r y => B r y + ∑ t, Q t r y)
      (fun b y c => G b y c + ∑ t, R t b y c) := by
  simp only [Fin.sum_univ_def]
  generalize List.finRange n = l
  induction l generalizing x A B G with
  | nil => simpa using hx
  | cons t l ih =>
    simp only [List.foldl_cons, List.map_cons, List.sum_cons, ← add_assoc]
    exact ih (hf t x A B G hx)

/-- Four consecutive blocks a trip. -/
theorem sum_fours (φ : ℕ → ℝ) (n : ℕ) : ∑ t : Fin n, (φ (4 * t) + φ (4 * t + 1) + φ (4 * t + 2) + φ (4 * t + 3)) = ∑ b ∈ Finset.range (4 * n), φ b := by
  rw [Fin.sum_univ_eq_sum_range (fun t => φ (4 * t) + φ (4 * t + 1) + φ (4 * t + 2) + φ (4 * t + 3)) n]
  induction n with
  | zero => rfl
  | succ n ih =>
    rw [Finset.sum_range_succ, ih, show 4 * (n + 1) = 4 * n + 1 + 1 + 1 + 1 by omega]
    simp only [Finset.sum_range_succ, ← add_assoc]

/-- Four consecutive blocks from `b` on. -/
def fours (φ : ℕ → ℝ) (b : ℕ) : ℝ := φ (b + 0) + φ (b + 1) + φ (b + 2) + φ (b + 3)

/-- The diagonal block, the main loop's and the rest are all blocks from the diagonal on. -/
theorem sum_blocks (φ : ℕ → ℝ) {f : ℕ} (hf : f < 16) (h0 : ∀ b < f, φ b = 0) {n m : ℕ} (hn : n = (15 - f) / 4) (hm : m = (15 - f) % 4) :
    φ f + ∑ t : Fin n, fours φ (f + 1 + 4 * t) + ∑ t : Fin m, φ (16 - (15 - f) % 4 + t) = ∑ b ∈ Finset.range 16, φ b := by
  have e16 : 16 = f + (1 + (4 * n + m)) := by omega
  have h1 := sum_fours (fun b => φ (f + 1 + b)) n
  simp only [fours, add_zero, add_assoc] at h1 ⊢
  rw [h1]
  conv_rhs => rw [e16, Finset.sum_range_add, Finset.sum_eq_zero fun b hb => h0 b (Finset.mem_range.mp hb), zero_add, Finset.sum_range_add,
    Finset.sum_range_one, Finset.sum_range_add]
  rw [Fin.sum_univ_eq_sum_range (fun t => φ (16 - (15 - f) % 4 + t)) m, add_zero]
  congr 2
  refine Finset.sum_congr rfl fun t _ => congrArg φ ?_
  omega

/-! ## The point -/

section Point
variable {i : grid0.Coords} {I : Ins Ideal} {D : Head} {s : Vec Ideal S16x256x1024 .f32} {G : ℕ → ℕ → ℕ → ℝ}

/-- What a point starts from: nothing at a head's first. -/
def start (j : ℕ) (G : ℕ → ℕ → ℕ → ℝ) (b y c : ℕ) : ℝ := if j = 0 then 0 else G b y c

theorem masked_StR (hI : InsR I (i 1) D) (hs : (i 1).val ≠ 0 → ∀ (b : Fin 16) (y : Fin 256) (c : Fin 1024), s (ix3 b y c) = (G b y c : EReal)) :
    StR (maskedSt i I s) (D.pk (i 1) ((i 1).val / 2)) (D.pv (i 1) ((i 1).val / 2))
      (fun b' y c => start (i 1) G b' y c + if b' = (i 1).val / 2 then D.pq (i 1) ((i 1).val / 2) y c else 0) := by
  have hj : (i 1).val < 32 := (i 1).isLt
  obtain ⟨hf, o1, o2, o3, o4, o5, o6, o7, o8, _, c1, c2, c3⟩ := off_masked i
  have h0 : StR { dk := k0_pay100 (F := Ideal), dv := k0_pay101 (F := Ideal), sc := if cond1 i = 1#1 then k0_pay99 (F := Ideal) else s } (fun _ _ => 0) (fun _ _ => 0) (start (i 1) G) := by
    refine ⟨fun r y => pay100_apply r y, fun r y => pay101_apply r y, fun b y c => ?_⟩
    show (if cond1 i = 1#1 then k0_pay99 (F := Ideal) else s) _ = _
    unfold start
    by_cases h : (i 1).val = 0
    · rw [if_pos (c1.mpr h), if_pos h]; exact pay99_apply b y c
    · rw [if_neg (fun e => h (c1.mp e)), if_neg h]; exact hs h b y c
  unfold maskedSt
  by_cases h : (i 1).val % 2 = 0
  · have n3 : ¬ k0_cond3 i = 1#1 := fun e => by have := c3.mp e; omega
    rw [dif_neg n3, dif_pos (c2.mpr h)]
    have := h0.full rfl (c2.mpr h) hI (by omega) hj hf o1 o2 o3 o4
    simpa only [zero_add] using this
  · have n2 : ¬ k0_cond2 i = 1#1 := fun e => h (c2.mp e)
    have p3 : k0_cond3 i = 1#1 := c3.mpr (by omega)
    rw [dif_pos p3, dif_neg n2]
    have := h0.half rfl p3 hI (by omega) hj (by omega) hf o5 o6 o7 o8
    simpa only [zero_add] using this

/-- Query blocks before the diagonal weigh nothing. -/
theorem ds_before {j b r : ℕ} (hb : b < j / 2) (c : Fin 1024) : D.ds (1024 * b + c) (512 * j + r) = 0 := by
  rw [Head.ds, Head.p, if_neg (by omega), zero_mul]

theorem pk_before {j b r y : ℕ} (hb : b < j / 2) : D.pk j b r y = 0 :=
  Finset.sum_eq_zero fun c _ => by rw [ds_before hb, zero_mul]

theorem pv_before {j b r y : ℕ} (hb : b < j / 2) : D.pv j b r y = 0 :=
  Finset.sum_eq_zero fun c _ => by rw [Head.p, if_neg (by omega), zero_mul]

theorem pq_before {j b y : ℕ} (hb : b < j / 2) (c : Fin 1024) : D.pq j b y c = 0 :=
  Finset.sum_eq_zero fun r _ => by rw [ds_before hb, mul_zero]

/-- Blocks after the diagonal, in either loop. -/
theorem step1_StR (hI : InsR I (i 1) D) (t : Fin (k0_t1_loop i).trips) (u : Fin 4) {x : St Ideal} {A B : ℕ → ℕ → ℝ} {G : ℕ → ℕ → ℕ → ℝ}
    (hx : StR x A B G) {b : ℕ} (hb : b = (i 1).val / 2 + 1 + 4 * t + u) :
    StR (step1St i I t u x) (fun r y => A r y + D.pk (i 1) b r y) (fun r y => B r y + D.pv (i 1) b r y)
      (fun b' y c => G b' y c + if b' = b then D.pq (i 1) b y c else 0) := by
  have ht := lt_of_lt_of_eq t.isLt (trips1 i)
  have hj : (i 1).val < 32 := (i 1).isLt
  subst hb
  obtain ⟨o1, o2, o3, o4⟩ := off_t1 i t u
  exact hx.step hI (by omega) (by omega) o1 o2 o3 o4

theorem step3_StR (hI : InsR I (i 1) D) (t : Fin (k0_t3_loop i).trips) {x : St Ideal} {A B : ℕ → ℕ → ℝ} {G : ℕ → ℕ → ℕ → ℝ}
    (hx : StR x A B G) :
    StR (step3St i I t x) (fun r y => A r y + D.pk (i 1) (16 - (15 - (i 1).val / 2) % 4 + t) r y)
      (fun r y => B r y + D.pv (i 1) (16 - (15 - (i 1).val / 2) % 4 + t) r y)
      (fun b' y c => G b' y c + if b' = 16 - (15 - (i 1).val / 2) % 4 + t then D.pq (i 1) (16 - (15 - (i 1).val / 2) % 4 + t) y c else 0) := by
  have ht := lt_of_lt_of_eq t.isLt (trips3 i)
  have hj : (i 1).val < 32 := (i 1).isLt
  obtain ⟨o1, o2, o3, o4⟩ := off_t3 i t
  exact hx.step hI (by omega) (by omega) o1 o2 o3 o4

set_option maxHeartbeats 1000000 in
/-- The point leaves the sums over all query blocks in the gradients' blocks, and adds its key block's part to the scratch. -/
theorem point_StR (hI : InsR I (i 1) D) (hs : (i 1).val ≠ 0 → ∀ (b : Fin 16) (y : Fin 256) (c : Fin 1024), s (ix3 b y c) = (G b y c : EReal)) :
    StR (pointSt i I s) (fun r y => (∑ b ∈ Finset.range 16, D.pk (i 1) b r y) * Real.log 2) (fun r y => ∑ b ∈ Finset.range 16, D.pv (i 1) b r y)
      (fun b y c => start (i 1) G b y c + ∑ b' ∈ Finset.range 16, if b = b' then D.pq (i 1) b' y c else 0) := by
  have hj : (i 1).val < 32 := (i 1).isLt
  have hf : (i 1).val / 2 < 16 := by omega
  have h1 := (masked_StR hI hs).fold (fun t x => step1St i I t 3 (step1St i I t 2 (step1St i I t 1 (step1St i I t 0 x))))
    (fun t r y => fours (fun b => D.pk (i 1) b r y) ((i 1).val / 2 + 1 + 4 * t)) (fun t r y => fours (fun b => D.pv (i 1) b r y) ((i 1).val / 2 + 1 + 4 * t))
    (fun t b y c => fours (fun b' => if b = b' then D.pq (i 1) b' y c else 0) ((i 1).val / 2 + 1 + 4 * t))
    (fun t x A B G hx => by
      have := step1_StR hI t 3 (b := (i 1).val / 2 + 1 + 4 * t + 3) (step1_StR hI t 2 (b := (i 1).val / 2 + 1 + 4 * t + 2)
        (step1_StR hI t 1 (b := (i 1).val / 2 + 1 + 4 * t + 1) (step1_StR hI t 0 (b := (i 1).val / 2 + 1 + 4 * t + 0) hx rfl) rfl) rfl) rfl
      simp only [fours, ← add_assoc (_ : ℝ)]
      exact this)
  have h2 := h1.fold (fun t x => step3St i I t x) (fun t r y => D.pk (i 1) (16 - (15 - (i 1).val / 2) % 4 + t) r y)
    (fun t r y => D.pv (i 1) (16 - (15 - (i 1).val / 2) % 4 + t) r y)
    (fun t b y c => if b = 16 - (15 - (i 1).val / 2) % 4 + t then D.pq (i 1) (16 - (15 - (i 1).val / 2) % 4 + t) y c else 0)
    (fun t x A B G hx => step3_StR hI t hx)
  have hl : StR (loopsSt i I (maskedSt i I s)) (fun r y => ∑ b ∈ Finset.range 16, D.pk (i 1) b r y) (fun r y => ∑ b ∈ Finset.range 16, D.pv (i 1) b r y)
      (fun b y c => start (i 1) G b y c + ∑ b' ∈ Finset.range 16, if b = b' then D.pq (i 1) b' y c else 0) := by
    unfold loopsSt
    generalize List.foldl _ _ _ = z at h2 ⊢
    refine ⟨fun r y => (h2.dk r y).trans (congrArg (fun z : ℝ => (z : EReal)) ?_), fun r y => (h2.dv r y).trans (congrArg (fun z : ℝ => (z : EReal)) ?_), fun b y c => (h2.sc b y c).trans (congrArg (fun z : ℝ => (z : EReal)) ?_)⟩
    · exact sum_blocks (fun b => D.pk (i 1) b r y) hf (fun b hb => pk_before hb) (trips1 i) (trips3 i)
    · exact sum_blocks (fun b => D.pv (i 1) b r y) hf (fun b hb => pv_before hb) (trips1 i) (trips3 i)
    · dsimp only
      rw [← sum_blocks (fun b' => if (b : ℕ) = b' then D.pq (i 1) b' y c else 0) hf (fun b hb => by rw [pq_before hb]; exact ite_self _) (trips1 i) (trips3 i)]
      simp only [add_assoc]
  refine ⟨fun r y => ?_, hl.dv, hl.sc⟩
  refine (pay5_apply _ r y).trans ?_
  rw [hl.dk, ← EReal.coe_mul]

/-- The scratch after a point. -/
theorem point_sc (hI : InsR I (i 1) D) (hs : (i 1).val ≠ 0 → ∀ (b : Fin 16) (y : Fin 256) (c : Fin 1024), s (ix3 b y c) = (G b y c : EReal))
    (b : Fin 16) (y : Fin 256) (c : Fin 1024) : (pointSt i I s).sc (ix3 b y c) = ((start (i 1) G b y c + D.pq (i 1) b y c : ℝ) : EReal) := by
  rw [(point_StR hI hs).sc, Finset.sum_ite_eq, if_pos (Finset.mem_range.mpr b.isLt)]

/-- The query gradient's block an odd point writes. -/
theorem point_dq (hI : InsR I (i 1) D) (hs : (i 1).val ≠ 0 → ∀ (b : Fin 16) (y : Fin 256) (c : Fin 1024), s (ix3 b y c) = (G b y c : EReal))
    (ho : (i 1).val % 2 = 1) (z : Vec Ideal S1x1024x256 .f32) (c : Fin 1024) (y : Fin 256) :
    pointDq i I s z (ix3 0 c y) = ((G ((i 1).val / 2) y c + D.pq (i 1) ((i 1).val / 2) y c : ℝ) : EReal) := by
  have hj : (i 1).val < 32 := (i 1).isLt
  obtain ⟨hf, o1, o2, o3, o4, o5, o6, o7, o8, o9, c1, c2, c3⟩ := off_masked i
  unfold pointDq
  rw [dif_pos (c3.mpr ho)]
  unfold outDq
  rw [pay108_apply, rd_sc (o := (i 1).val / 2) (by omega) _ o9, (masked_StR hI hs).sc]
  rw [if_pos rfl, start, if_neg (by omega)]

end Point

end Cert.Bwd
-- ==== Proof.Arrays.lean ====
/- The arrays the backward kernel writes, over the real numbers: from the six arrays it is handed, read as numbers, the blocks of
   every grid point, the scratch from point to point, and the three gradients. -/
module

public import proofs.«01_k».proof.Proof.Run
public import proofs.«01_k».proof.Proof.PointR
public import Idealize.ShloMosaic.Lib.Pipeline.ValueKit

@[expose] public section

set_option maxRecDepth 65536

noncomputable section

namespace Cert.Bwd

open Cert.Att
open Cert.KernelIdeal Cert.KernelIdeal.Gen
open Idealize.ShloMosaic Idealize.ShloMosaic.TcCoe Idealize.SL.Sem

/-- A grid point's head and key block. -/
theorem coords_eq : ∀ t : Fin cfg0.N, (grid0.coords t 0).val = t.val / 32 ∧ (grid0.coords t 1).val = t.val % 32 := by decide +kernel

/-- Where the windows stand at a grid point. -/
theorem idx : ∀ t : Fin cfg0.N, win0_0.index t = ![t.val / 32, t.val % 32, 0] ∧ win0_1.index t = ![t.val / 32, t.val % 32, 0]
    ∧ win0_2.index t = ![t.val / 32, 0, 0] ∧ win0_3.index t = ![0, t.val / 32] ∧ win0_4.index t = ![t.val / 32, 0, 0, 0]
    ∧ win0_5.index t = ![t.val / 32, 0, 0, 0] ∧ win0_6.index t = ![t.val / 32, t.val % 32, 0]
    ∧ win0_7.index t = ![t.val / 32, t.val % 32, 0] ∧ win0_8.index t = ![t.val / 32, t.val % 32 / 2, 0] := by decide +kernel

variable (m : (ℓ : Loc nD τ sig) → Buf (Elt Ideal) ℓ) (c : Dev nD)

/-! The six arrays the kernel is handed. -/

def kA : Vec Ideal S8x16384x256 .bf16 := V m c main_v39
def vA : Vec Ideal S8x16384x128 .bf16 := V m c main_v42
def qA : Vec Ideal S8x16384x256 .bf16 := V m c main_v36
def dA : Vec Ideal S16384x1024 .bf16 := V m c main_v44
def lA : Vec Ideal S8x16x1x1024 .f32 := V m c main_v45
def eA : Vec Ideal S8x16x1x1024 .f32 := V m c main_v46

/-- The six arrays are the heads' numbers. -/
structure ArrR (D : ℕ → Head) : Prop where
  k : ∀ (h : Fin 8) (s : Fin 16384) (x : Fin 256), kA m c (ix3 h s x) = ((D h).k s x : EReal)
  v : ∀ (h : Fin 8) (s : Fin 16384) (x : Fin 128), vA m c (ix3 h s x) = ((D h).v s x : EReal)
  q : ∀ (h : Fin 8) (s : Fin 16384) (x : Fin 256), qA m c (ix3 h s x) = ((D h).q s x : EReal)
  d : ∀ (h : Fin 8) (s : Fin 16384) (x : Fin 128), dA m c (ix2 s ⟨h * 128 + x, by omega⟩) = ((D h).c s x : EReal)
  l : ∀ (h : Fin 8) (b : Fin 16) (z : Fin 1024), lA m c (ix4 h b 0 z) = ((D h).lse (1024 * b + z) : EReal)
  e : ∀ (h : Fin 8) (b : Fin 16) (z : Fin 1024), eA m c (ix4 h b 0 z) = ((D h).del (1024 * b + z) : EReal)

variable {m c}

/-! The six blocks of a grid point, by the arrays. -/

theorem blk0 (t : Fin cfg0.N) (h : t.val / 32 < 8) (r : Fin 512) (hr : 512 * (t.val % 32) + r < 16384) (x : Fin 256) :
    iblk m c 0 t (ix3 0 r x) = kA m c (ix3 ⟨t.val / 32, h⟩ ⟨512 * (t.val % 32) + r, hr⟩ x) := by
  have i0 := (idx t).1
  blk_ext [iblk, kA, i0]

theorem blk1 (t : Fin cfg0.N) (h : t.val / 32 < 8) (r : Fin 512) (hr : 512 * (t.val % 32) + r < 16384) (x : Fin 128) :
    iblk m c 1 t (ix3 0 r x) = vA m c (ix3 ⟨t.val / 32, h⟩ ⟨512 * (t.val % 32) + r, hr⟩ x) := by
  have i1 := (idx t).2.1
  blk_ext [iblk, vA, i1]

theorem blk2 (t : Fin cfg0.N) (h : t.val / 32 < 8) (r : Fin 16384) (x : Fin 256) :
    iblk m c 2 t (ix3 0 r x) = qA m c (ix3 ⟨t.val / 32, h⟩ r x) := by
  have i2 := (idx t).2.2.1
  blk_ext [iblk, qA, i2]

theorem blk3 (t : Fin cfg0.N) (r : Fin 16384) (x : Fin 128) (h : t.val / 32 * 128 + x < 1024) :
    iblk m c 3 t (ix2 r x) = dA m c (ix2 r ⟨t.val / 32 * 128 + x, h⟩) := by
  have i3 := (idx t).2.2.2.1
  blk_ext [iblk, dA, i3]

theorem blk4 (t : Fin cfg0.N) (h : t.val / 32 < 8) (b : Fin 16) (z : Fin 1024) :
    iblk m c 4 t (ix4 0 b 0 z) = lA m c (ix4 ⟨t.val / 32, h⟩ b 0 z) := by
  have i4 := (idx t).2.2.2.2.1
  blk_ext [iblk, lA, i4]

theorem blk5 (t : Fin cfg0.N) (h : t.val / 32 < 8) (b : Fin 16) (z : Fin 1024) :
    iblk m c 5 t (ix4 0 b 0 z) = eA m c (ix4 ⟨t.val / 32, h⟩ b 0 z) := by
  have i5 := (idx t).2.2.2.2.2.1
  blk_ext [iblk, eA, i5]

theorem point_bounds {n : ℕ} (h : n < 256) : n / 32 < 8 ∧ (∀ r : Fin 512, 512 * (n % 32) + r < 16384) ∧ ∀ x : Fin 128, n / 32 * 128 + x < 1024 :=
  ⟨by omega, fun r => by omega, fun x => by omega⟩

set_option maxHeartbeats 2000000 in
theorem ArrR.ins {D : ℕ → Head} (hA : ArrR m c D) (t : Fin cfg0.N) : InsR (ins m c t) (grid0.coords t 1) (D (t.val / 32)) := by
  obtain ⟨hh, hr, hx⟩ := point_bounds (lt_of_lt_of_eq t.isLt N_0)
  rw [(coords_eq t).2]
  constructor
  · intro r x
    have h := hA.k ⟨_, hh⟩ ⟨_, hr r⟩ x
    rw [← blk0] at h
    exact h
  · intro r x
    have h := hA.v ⟨_, hh⟩ ⟨_, hr r⟩ x
    rw [← blk1] at h
    exact h
  · intro r x
    have h := hA.q ⟨_, hh⟩ r x
    rw [← blk2] at h
    exact h
  · intro r x
    have h := hA.d ⟨_, hh⟩ r x
    dsimp only at h
    rw [← blk3 t r x (hx x)] at h
    exact h
  · intro b z
    have h := hA.l ⟨_, hh⟩ b z
    rw [← blk4] at h
    exact h
  · intro b z
    have h := hA.e ⟨_, hh⟩ b z
    rw [← blk5] at h
    exact h

/-- Before a point the scratch holds the parts of the head's key blocks so far. -/
theorem ArrR.scr {D : ℕ → Head} (hA : ArrR m c D) : ∀ n : ℕ, n < 256 → n % 32 ≠ 0 → ∀ (b : Fin 16) (y : Fin 256) (z : Fin 1024),
    scr m c n (ix3 b y z) = ((∑ j ∈ Finset.range (n % 32), (D (n / 32)).pq j b y z : ℝ) : EReal) := by
  intro n
  induction n with
  | zero => intro _ h; exact absurd rfl h
  | succ n ih =>
    intro hn hm b y z
    have hN : n < cfg0.N := lt_of_lt_of_eq (Nat.lt_of_succ_lt hn) N_0.symm
    have c1 : (grid0.coords ⟨n, hN⟩ 1).val = n % 32 := (coords_eq ⟨n, hN⟩).2
    have hs := point_sc (i := grid0.coords ⟨n, hN⟩) (s := Cert.Bwd.scr m c n) (G := fun b y z => ∑ j ∈ Finset.range (n % 32), (D (n / 32)).pq j b y z) (hA.ins ⟨n, hN⟩)
      (fun h b y z => ih (Nat.lt_of_succ_lt hn) (by rw [c1] at h; exact h) b y z) b y z
    rw [show Cert.Bwd.scr m c (n + 1) = (pointSt (grid0.coords ⟨n, hN⟩) (Bwd.ins m c ⟨n, hN⟩) (Cert.Bwd.scr m c n)).sc from scr_succ m c ⟨n, hN⟩]
    refine hs.trans (congrArg (fun x : ℝ => (x : EReal)) ?_)
    rw [c1]
    dsimp only
    clear hs c1 hN ih
    have e1 : (n + 1) % 32 = n % 32 + 1 := by omega
    have e2 : (n + 1) / 32 = n / 32 := by omega
    rw [e1, e2, Finset.sum_range_succ, start]
    split
    · rename_i h0; rw [h0, Finset.sum_range_zero]
    · rfl

end Cert.Bwd
-- ==== Proof.Outs.lean ====
/- The three gradients' arrays after the run, over the real numbers. -/
module

public import proofs.«01_k».proof.Proof.Arrays

@[expose] public section

set_option maxRecDepth 65536

noncomputable section

namespace Cert.Bwd

open Cert.Att
open Cert.KernelIdeal Cert.KernelIdeal.Gen
open Idealize.ShloMosaic Idealize.ShloMosaic.TcCoe Idealize.SL.Sem

variable {m : (ℓ : Loc nD τ sig) → Buf (Elt Ideal) ℓ} {c : Dev nD}

/-- The key gradient, by row `512 j + r`. -/
def dkR (D : ℕ → Head) (h s x : ℕ) : ℝ := (∑ b ∈ Finset.range 16, (D h).pk (s / 512) b (s % 512) x) * Real.log 2

/-- The value gradient. -/
def dvR (D : ℕ → Head) (h s x : ℕ) : ℝ := ∑ b ∈ Finset.range 16, (D h).pv (s / 512) b (s % 512) x

/-- The query gradient. -/
def dqR (D : ℕ → Head) (h s x : ℕ) : ℝ := ∑ j ∈ Finset.range 32, (D h).pq j (s / 1024) x (s % 1024)

theorem ArrR.point {D : ℕ → Head} (hA : ArrR m c D) (t : Fin cfg0.N) : (grid0.coords t 1).val ≠ 0 → ∀ (b : Fin 16) (y : Fin 256) (z : Fin 1024),
    Bwd.scr m c t.val (ix3 b y z) = ((∑ j ∈ Finset.range (t.val % 32), (D (t.val / 32)).pq j b y z : ℝ) : EReal) := by
  intro h
  rw [(coords_eq t).2] at h
  exact hA.scr t.val (lt_of_lt_of_eq t.isLt N_0) h

theorem ix3_all {a b d : ℕ} (y : (⟨3, ![a, b, d]⟩ : Shape).Idx) : y = ix3 (y 0 : Fin a) (y 1 : Fin b) (y 2 : Fin d) := by
  funext i; fin_cases i <;> rfl

theorem block_row {n r w : ℕ} (h : r < w) : (n * w + r) / w = n ∧ (n * w + r) % w = r := by
  rw [Nat.add_comm, Nat.add_mul_div_right _ _ (Nat.zero_lt_of_lt h), Nat.add_mul_mod_self_right, Nat.div_eq_of_lt h, Nat.mod_eq_of_lt h]
  exact ⟨Nat.zero_add n, rfl⟩

theorem ArrR.dk_point {D : ℕ → Head} (hA : ArrR m c D) (t : Fin cfg0.N) (y : S1x512x256.Idx) :
    (stAt m c t).dk y = (dkR D (t.val / 32) (t.val % 32 * 512 + (y 1).val) (y 2).val : EReal) := by
  have h := (point_StR (G := fun b y z => ∑ j ∈ Finset.range (t.val % 32), (D (t.val / 32)).pq j b y z) (hA.ins t) (hA.point t)).dk (y 1) (y 2)
  rw [(coords_eq t).2] at h
  obtain ⟨e1, e2⟩ := block_row (n := t.val % 32) (y 1).isLt
  rw [dkR, show ((t.val % 32 * 512 + (y 1).val) / 512) = t.val % 32 from e1, show ((t.val % 32 * 512 + (y 1).val) % 512) = (y 1).val from e2, ← h, ix3_all y]
  have h0 : y 0 = (0 : Fin 1) := Subsingleton.elim (α := Fin 1) _ _
  rw [h0]
  rfl

theorem ArrR.dv_point {D : ℕ → Head} (hA : ArrR m c D) (t : Fin cfg0.N) (y : S1x512x128.Idx) :
    (stAt m c t).dv y = (dvR D (t.val / 32) (t.val % 32 * 512 + (y 1).val) (y 2).val : EReal) := by
  have h := (point_StR (G := fun b y z => ∑ j ∈ Finset.range (t.val % 32), (D (t.val / 32)).pq j b y z) (hA.ins t) (hA.point t)).dv (y 1) (y 2)
  rw [(coords_eq t).2] at h
  obtain ⟨e1, e2⟩ := block_row (n := t.val % 32) (y 1).isLt
  rw [dvR, show ((t.val % 32 * 512 + (y 1).val) / 512) = t.val % 32 from e1, show ((t.val % 32 * 512 + (y 1).val) % 512) = (y 1).val from e2, ← h, ix3_all y]
  have h0 : y 0 = (0 : Fin 1) := Subsingleton.elim (α := Fin 1) _ _
  rw [h0]
  rfl

/-- Key blocks after the one that ends a query block give that block nothing. -/
theorem pq_all (H : Head) {j : ℕ} (ho : j % 2 = 1) (hj : j < 32) (y : ℕ) (r : Fin 1024) :
    ∑ i ∈ Finset.range j, H.pq i (j / 2) y r + H.pq j (j / 2) y r = ∑ i ∈ Finset.range 32, H.pq i (j / 2) y r := by
  rw [← Finset.sum_range_succ (fun i => H.pq i (j / 2) y r)]
  refine Finset.sum_subset (fun i hi => ?_) fun i _ hi => ?_
  · rw [Finset.mem_range] at hi ⊢; omega
  · rw [Finset.mem_range] at hi
    exact pq_before (by omega) r

theorem flush_8 : ∀ t : Fin cfg0.N, (cfg0.win 8).flush t = true → t.val % 32 % 2 = 1 := by decide +kernel

theorem ArrR.dq_point {D : ℕ → Head} (hA : ArrR m c D) (t : Fin cfg0.N) (ho : t.val % 32 % 2 = 1) (y : S1x1024x256.Idx) :
    dqAt m c t y = (dqR D (t.val / 32) (t.val % 32 / 2 * 1024 + (y 1).val) (y 2).val : EReal) := by
  have h := point_dq (G := fun b y z => ∑ j ∈ Finset.range (t.val % 32), (D (t.val / 32)).pq j b y z) (hA.ins t) (hA.point t)
    (by rw [(coords_eq t).2]; exact ho) (fun _ => Scalar.ofBits (F := Ideal) .f32 0#32) (y 1) (y 2)
  rw [(coords_eq t).2] at h
  replace h := h.trans (congrArg (fun x : ℝ => (x : EReal)) (pq_all (D (t.val / 32)) ho (Nat.mod_lt _ (by decide)) (y 2).val (y 1)))
  obtain ⟨e1, e2⟩ := block_row (n := t.val % 32 / 2) (y 1).isLt
  rw [dqR, show ((t.val % 32 / 2 * 1024 + (y 1).val) / 1024) = t.val % 32 / 2 from e1,
    show ((t.val % 32 / 2 * 1024 + (y 1).val) % 1024) = (y 1).val from e2, ← h, ix3_all y]
  have h0 : y 0 = (0 : Fin 1) := Subsingleton.elim (α := Fin 1) _ _
  rw [h0]
  rfl

theorem ArrR.dk {D : ℕ → Head} (hA : ArrR m c D) : (dats m 0 c).arrAt 6 (cfgs 0).N
    = (fun i => (dkR D (i 0).val (i 1).val (i 2).val : EReal) : Vec Ideal S8x16384x256 .f32) := by
  refine (dats m 0 c).arrAt_eq_of_covers 6 _ (by decide +kernel) fun t hf y => ?_
  have i6 := (idx t).2.2.2.2.2.2.1
  blk_simp [i6]
  rw [after_6]
  exact hA.dk_point t y

theorem ArrR.dv {D : ℕ → Head} (hA : ArrR m c D) : (dats m 0 c).arrAt 7 (cfgs 0).N
    = (fun i => (dvR D (i 0).val (i 1).val (i 2).val : EReal) : Vec Ideal S8x16384x128 .f32) := by
  refine (dats m 0 c).arrAt_eq_of_covers 7 _ (by decide +kernel) fun t hf y => ?_
  have i7 := (idx t).2.2.2.2.2.2.2.1
  blk_simp [i7]
  rw [after_7]
  exact hA.dv_point t y

theorem ArrR.dq {D : ℕ → Head} (hA : ArrR m c D) : (dats m 0 c).arrAt 8 (cfgs 0).N
    = (fun i => (dqR D (i 0).val (i 1).val (i 2).val : EReal) : Vec Ideal S8x16384x256 .f32) := by
  refine (dats m 0 c).arrAt_eq_of_covers 8 _ (by decide +kernel) fun t hf y => ?_
  have i8 := (idx t).2.2.2.2.2.2.2.2
  blk_simp [i8]
  rw [after_8]
  exact hA.dq_point t (flush_8 t hf) y

end Cert.Bwd
-- ==== Proof.Attention.lean ====
/- The attention of one head over the real numbers, its gradients by rows, and the kernel's sums by blocks as these. -/
module

public import proofs.«01_k».proof.Proof.Outs

@[expose] public section

noncomputable section

namespace Cert.Bwd

open Idealize.ShloMosaic

/-- One head of the attention: the scores' factor, the queries, keys, values and the output's cotangent by row and lane, and
    a number taken off each row's scores before the exponential. -/
structure Attn where
  σ : ℝ
  q : ℕ → ℕ → ℝ
  k : ℕ → ℕ → ℝ
  v : ℕ → ℕ → ℝ
  c : ℕ → ℕ → ℝ
  m : ℕ → ℝ

namespace Attn
variable (A : Attn)

/-- The score of query row `a` and key row `b`. -/
def score (a b : ℕ) : ℝ := (∑ x : Fin 192, A.q a x * A.k b x) * A.σ

/-- Its exponential, where the row sees the key. -/
def ex (a b : ℕ) : ℝ := if b ≤ a then Real.exp (A.score a b - A.m a) else 0

/-- A row's sum. -/
def sm (a : ℕ) : ℝ := ∑ b : Fin 16384, A.ex a b

/-- The weight of query row `a` on key row `b`. -/
def wt (a b : ℕ) : ℝ := A.ex a b / A.sm a

/-- The gradient of a weight. -/
def dwt (a b : ℕ) : ℝ := ∑ e : Fin 128, A.c a e * A.v b e

/-- The gradient of a score. -/
def dsc (a b : ℕ) : ℝ := A.wt a b * (A.dwt a b - ∑ i : Fin 16384, A.wt a i * A.dwt a i)

/-- The output. -/
def out (a e : ℕ) : ℝ := ∑ b : Fin 16384, A.v b e * A.wt a b

def lse (a : ℕ) : ℝ := (A.m a + Real.log (A.sm a)) / Real.log 2

def del (a : ℕ) : ℝ := ∑ e : Fin 128, A.c a e * A.out a e

/-- The gradients. -/
def dk (b x : ℕ) : ℝ := ∑ a : Fin 16384, A.dsc a b * (A.q a x * A.σ)
def dv (b e : ℕ) : ℝ := ∑ a : Fin 16384, A.wt a b * A.c a e
def dq (a x : ℕ) : ℝ := ∑ b : Fin 16384, A.dsc a b * A.k b x

/-- What the kernel is handed of it. -/
def head : Head where
  q a x := A.q a x * (A.σ / Real.log 2)
  k := A.k
  v := A.v
  c := A.c
  lse := A.lse
  del := A.del

theorem ex_nonneg (a b : ℕ) : 0 ≤ A.ex a b := by
  unfold ex; split
  · exact (Real.exp_pos _).le
  · exact le_rfl

theorem sm_pos {a : ℕ} (ha : a < 16384) : 0 < A.sm a := by
  refine Finset.sum_pos' (fun b _ => A.ex_nonneg a b) ⟨⟨a, ha⟩, Finset.mem_univ _, ?_⟩
  show 0 < A.ex a a
  rw [ex, if_pos le_rfl]
  exact Real.exp_pos _

theorem log_two_ne : Real.log 2 ≠ 0 := (Real.log_pos one_lt_two).ne'

/-- Lanes that are zero add nothing to a product of rows. -/
theorem lanes {f : ℕ → ℝ} (h : ∀ x, 192 ≤ x → f x = 0) : ∑ x : Fin 256, f x = ∑ x : Fin 192, f x := by
  rw [Fin.sum_univ_eq_sum_range f 256, Fin.sum_univ_eq_sum_range f 192]
  refine (Finset.sum_subset (fun x hx => ?_) fun x _ hx => h x ?_).symm
  · rw [Finset.mem_range] at hx ⊢; omega
  · rw [Finset.mem_range] at hx; omega

variable {A}

/-- The score in base 2, from what the kernel is handed. -/
theorem head_score (hk : ∀ b x, 192 ≤ x → A.k b x = 0) (a b : ℕ) :
    (∑ x : Fin 256, A.head.k b x * A.head.q a x) = A.score a b / Real.log 2 := by
  rw [lanes (f := fun x => A.head.k b x * A.head.q a x) fun x hx => by show A.k b x * _ = 0; rw [hk b x hx, zero_mul]]
  rw [score, Finset.sum_mul, Finset.sum_div]
  refine Finset.sum_congr rfl fun x _ => ?_
  show A.k b x * (A.q a x * (A.σ / Real.log 2)) = _
  ring

theorem head_p (hk : ∀ b x, 192 ≤ x → A.k b x = 0) {a : ℕ} (ha : a < 16384) (b : ℕ) : A.head.p a b = A.wt a b := by
  unfold Head.p wt ex
  split
  · have hL := A.sm_pos ha
    rw [head_score hk]
    show (2 : ℝ) ^ (A.score a b / Real.log 2 - (A.m a + Real.log (A.sm a)) / Real.log 2) = _
    rw [Real.rpow_def_of_pos two_pos, ← sub_div, mul_div_cancel₀ _ log_two_ne, ← sub_sub, Real.exp_sub, Real.exp_log hL]
  · rw [zero_div]

/-- A row's output times its cotangent is its weights times their gradients. -/
theorem del_eq (a : ℕ) : A.del a = ∑ i : Fin 16384, A.wt a i * A.dwt a i := by
  unfold del out dwt
  simp only [Finset.mul_sum]
  rw [Finset.sum_comm]
  exact Finset.sum_congr rfl fun i _ => Finset.sum_congr rfl fun e _ => by ring

theorem head_ds (hk : ∀ b x, 192 ≤ x → A.k b x = 0) {a : ℕ} (ha : a < 16384) (b : ℕ) : A.head.ds a b = A.dsc a b := by
  unfold Head.ds dsc
  rw [head_p hk ha, show A.head.del a = _ from del_eq a]
  congr 2
  exact Finset.sum_congr rfl fun e _ => mul_comm _ _

/-- A sum over blocks of rows is the sum over the rows. -/
theorem rows (n w : ℕ) (f : ℕ → ℝ) : ∑ b ∈ Finset.range n, ∑ c : Fin w, f (w * b + c) = ∑ a : Fin (n * w), f a := by
  rw [Fin.sum_univ_eq_sum_range f, Finset.sum_range_mul_split]
  refine Finset.sum_congr rfl fun b _ => ?_
  rw [Fin.sum_univ_eq_sum_range fun c => f (w * b + c)]
  exact Finset.sum_congr rfl fun c _ => by rw [mul_comm]

theorem head_dk {D : ℕ → Head} {h : ℕ} (hD : D h = A.head) (hk : ∀ b x, 192 ≤ x → A.k b x = 0) (s x : ℕ) : dkR D h s x = A.dk s x := by
  unfold dkR Head.pk
  rw [hD, Nat.div_add_mod, rows 16 1024 fun a => A.head.ds a s * A.head.q a x, Finset.sum_mul]
  refine Finset.sum_congr rfl fun a _ => ?_
  rw [head_ds hk a.isLt]
  show A.dsc a s * (A.q a x * (A.σ / Real.log 2)) * Real.log 2 = A.dsc a s * (A.q a x * A.σ)
  rw [mul_assoc, mul_assoc, div_mul_cancel₀ _ log_two_ne]

theorem head_dv {D : ℕ → Head} {h : ℕ} (hD : D h = A.head) (hk : ∀ b x, 192 ≤ x → A.k b x = 0) (s x : ℕ) : dvR D h s x = A.dv s x := by
  unfold dvR Head.pv
  rw [hD, Nat.div_add_mod, rows 16 1024 fun a => A.head.p a s * A.head.c a x]
  refine Finset.sum_congr rfl fun a _ => ?_
  rw [head_p hk a.isLt]
  rfl

theorem head_dq {D : ℕ → Head} {h : ℕ} (hD : D h = A.head) (hk : ∀ b x, 192 ≤ x → A.k b x = 0) {s : ℕ} (hs : s < 16384) (x : ℕ) : dqR D h s x = A.dq s x := by
  unfold dqR Head.pq
  rw [hD, Nat.div_add_mod, rows 32 512 fun b => A.head.k b x * A.head.ds s b]
  refine Finset.sum_congr rfl fun b _ => ?_
  rw [head_ds hk hs]
  exact mul_comm _ _

theorem dk_zero (hq : ∀ a x, 192 ≤ x → A.q a x = 0) (s : ℕ) {x : ℕ} (hx : 192 ≤ x) : A.dk s x = 0 :=
  Finset.sum_eq_zero fun a _ => by rw [hq a x hx, zero_mul, mul_zero]

theorem dq_zero (hk : ∀ b x, 192 ≤ x → A.k b x = 0) (s : ℕ) {x : ℕ} (hx : 192 ≤ x) : A.dq s x = 0 :=
  Finset.sum_eq_zero fun b _ => by rw [hk b x hx, mul_zero]

end Attn

end Cert.Bwd
-- ==== Proof.Numbers.lean ====
/- The arguments as numbers, the attention of each head they give, and the operations of the two host programs on numbers. -/
module

public import proofs.«01_k».proof.Proof.Attention

@[expose] public section

set_option maxRecDepth 65536

noncomputable section

namespace Cert.Bwd

open Idealize.ShloMosaic

/-! ## Operations on numbers -/

theorem ofBits_scale : ∃ r : ℝ, Ideal.ofBits .f32 0x3D93CD3A#32 = (r : EReal) := by
  rw [Ideal.ofBits, Ideal.ieee]
  rw [if_neg (by decide), if_neg (by decide)]
  exact ⟨_, rfl⟩

theorem ofBits_neg_inf : Ideal.ofBits .f32 0xFF800000#32 = (⊥ : EReal) := by simp [Ideal.ofBits, Ideal.ieee]

theorem ofBits_two : Ideal.ofBits .f32 0x40000000#32 = ((2 : ℝ) : EReal) := by
  simp [Ideal.ofBits, Ideal.ieee]
  rw [← EReal.coe_mul]
  norm_num

/-- The scores' factor. -/
def scale : ℝ := (Ideal.ofBits .f32 0x3D93CD3A#32 : EReal).toReal

theorem scale_eq : Ideal.ofBits .f32 0x3D93CD3A#32 = (scale : EReal) := by
  obtain ⟨r, h⟩ := ofBits_scale
  rw [scale, h, EReal.toReal_coe]

theorem div_coe (x : ℝ) {y : ℝ} (hy : y ≠ 0) : Ideal.div (x : EReal) (y : EReal) = ((x / y : ℝ) : EReal) := by
  rw [Ideal.div, if_neg (by exact_mod_cast hy), ← EReal.coe_inv, ← EReal.coe_mul, div_eq_mul_inv]

theorem log_coe {x : ℝ} (hx : 0 < x) : Ideal.log (x : EReal) = ((Real.log x : ℝ) : EReal) := by
  show (if x ≤ 0 then (⊥ : EReal) else _) = _
  rw [if_neg (not_le.mpr hx)]

theorem exp_coe (x : ℝ) : Ideal.exp (x : EReal) = ((Real.exp x : ℝ) : EReal) := rfl

theorem log_two_coe : Ideal.log (Ideal.ofBits .f32 0x40000000#32) = ((Real.log 2 : ℝ) : EReal) := by
  rw [ofBits_two, log_coe two_pos]

/-- What a row does not see is less than every number. -/
def seenE (P : Prop) [Decidable P] (x : ℝ) : EReal := if P then (x : EReal) else ⊥

theorem select_row {a b : ℕ} (ha : a < 16384) (hb : b < 16384) (x y : EReal) :
    Scalar.select (IntOp.cmpi .sle (BitVec.ofNat 32 b) (BitVec.ofNat 32 a)) x y = if b ≤ a then x else y := by
  show Scalar.select (BitVec.ofBool ((BitVec.ofNat 32 b).sle (BitVec.ofNat 32 a))) x y = _
  rw [sle_ofNat (by omega) (by omega)]
  by_cases h : b ≤ a <;> simp [h, Scalar.select]

theorem exp_seen (P : Prop) [Decidable P] (x y : ℝ) : Ideal.exp (seenE P x - (y : EReal)) = ((if P then Real.exp (x - y) else 0 : ℝ) : EReal) := by
  unfold seenE
  split
  · rw [← EReal.coe_sub, exp_coe]
  · rw [EReal.bot_sub]; rfl

/-- The largest of a row's scores is a number. -/
theorem max_real {n : ℕ} (f : Fin n → EReal) (ht : ∀ i, f i ≠ ⊤) (i : Fin n) (hi : f i ≠ ⊥) :
    (Finset.univ.fold max (⊥ : EReal) f) = ((Finset.univ.fold max (⊥ : EReal) f).toReal : EReal) := by
  refine (EReal.coe_toReal ?_ ?_).symm
  · intro h
    have := (Finset.fold_max_lt (b := (⊥ : EReal)) (f := f) (s := Finset.univ) (⊤ : EReal)).mpr ⟨bot_lt_top, fun i _ => lt_top_iff_ne_top.mpr (ht i)⟩
    exact absurd h this.ne
  · intro h
    have : f i ≤ Finset.univ.fold max (⊥ : EReal) f := (Finset.le_fold_max (f i)).mpr (Or.inr ⟨i, Finset.mem_univ i, le_rfl⟩)
    rw [h] at this
    exact hi (le_bot_iff.mp this)

/-! ## The arguments as numbers -/

/-- An array's element as a number, zero off the array. -/
def num {a b d : ℕ} (x : FVec Ideal ⟨3, ![a, b, d]⟩ .f32) (i j l : ℕ) : ℝ :=
  if h : i < a ∧ j < b ∧ l < d then (x (ix3 ⟨i, h.1⟩ ⟨j, h.2.1⟩ ⟨l, h.2.2⟩) : EReal).toReal else 0

theorem num_eq {a b d : ℕ} {x : FVec Ideal ⟨3, ![a, b, d]⟩ .f32} (hx : ∀ i, ∃ r : ℝ, x i = (r : EReal)) (i : Fin a) (j : Fin b) (l : Fin d) :
    x (ix3 i j l) = (num x i j l : EReal) := by
  rw [num, dif_pos ⟨i.isLt, j.isLt, l.isLt⟩]
  obtain ⟨r, h⟩ := hx (ix3 i j l)
  show x (ix3 i j l) = ((x (ix3 i j l) : EReal).toReal : EReal)
  rw [h, EReal.toReal_coe]

theorem num_zero {a b d : ℕ} {x : FVec Ideal ⟨3, ![a, b, d]⟩ .f32} {i j l : ℕ} (hl : d ≤ l) : num x i j l = 0 :=
  dif_neg fun h => absurd h.2.2 (not_lt.mpr hl)

/-- The four arguments. -/
structure Args where
  q : FVec Ideal ⟨3, ![16384, 8, 192]⟩ .f32
  k : FVec Ideal ⟨3, ![16384, 8, 192]⟩ .f32
  v : FVec Ideal ⟨3, ![16384, 8, 128]⟩ .f32
  c : FVec Ideal ⟨3, ![16384, 8, 128]⟩ .f32

/-- All their elements are numbers. -/
structure Args.Real (x : Args) : Prop where
  q : ∀ i, ∃ r : ℝ, x.q i = (r : EReal)
  k : ∀ i, ∃ r : ℝ, x.k i = (r : EReal)
  v : ∀ i, ∃ r : ℝ, x.v i = (r : EReal)
  c : ∀ i, ∃ r : ℝ, x.c i = (r : EReal)

namespace Args
variable (x : Args)

/-- Head `h`, nothing taken off the scores. -/
def attn₀ (h : ℕ) : Attn where
  σ := scale
  q a l := num x.q a h l
  k b l := num x.k b h l
  v b e := num x.v b h e
  c a e := num x.c a h e
  m _ := 0

/-- Row `a`'s scores, those it does not see less than every number. -/
def row (h a : ℕ) (b : Fin 16384) : EReal := seenE (b.val ≤ a) ((x.attn₀ h).score a b)

/-- Head `h`, each row's largest score taken off. -/
def attn (h : ℕ) : Attn := { x.attn₀ h with m := fun a => (Finset.univ.fold max (⊥ : EReal) (x.row h a)).toReal }

theorem row_eq (h a : ℕ) (b : Fin 16384) : x.row h a b = seenE (b.val ≤ a) ((x.attn h).score a b) := rfl

theorem max_eq (h : ℕ) (a : Fin 16384) : Finset.univ.fold max (⊥ : EReal) (x.row h a) = ((x.attn h).m a : EReal) := by
  refine max_real _ (fun b => ?_) a ?_
  · unfold row seenE; split
    · exact EReal.coe_ne_top _
    · exact bot_ne_top
  · unfold row seenE; rw [if_pos le_rfl]; exact EReal.coe_ne_bot _

theorem attn_q_zero (h a l : ℕ) (hl : 192 ≤ l) : (x.attn h).q a l = 0 := num_zero hl
theorem attn_k_zero (h b l : ℕ) (hl : 192 ≤ l) : (x.attn h).k b l = 0 := num_zero hl

end Args

end Cert.Bwd
-- ==== Proof.Host.lean ====
/- What the kernel's host program computes before the call, stage by stage: the six arrays it hands over, as functions of the
   arguments, and each stage read at an index. -/
module

public import proofs.«01_k».proof.Proof.Numbers

@[expose] public section

set_option maxRecDepth 65536

noncomputable section

namespace Cert.Bwd

open Cert.Att
open Cert.KernelIdeal Cert.KernelIdeal.Gen
open Idealize.ShloMosaic Idealize.ShloMosaic.TcCoe Idealize.SL.Sem Idealize.ShloMosaic.StableHlo

/-! ## The stages -/

/-- The scaled and masked scores. -/
def hScore (x0 x1 : FVec Ideal S16384x8x192 .f32) : FVec Ideal S8x16384x16384 .f32 :=
  select (broadcastInDim S8x16384x16384 ![0, 1, 2] bcast_S1x16384x16384_S8x16384x16384_0_1_2
      (broadcastInDim S1x16384x16384 ![1, 2] bcast_S16384x16384_S1x16384x16384_1_2
        (cmpi .sle
          (broadcastInDim S16384x16384 ![0, 1] bcast_S1x16384_S16384x16384_0_1 (broadcastInDim S1x16384 ![1] bcast_S16384_S1x16384_1 (iotaInDim S16384 32 0)))
          (broadcastInDim S16384x16384 ![0, 1] bcast_S16384x1_S16384x16384_0_1 (broadcastInDim S16384x1 ![0] bcast_S16384_S16384x1_0 (iotaInDim S16384 32 0))))))
    (mulf (Host.dotGeneral dot_S16384x8x192_S16384x8x192_S8x16384x16384_2_2_0_0_1_1 none x0 x1)
      (broadcastInDim S8x16384x16384 ![] bcast_S_S8x16384x16384 (constant S_ .f32 0x3D93CD3A#32)))
    (broadcastInDim S8x16384x16384 ![] bcast_S_S8x16384x16384 (constant S_ .f32 0xFF800000#32))

/-- Each row's largest score. -/
def hMax (s : FVec Ideal S8x16384x16384 .f32) : FVec Ideal S8x16384x1 .f32 :=
  broadcastInDim S8x16384x1 ![0, 1] bcast_S8x16384_S8x16384x1_0_1
    (Host.reduce FloatOps.maximumf s (constant S_ .f32 0xFF800000#32) reducesTo_S8x16384x16384_S8x16384_d2 h_S_)

/-- The scores' exponentials, each row's largest taken off. -/
def hExp (s : FVec Ideal S8x16384x16384 .f32) (u : FVec Ideal S8x16384x1 .f32) : FVec Ideal S8x16384x16384 .f32 :=
  Host.exp (subf s (broadcastInDim S8x16384x16384 ![0, 1, 2] bcast_S8x16384x1_S8x16384x16384_0_1_2 u))

/-- Each row's sum of these. -/
def hSum (e : FVec Ideal S8x16384x16384 .f32) : FVec Ideal S8x16384x1 .f32 :=
  broadcastInDim S8x16384x1 ![0, 1] bcast_S8x16384_S8x16384x1_0_1
    (Host.reduceAdd e (constant S_ .f32 0x00000000#32) reducesTo_S8x16384x16384_S8x16384_d2 h_S_)

/-- Each row's log-sum in base 2. -/
def hLse (u l : FVec Ideal S8x16384x1 .f32) : FVec Ideal S8x16384x1 .f32 :=
  Host.divf (addf u (Host.log l))
    (broadcastInDim S8x16384x1 ![] bcast_S_S8x16384x1 (Host.log (constant S_ .f32 0x40000000#32)))

/-- The attention's output. -/
def hOut (e : FVec Ideal S8x16384x16384 .f32) (l : FVec Ideal S8x16384x1 .f32) (x2 : FVec Ideal S16384x8x128 .f32) : FVec Ideal S8x128x16384 .f32 :=
  Host.dotGeneral dot_S16384x8x128_S8x16384x16384_S8x128x16384_0_2_2_1_1_0 none x2
    (Host.divf e (broadcastInDim S8x16384x16384 ![0, 1, 2] bcast_S8x16384x1_S8x16384x16384_0_1_2 l))

/-- Each row's output times its cotangent, summed. -/
def hDel (o : FVec Ideal S8x128x16384 .f32) (x3 : FVec Ideal S16384x8x128 .f32) : FVec Ideal S8x16384 .f32 :=
  transpose S8x16384 [1, 0]
    (Host.reduceAdd (mulf x3 (transpose S16384x8x128 [2, 0, 1] o transposes_S8x128x16384_S16384x8x128_2_0_1))
      (constant S_ .f32 0x00000000#32) reducesTo_S16384x8x128_S16384x8_d2 h_S_)
    transposes_S16384x8_S8x16384_1_0

/-- A head-first array of 192 lanes, filled up with zeros to 256. -/
def hHeads (x : FVec Ideal S16384x8x192 .f32) : FVec Ideal S8x16384x256 .f32 :=
  pad S8x16384x256 ![0, 0, 0] ![0, 0, 64] ![0, 0, 0]
    (transpose S8x16384x192 [1, 0, 2] x transposes_S16384x8x192_S8x16384x192_1_0_2)
    (sitofp .f32 (constantI S_ 32 0#32)) pads_S8x16384x192_S8x16384x256_000_000_0640 h_S_

/-- The queries so laid out, scaled for powers of two. -/
def hScaled (x : FVec Ideal S16384x8x192 .f32) : FVec Ideal S8x16384x256 .f32 :=
  mulf (hHeads x) (broadcastInDim S8x16384x256 ![] bcast_S_S8x16384x256
    (Host.divf (constant S_ .f32 0x3D93CD3A#32) (Host.log (constant S_ .f32 0x40000000#32))))

/-- A head-first array of 128 lanes. -/
def hHeads' (x : FVec Ideal S16384x8x128 .f32) : FVec Ideal S8x16384x128 .f32 :=
  pad S8x16384x128 ![0, 0, 0] ![0, 0, 0] ![0, 0, 0]
    (transpose S8x16384x128 [1, 0, 2] x transposes_S16384x8x128_S8x16384x128_1_0_2)
    (sitofp .f32 (constantI S_ 32 0#32)) pads_S8x16384x128_S8x16384x128_000_000_000 h_S_

variable (m : (ℓ : Loc nD τ sig) → Buf (Elt Ideal) ℓ) (c : Dev nD)

def a0 : FVec Ideal S16384x8x192 .f32 := m (c.tc.loc main_arg0)
def a1 : FVec Ideal S16384x8x192 .f32 := m (c.tc.loc main_arg1)
def a2 : FVec Ideal S16384x8x128 .f32 := m (c.tc.loc main_arg2)
def a3 : FVec Ideal S16384x8x128 .f32 := m (c.tc.loc main_arg3)

/-- The kernel's arguments. -/
def args : Args := ⟨a0 m c, a1 m c, a2 m c, a3 m c⟩

/-- The stages of some arguments. -/
def sS (X : Args) : FVec Ideal S8x16384x16384 .f32 := hScore X.q X.k
def uS (X : Args) : FVec Ideal S8x16384x1 .f32 := hMax (sS X)
def eS (X : Args) : FVec Ideal S8x16384x16384 .f32 := hExp (sS X) (uS X)
def zS (X : Args) : FVec Ideal S8x16384x1 .f32 := hSum (eS X)

/-! ## The arrays handed over -/

theorem kA_eq : (kA m c : FVec Ideal _ _) = truncf .bf16 (hHeads (a1 m c)) bitsLt_bf16_f32 := by
  unfold kA V
  simp only [hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf, TRef.ofBuf, cast_eq]
  after_results_simp
  rfl

theorem vA_eq : (vA m c : FVec Ideal _ _) = truncf .bf16 (hHeads' (a2 m c)) bitsLt_bf16_f32 := by
  unfold vA V
  simp only [hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf, TRef.ofBuf, cast_eq]
  after_results_simp
  rfl

theorem qA_eq : (qA m c : FVec Ideal _ _) = truncf .bf16 (hScaled (a0 m c)) bitsLt_bf16_f32 := by
  unfold qA V
  simp only [hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf, TRef.ofBuf, cast_eq]
  after_results_simp
  rfl

theorem dA_eq : (dA m c : FVec Ideal _ _) = truncf .bf16 (shapeCast S16384x1024 (a3 m c) shapeCasts_S16384x8x128_S16384x1024) bitsLt_bf16_f32 := by
  unfold dA V
  simp only [hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf, TRef.ofBuf, cast_eq]
  after_results_simp
  rfl

theorem lA_eq : (lA m c : FVec Ideal _ _) = shapeCast S8x16x1x1024 (hLse (uS (args m c)) (zS (args m c))) shapeCasts_S8x16384x1_S8x16x1x1024 := by
  unfold lA V
  simp only [hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf, TRef.ofBuf, cast_eq]
  after_results_simp
  rfl

theorem eA_eq : (eA m c : FVec Ideal _ _) = shapeCast S8x16x1x1024 (hDel (hOut (eS (args m c)) (zS (args m c)) (a2 m c)) (a3 m c)) shapeCasts_S8x16384_S8x16x1x1024 := by
  unfold eA V
  simp only [hostOps0, hostOps0_1, hostOps0_2, hostOps0_3, hostOps0_4, hostOps0_5, hostOps0_6, hostOps0_7, hostOps0_8, List.flatten_cons,
    List.flatten_nil, List.append_nil, List.cons_append, List.nil_append, TRef.binary, TRef.nullary, TRef.ternary, TRef.unary, TRef.toBuf, TRef.ofBuf, cast_eq]
  after_results_simp
  rfl

/-! ## The stages at an index -/

theorem hScore_apply (x0 x1 : FVec Ideal S16384x8x192 .f32) (h : Fin 8) (a b : Fin 16384) : hScore x0 x1 (ix3 h a b)
    = Scalar.select (IntOp.cmpi .sle (BitVec.ofNat 32 b) (BitVec.ofNat 32 a))
      ((∑ x : Fin 192, x0 (ix3 a h x) * x1 (ix3 b h x)) * Ideal.ofBits .f32 0x3D93CD3A#32) (Ideal.ofBits .f32 0xFF800000#32) := by
  pointwise [hScore]

theorem hMax_apply (s : FVec Ideal S8x16384x16384 .f32) (h : Fin 8) (a : Fin 16384) : hMax s (ix3 h a 0)
    = Finset.fold max (Ideal.ofBits .f32 0xFF800000#32) (fun b => s (ix3 h a b)) Finset.univ := by
  pointwise [hMax]

theorem hExp_apply (s u) (h : Fin 8) (a b : Fin 16384) : hExp s u (ix3 h a b) = Ideal.exp (s (ix3 h a b) - u (ix3 h a 0)) := by
  pointwise [hExp]

theorem hSum_apply (e : FVec Ideal S8x16384x16384 .f32) (h : Fin 8) (a : Fin 16384) : hSum e (ix3 h a 0) = ∑ b : Fin 16384, e (ix3 h a b) := by
  pointwise [hSum]

theorem hLse_apply (u l) (h : Fin 8) (a : Fin 16384) : hLse u l (ix3 h a 0)
    = Ideal.div (u (ix3 h a 0) + Ideal.log (l (ix3 h a 0))) (Ideal.log (Ideal.ofBits .f32 0x40000000#32)) := by
  pointwise [hLse]

theorem hOut_apply (e l) (x2 : FVec Ideal S16384x8x128 .f32) (h : Fin 8) (x : Fin 128) (a : Fin 16384) : hOut e l x2 (ix3 h x a)
    = ∑ b : Fin 16384, x2 (ix3 b h x) * Ideal.div (e (ix3 h a b)) (l (ix3 h a 0)) := by
  pointwise [hOut]

theorem hDel_apply (o) (x3 : FVec Ideal S16384x8x128 .f32) (h : Fin 8) (a : Fin 16384) : hDel o x3 (ix2 h a)
    = ∑ x : Fin 128, x3 (ix3 a h x) * o (ix3 h x a) := by
  pointwise [hDel]

theorem hHeads_apply (x) (h : Fin 8) (s : Fin 16384) (y : Fin 256) :
    hHeads x (ix3 h s y) = if hy : y.val < 192 then x (ix3 s h ⟨y, hy⟩) else FloatOps.sitofp .f32 0#32 := by
  pointwise [hHeads]

theorem hHeads'_apply (x) (h : Fin 8) (s : Fin 16384) (y : Fin 128) : hHeads' x (ix3 h s y) = x (ix3 s h y) := by
  pointwise [hHeads']

/-! ## The stages as numbers -/

variable {m c}

section
variable {X : Args} (hx : X.Real) (h : Fin 8) (a b : Fin 16384)
include hx

theorem q_num (x : Fin 192) : X.q (ix3 a h x) = ((X.attn h).q a x : EReal) := num_eq hx.q a h x
theorem k_num (x : Fin 192) : X.k (ix3 b h x) = ((X.attn h).k b x : EReal) := num_eq hx.k b h x
theorem v_num (x : Fin 128) : X.v (ix3 b h x) = ((X.attn h).v b x : EReal) := num_eq hx.v b h x
theorem c_num (x : Fin 128) : X.c (ix3 a h x) = ((X.attn h).c a x : EReal) := num_eq hx.c a h x

theorem sS_num : sS X (ix3 h a b) = X.row h a b := by
  rw [sS, hScore_apply, select_row a.isLt b.isLt, ofBits_neg_inf, scale_eq]
  simp only [q_num hx, k_num hx, ← EReal.coe_mul, ← coe_sum]
  rfl

theorem uS_num : uS X (ix3 h a 0) = ((X.attn h).m a : EReal) := by
  rw [uS, hMax_apply, ofBits_neg_inf, ← Args.max_eq]
  exact congrArg (fun f => Finset.fold max (⊥ : EReal) f Finset.univ) (funext fun b => sS_num hx h a b)

theorem eS_num : eS X (ix3 h a b) = ((X.attn h).ex a b : EReal) := by
  rw [eS, hExp_apply, sS_num hx, uS_num hx, Args.row_eq, exp_seen]
  rfl

theorem zS_num : zS X (ix3 h a 0) = ((X.attn h).sm a : EReal) := by
  rw [zS, hSum_apply]
  simp only [eS_num hx, ← coe_sum]
  rfl

theorem lse_num : hLse (uS X) (zS X) (ix3 h a 0) = ((X.attn h).lse a : EReal) := by
  rw [hLse_apply, uS_num hx, zS_num hx, log_two_coe, log_coe (Attn.sm_pos _ a.isLt), ← EReal.coe_add, div_coe _ Attn.log_two_ne]
  rfl

theorem out_num (x : Fin 128) : hOut (eS X) (zS X) (X.v) (ix3 h x a) = ((X.attn h).out a x : EReal) := by
  rw [hOut_apply]
  simp only [eS_num hx, zS_num hx, v_num hx, div_coe _ (Attn.sm_pos _ a.isLt).ne', ← EReal.coe_mul, ← coe_sum]
  rfl

theorem del_num : hDel (hOut (eS X) (zS X) (X.v)) (X.c) (ix2 h a) = ((X.attn h).del a : EReal) := by
  rw [hDel_apply]
  simp only [out_num hx, c_num hx, ← EReal.coe_mul, ← coe_sum]
  rfl

end

theorem heads_num {x : FVec Ideal S16384x8x192 .f32} (hx : ∀ i, ∃ r : ℝ, x i = (r : EReal)) (h : Fin 8) (s : Fin 16384) (y : Fin 256) :
    hHeads x (ix3 h s y) = (num x s h y : EReal) := by
  rw [hHeads_apply]
  split
  · rename_i hy; exact num_eq hx s h ⟨y, hy⟩
  · rename_i hy
    rw [num_zero (not_lt.mp hy)]
    show (((0#32 : BitVec 32).toInt : ℝ) : EReal) = _
    simp

theorem hScaled_apply (x : FVec Ideal S16384x8x192 .f32) (h : Fin 8) (s : Fin 16384) (y : Fin 256) : hScaled x (ix3 h s y)
    = hHeads x (ix3 h s y) * Ideal.div (Ideal.ofBits .f32 0x3D93CD3A#32) (Ideal.log (Ideal.ofBits .f32 0x40000000#32)) := by
  unfold hScaled
  generalize hHeads x = z
  pointwise

theorem scaled_num {X : Args} (hx : X.Real) (h : Fin 8) (s : Fin 16384) (y : Fin 256) :
    hScaled X.q (ix3 h s y) = ((X.attn h).head.q s y : EReal) := by
  rw [hScaled_apply, heads_num hx.q, scale_eq, log_two_coe, div_coe _ Attn.log_two_ne, ← EReal.coe_mul]
  rfl

/-- The kernel is handed the heads' attention. -/
theorem arrays (hx : (args m c).Real) : ArrR m c fun h => ((args m c).attn h).head where
  k h s x := by
    rw [kA_eq]
    exact heads_num hx.k h s x
  v h s x := by
    rw [vA_eq]
    exact (hHeads'_apply _ h s x).trans (v_num hx h s x)
  q h s x := by
    rw [qA_eq]
    exact scaled_num hx h s x
  d h s x := by
    have e : (truncf .bf16 (shapeCast S16384x1024 (a3 m c) shapeCasts_S16384x8x128_S16384x1024) bitsLt_bf16_f32 : FVec Ideal _ _)
        (ix2 s ⟨h * 128 + x, by omega⟩) = a3 m c (ix3 s h x) := by
      generalize a3 m c = y
      pointwise
    rw [dA_eq]
    exact e.trans (c_num hx h s x)
  l h b z := by
    have e : shapeCast S8x16x1x1024 (hLse (uS (args m c)) (zS (args m c))) shapeCasts_S8x16384x1_S8x16x1x1024 (ix4 h b 0 z)
        = hLse (uS (args m c)) (zS (args m c)) (ix3 h ⟨b * 1024 + z, by omega⟩ 0) := by
      generalize hLse (uS (args m c)) (zS (args m c)) = y
      pointwise
    rw [lA_eq]
    refine (e.trans (lse_num hx h _)).trans ?_
    rw [mul_comm 1024]
    rfl
  e h b z := by
    have e : shapeCast S8x16x1x1024 (hDel (hOut (eS (args m c)) (zS (args m c)) (a2 m c)) (a3 m c)) shapeCasts_S8x16384_S8x16x1x1024 (ix4 h b 0 z)
        = hDel (hOut (eS (args m c)) (zS (args m c)) (a2 m c)) (a3 m c) (ix2 h ⟨b * 1024 + z, by omega⟩) := by
      generalize hDel (hOut (eS (args m c)) (zS (args m c)) (a2 m c)) (a3 m c) = y
      pointwise
    rw [eA_eq]
    refine (e.trans (del_num hx h _)).trans ?_
    rw [mul_comm 1024]
    rfl

end Cert.Bwd
-- ==== Proof.Ref.lean ====
/- What the reference computes, stage by stage, over the real numbers. -/
module

public import proofs.«01_k».proof.Proof.Numbers
public import proofs.«01_k».proof.Proof.Gen.ReferenceIdeal.Read
public import Idealize.ShloMosaic.Lib.Pointwise
public import Idealize.ShloMosaic.Lib.IdealHost

@[expose] public section

set_option maxRecDepth 65536

noncomputable section

namespace Cert.Bwd.Ref

open Cert.Bwd
open Cert.ReferenceIdeal Cert.ReferenceIdeal.Gen Cert.ReferenceIdeal.Read
open Idealize.ShloMosaic

/-! ## The stages at an index -/

section
variable (x0 x1 : FVec Ideal S16384x8x192 .f32) (x2 x3 : FVec Ideal S16384x8x128 .f32) (h : Fin 8) (a b : Fin 16384)

theorem v1_at (x : Fin 192) : val_main_v1 (F := Ideal) x0 (ix3 a h x) = x0 (ix3 a h x) * Ideal.ofBits .f32 0x3D93CD3A#32 := by
  pointwise [val_main_v1, val_main_v0, val_main_cst]

theorem v2_at : val_main_v2 (F := Ideal) x0 x1 (ix3 h a b) = ∑ x : Fin 192, val_main_v1 (F := Ideal) x0 (ix3 a h x) * x1 (ix3 b h x) := by
  unfold val_main_v2
  generalize val_main_v1 (F := Ideal) x0 = y
  pointwise

theorem v10_1_at : val_main_v10_1 (F := Ideal) (ix3 h a b) = IntOp.cmpi .sle (BitVec.ofNat 32 b) (BitVec.ofNat 32 a) := by
  pointwise [val_main_v10_1, val_main_v9, val_main_v8, val_main_v7, val_main_v6, val_main_v5, val_main_v4, val_main_v3]

theorem v10_0_at : val_main_v10_0 (F := Ideal) x0 x1 (ix3 h a b)
    = Scalar.select (val_main_v10_1 (F := Ideal) (ix3 h a b)) (val_main_v2 (F := Ideal) x0 x1 (ix3 h a b)) (Ideal.ofBits .f32 0xFF800000#32) := by
  unfold val_main_v10_0
  generalize val_main_v2 (F := Ideal) x0 x1 = y
  generalize val_main_v10_1 (F := Ideal) = z
  pointwise [val_main_call0_v2, val_main_call0_v0, val_main_cst_0]
  rfl

theorem v11_at : val_main_v11 (F := Ideal) x0 x1 (ix2 h a)
    = Finset.fold max (Ideal.ofBits .f32 0xFF800000#32) (fun b => val_main_v10_0 (F := Ideal) x0 x1 (ix3 h a b)) Finset.univ := by
  unfold val_main_v11
  generalize val_main_v10_0 (F := Ideal) x0 x1 = y
  pointwise [val_main_cst_1]

theorem v18_at : val_main_v18 (F := Ideal) x0 x1 (ix2 h a) = max (Ideal.ofBits .f32 0xFF800000#32) (val_main_v11 (F := Ideal) x0 x1 (ix2 h a)) := by
  rw [val_main_v18_apply, val_main_v17_apply, val_main_cst_3_apply]
  generalize val_main_v11 (F := Ideal) x0 x1 (ix2 h a) = y
  rfl

theorem v29_at : val_main_v29 (F := Ideal) x0 x1 (ix3 h a b) = val_main_v18 (F := Ideal) x0 x1 (ix2 h a) := by
  unfold val_main_v29 val_main_v28
  generalize val_main_v18 (F := Ideal) x0 x1 = y
  pointwise

theorem v31_at : val_main_v31 (F := Ideal) x0 x1 (ix3 h a b)
    = Ideal.exp (val_main_v10_0 (F := Ideal) x0 x1 (ix3 h a b) - val_main_v29 (F := Ideal) x0 x1 (ix3 h a b)) := by
  unfold val_main_v31 val_main_v30
  generalize val_main_v10_0 (F := Ideal) x0 x1 = y
  generalize val_main_v29 (F := Ideal) x0 x1 = z
  pointwise

theorem v33_at : val_main_v33 (F := Ideal) x0 x1 (ix3 h a 0) = ∑ b : Fin 16384, val_main_v31 (F := Ideal) x0 x1 (ix3 h a b) := by
  unfold val_main_v33 val_main_v32
  generalize val_main_v31 (F := Ideal) x0 x1 = y
  pointwise [val_main_cst_9]

theorem v35_at : val_main_v35 (F := Ideal) x0 x1 (ix3 h a b)
    = Ideal.div (val_main_v31 (F := Ideal) x0 x1 (ix3 h a b)) (val_main_v33 (F := Ideal) x0 x1 (ix3 h a 0)) := by
  unfold val_main_v35 val_main_v34
  generalize val_main_v31 (F := Ideal) x0 x1 = y
  generalize val_main_v33 (F := Ideal) x0 x1 = z
  pointwise

theorem v42_at : val_main_v42 (F := Ideal) x2 x3 (ix3 h a b) = ∑ e : Fin 128, x3 (ix3 a h e) * x2 (ix3 b h e) := by
  pointwise [val_main_v42, val_main_v41]

theorem v43_at (e : Fin 128) : val_main_v43 (F := Ideal) x0 x1 x3 (ix3 h e b)
    = ∑ a : Fin 16384, x3 (ix3 a h e) * val_main_v35 (F := Ideal) x0 x1 (ix3 h a b) := by
  unfold val_main_v43
  generalize val_main_v35 (F := Ideal) x0 x1 = y
  pointwise [val_main_v41]

theorem v47_at : val_main_v47 (F := Ideal) x0 x1 x2 x3 (ix3 h a b)
    = val_main_v42 (F := Ideal) x2 x3 (ix3 h a b)
      * Ideal.div (Ideal.ofBits .f32 0x3F800000#32) (val_main_v33 (F := Ideal) x0 x1 (ix3 h a 0) * val_main_v33 (F := Ideal) x0 x1 (ix3 h a 0))
      * val_main_v31 (F := Ideal) x0 x1 (ix3 h a b) := by
  unfold val_main_v47 val_main_v46 val_main_v45 val_main_v38 val_main_v36
  generalize val_main_v31 (F := Ideal) x0 x1 = y
  generalize val_main_v33 (F := Ideal) x0 x1 = z
  generalize val_main_v42 (F := Ideal) x2 x3 = w
  pointwise [val_main_v37, val_main_cst_10]

theorem v54_at : val_main_v54 (F := Ideal) x0 x1 x2 x3 (ix3 h a b) = -∑ i : Fin 16384, val_main_v47 (F := Ideal) x0 x1 x2 x3 (ix3 h a i) := by
  unfold val_main_v54 val_main_v53 val_main_v50 val_main_v49 val_main_v48
  generalize val_main_v47 (F := Ideal) x0 x1 x2 x3 = y
  pointwise [val_main_cst_11, val_main_cst_12]
  exact Fin.sum_univ_one _

theorem v57_at : val_main_v57 (F := Ideal) x0 x1 x2 x3 (ix3 h a b)
    = Scalar.select (val_main_v10_1 (F := Ideal) (ix3 h a b))
      ((Ideal.div (val_main_v42 (F := Ideal) x2 x3 (ix3 h a b)) (val_main_v33 (F := Ideal) x0 x1 (ix3 h a 0))
        + val_main_v54 (F := Ideal) x0 x1 x2 x3 (ix3 h a b)) * val_main_v31 (F := Ideal) x0 x1 (ix3 h a b)) 0 := by
  unfold val_main_v57 val_main_v56 val_main_v55 val_main_v52 val_main_v51
  generalize val_main_v31 (F := Ideal) x0 x1 = y
  generalize val_main_v33 (F := Ideal) x0 x1 = z
  generalize val_main_v42 (F := Ideal) x2 x3 = w
  generalize val_main_v54 (F := Ideal) x0 x1 x2 x3 = u
  generalize val_main_v10_1 (F := Ideal) = p
  pointwise [val_main_call1_v0, val_main_call1_cst]

theorem v63_at (x : Fin 256) : val_main_v63 (F := Ideal) x0 x1 x2 x3 (ix3 h b x)
    = if hx : x.val < 192 then ∑ a : Fin 16384, val_main_v57 (F := Ideal) x0 x1 x2 x3 (ix3 h a b) * val_main_v1 (F := Ideal) x0 (ix3 a h ⟨x, hx⟩)
      else FloatOps.sitofp (F := Ideal) .f32 0#32 := by
  unfold val_main_v63 val_main_v62 val_main_v59 val_main_v58
  generalize val_main_v57 (F := Ideal) x0 x1 x2 x3 = y
  generalize val_main_v1 (F := Ideal) x0 = z
  pointwise [val_main_call2_v0, val_main_c]

theorem v64_at (e : Fin 128) : val_main_v64 (F := Ideal) x0 x1 x3 (ix3 h b e) = val_main_v43 (F := Ideal) x0 x1 x3 (ix3 h e b) := by
  unfold val_main_v64 val_main_v44
  generalize val_main_v43 (F := Ideal) x0 x1 x3 = y
  pointwise

theorem v66_at (x : Fin 256) : val_main_v66 (F := Ideal) x0 x1 x2 x3 (ix3 h a x)
    = if hx : x.val < 192 then ∑ b : Fin 16384, val_main_v57 (F := Ideal) x0 x1 x2 x3 (ix3 h a b) * x1 (ix3 b h ⟨x, hx⟩)
      else FloatOps.sitofp (F := Ideal) .f32 0#32 := by
  unfold val_main_v66 val_main_v65 val_main_v61 val_main_v60
  generalize val_main_v57 (F := Ideal) x0 x1 x2 x3 = y
  pointwise [val_main_call3_v0, val_main_c_13]

end

/-! ## The stages as numbers -/

section
variable {x : Args} (hx : x.Real) (h : Fin 8) (a b : Fin 16384)
include hx

theorem q_num (l : Fin 192) : x.q (ix3 a h l) = ((x.attn h).q a l : EReal) := num_eq hx.q a h l
theorem k_num (l : Fin 192) : x.k (ix3 b h l) = ((x.attn h).k b l : EReal) := num_eq hx.k b h l
theorem v_num (e : Fin 128) : x.v (ix3 b h e) = ((x.attn h).v b e : EReal) := num_eq hx.v b h e
theorem c_num (e : Fin 128) : x.c (ix3 a h e) = ((x.attn h).c a e : EReal) := num_eq hx.c a h e

theorem v1_num (l : Fin 192) : val_main_v1 (F := Ideal) x.q (ix3 a h l) = ((x.attn h).q a l * scale : ℝ) := by
  rw [v1_at, q_num hx, scale_eq, EReal.coe_mul]

theorem v10_num : val_main_v10_0 (F := Ideal) x.q x.k (ix3 h a b) = x.row h a b := by
  have e : val_main_v2 (F := Ideal) x.q x.k (ix3 h a b) = ((x.attn h).score a b : EReal) := by
    rw [v2_at]
    simp only [v1_num hx, k_num hx, ← EReal.coe_mul, ← coe_sum]
    rw [Attn.score, Finset.sum_mul]
    exact congrArg (fun r : ℝ => (r : EReal)) (Finset.sum_congr rfl fun l _ => mul_right_comm _ _ _)
  rw [v10_0_at, v10_1_at, select_row a.isLt b.isLt, ofBits_neg_inf, e]
  rfl

theorem v29_num : val_main_v29 (F := Ideal) x.q x.k (ix3 h a b) = ((x.attn h).m a : EReal) := by
  have e : val_main_v11 (F := Ideal) x.q x.k (ix2 h a) = ((x.attn h).m a : EReal) := by
    rw [v11_at, ofBits_neg_inf, ← Args.max_eq]
    exact congrArg (fun f => Finset.fold max (⊥ : EReal) f Finset.univ) (funext fun b => v10_num hx h a b)
  rw [v29_at, v18_at, ofBits_neg_inf, e]
  exact max_eq_right bot_le

theorem v31_num : val_main_v31 (F := Ideal) x.q x.k (ix3 h a b) = ((x.attn h).ex a b : EReal) := by
  rw [v31_at, v10_num hx, v29_num hx, Args.row_eq, exp_seen]
  rfl

theorem v33_num : val_main_v33 (F := Ideal) x.q x.k (ix3 h a 0) = ((x.attn h).sm a : EReal) := by
  rw [v33_at]
  simp only [v31_num hx, ← coe_sum]
  rfl

theorem v35_num : val_main_v35 (F := Ideal) x.q x.k (ix3 h a b) = ((x.attn h).wt a b : EReal) := by
  rw [v35_at, v31_num hx, v33_num hx, div_coe _ (Attn.sm_pos _ a.isLt).ne']
  rfl

theorem v42_num : val_main_v42 (F := Ideal) x.v x.c (ix3 h a b) = ((x.attn h).dwt a b : EReal) := by
  rw [v42_at]
  simp only [v_num hx, c_num hx, ← EReal.coe_mul, ← coe_sum]
  rfl

theorem v47_num : val_main_v47 (F := Ideal) x.q x.k x.v x.c (ix3 h a b)
    = ((x.attn h).dwt a b * (1 / ((x.attn h).sm a * (x.attn h).sm a)) * (x.attn h).ex a b : ℝ) := by
  have hL := (Attn.sm_pos (x.attn h) a.isLt).ne'
  rw [v47_at, v42_num hx, v33_num hx, v31_num hx, Ideal.ofBits_one_f32, ← EReal.coe_one, ← EReal.coe_mul, div_coe _ (mul_ne_zero hL hL),
    ← EReal.coe_mul, ← EReal.coe_mul]

theorem v57_num : val_main_v57 (F := Ideal) x.q x.k x.v x.c (ix3 h a b) = ((x.attn h).dsc a b : EReal) := by
  have hL := (Attn.sm_pos (x.attn h) a.isLt).ne'
  rw [v57_at, v54_at, v10_1_at, select_row a.isLt b.isLt, v42_num hx, v33_num hx, v31_num hx, div_coe _ hL]
  simp only [v47_num hx, ← coe_sum, ← EReal.coe_neg, ← EReal.coe_add, ← EReal.coe_mul]
  by_cases hb : b.val ≤ a.val
  · rw [if_pos hb, Attn.dsc]
    refine congrArg (fun r : ℝ => (r : EReal)) ?_
    have e : ∑ i : Fin 16384, (x.attn h).dwt a i * (1 / ((x.attn h).sm a * (x.attn h).sm a)) * (x.attn h).ex a i
        = (∑ i : Fin 16384, (x.attn h).wt a i * (x.attn h).dwt a i) / (x.attn h).sm a := by
      rw [Finset.sum_div]
      refine Finset.sum_congr rfl fun i _ => ?_
      rw [Attn.wt]
      field_simp
    rw [e, Attn.wt]
    field_simp
    ring
  · rw [if_neg hb, Attn.dsc, Attn.wt, Attn.ex, if_neg hb, zero_div, zero_mul]
    rfl

omit hx in
theorem pad_num : FloatOps.sitofp (F := Ideal) .f32 0#32 = ((0 : ℝ) : EReal) := by
  show (((0#32 : BitVec 32).toInt : ℝ) : EReal) = _
  simp

theorem dk_num (l : Fin 256) : val_main_v63 (F := Ideal) x.q x.k x.v x.c (ix3 h b l) = ((x.attn h).dk b l : EReal) := by
  rw [v63_at]
  split
  · rename_i hl
    simp only [v57_num hx, v1_num hx, ← EReal.coe_mul, ← coe_sum]
    rfl
  · rename_i hl
    rw [pad_num, Attn.dk_zero (fun a l hl => x.attn_q_zero h a l hl) _ (not_lt.mp hl)]

theorem dv_num (e : Fin 128) : val_main_v64 (F := Ideal) x.q x.k x.c (ix3 h b e) = ((x.attn h).dv b e : EReal) := by
  rw [v64_at, v43_at]
  simp only [v35_num hx, c_num hx, ← EReal.coe_mul, ← coe_sum]
  exact congrArg (fun r : ℝ => (r : EReal)) (Finset.sum_congr rfl fun a _ => mul_comm _ _)

theorem dq_num (l : Fin 256) : val_main_v66 (F := Ideal) x.q x.k x.v x.c (ix3 h a l) = ((x.attn h).dq a l : EReal) := by
  rw [v66_at]
  split
  · rename_i hl
    simp only [v57_num hx, k_num hx, ← EReal.coe_mul, ← coe_sum]
    rfl
  · rename_i hl
    rw [pad_num, Attn.dq_zero (fun b l hl => x.attn_k_zero h b l hl) _ (not_lt.mp hl)]

end

end Cert.Bwd.Ref
-- ==== Proof.Value.lean ====
/- The kernel and the reference leave the same three arrays: the gradients of the queries, keys and values, over the real
   numbers, head by head. -/
module

public import proofs.«01_k».proof.Defs
public import proofs.«01_k».proof.Proof.Outs
public import proofs.«01_k».proof.Proof.Host
public import proofs.«01_k».proof.Proof.Ref
public import proofs.«01_k».proof.Proof.Gen.ReferenceIdeal.Run

@[expose] public section

set_option maxRecDepth 65536

noncomputable section

namespace Cert.Bwd

open Idealize.ShloMosaic Idealize.SL Idealize.SL.Sem

/-! ## The precondition -/

theorem ofBits_inf : Ideal.ofBits .f32 0x7F800000#32 = (⊤ : EReal) := by simp [Ideal.ofBits, Ideal.ieee]

/-- A number below infinity in absolute value is real. -/
theorem real_of_abs {x : EReal} (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x with
  | bot => simp at hlt
  | top => simp at hlt
  | coe r => exact ⟨r, rfl⟩

theorem real_of_finite {s : Shape} (hb : (⟨0, ![]⟩ : Shape).BroadcastsInDim s (![] : Fin 0 → Fin s.rank)) (x : FVec Ideal s .f32)
    (h : cmpf .olt (Host.absf x) (broadcastInDim s ![] hb (constant (F := Ideal) ⟨0, ![]⟩ .f32 0x7F800000#32)) = fun _ => 1#1) (i : s.Idx) :
    ∃ r : ℝ, x i = (r : EReal) :=
  real_of_abs (congrFun h i)

theorem args_real [Cert.Pre_finite.Facts] (m : (ℓ : Loc Cert.KernelIdeal.nD Cert.KernelIdeal.τ Cert.KernelIdeal.sig) → Buf (Elt Ideal) ℓ)
    (hm : Cert.Pre_KernelIdeal_finite m) (c : Dev Cert.KernelIdeal.nD) : (args m c).Real where
  q := real_of_finite _ _ (hm c).1
  k := real_of_finite _ _ (hm c).2.1
  v := real_of_finite _ _ (hm c).2.2.1
  c := real_of_finite _ _ (hm c).2.2.2

/-! ## The three results -/

/-- The gradients of the keys, the values and the queries. -/
def dkOf (x : Args) : Vec Ideal ⟨3, ![8, 16384, 256]⟩ .f32 := fun i => ((x.attn (i 0).val).dk (i 1).val (i 2).val : EReal)
def dvOf (x : Args) : Vec Ideal ⟨3, ![8, 16384, 128]⟩ .f32 := fun i => ((x.attn (i 0).val).dv (i 1).val (i 2).val : EReal)
def dqOf (x : Args) : Vec Ideal ⟨3, ![8, 16384, 256]⟩ .f32 := fun i => ((x.attn (i 0).val).dq (i 1).val (i 2).val : EReal)

section
open Cert.KernelIdeal Cert.KernelIdeal.Gen
variable (m : (ℓ : Loc nD τ sig) → Buf (Elt Ideal) ℓ) (ρ : Dev nD → PrngReg)

theorem kernel_dk (c : Dev nD) (hx : (args m c).Real) : (dats m 0 c).arrAt 6 (cfgs 0).N = dkOf (args m c) :=
  (arrays hx).dk.trans (funext fun _ => congrArg (fun x : ℝ => (x : EReal)) (Attn.head_dk rfl ((args m c).attn_k_zero _) _ _))

theorem kernel_dv (c : Dev nD) (hx : (args m c).Real) : (dats m 0 c).arrAt 7 (cfgs 0).N = dvOf (args m c) :=
  (arrays hx).dv.trans (funext fun _ => congrArg (fun x : ℝ => (x : EReal)) (Attn.head_dv rfl ((args m c).attn_k_zero _) _ _))

theorem kernel_dq (c : Dev nD) (hx : (args m c).Real) : (dats m 0 c).arrAt 8 (cfgs 0).N = dqOf (args m c) :=
  (arrays hx).dq.trans (funext fun i => congrArg (fun x : ℝ => (x : EReal)) (Attn.head_dq rfl ((args m c).attn_k_zero _) (i 1).isLt _))

theorem kernel_run (hx : ∀ c, (args m c).Real) : θ_run defs (onTc (τ := τ) (main (F := Ideal))) ⟨m, fun _ => 0, ρ⟩ (fun r => ∀ c : Dev nD,
    r.2.mem ((c.tc : Thread nD τ).loc main_v47_0) = dkOf (args m c)
    ∧ r.2.mem ((c.tc : Thread nD τ).loc main_v47_1) = dvOf (args m c)
    ∧ r.2.mem ((c.tc : Thread nD τ).loc main_v47_2) = dqOf (args m c)) :=
  (θ_run defs _ _).mono (fun _ h c => ⟨((h.1 c).1 6).trans (kernel_dk m c (hx c)), ((h.1 c).1 7).trans (kernel_dv m c (hx c)),
    ((h.1 c).1 8).trans (kernel_dq m c (hx c))⟩) (run_main m ρ)
end

section
open Cert.ReferenceIdeal Cert.ReferenceIdeal.Gen Cert.ReferenceIdeal.Read
variable {x : Args} (hx : x.Real)
include hx

theorem reference_dk : val_main_v63 (F := Ideal) x.q x.k x.v x.c = dkOf x :=
  funext fun i => by rw [ix3_all i]; exact Ref.dk_num hx (i 0) (i 1) (i 2)

theorem reference_dv : val_main_v64 (F := Ideal) x.q x.k x.c = dvOf x :=
  funext fun i => by rw [ix3_all i]; exact Ref.dv_num hx (i 0) (i 1) (i 2)

theorem reference_dq : val_main_v66 (F := Ideal) x.q x.k x.v x.c = dqOf x :=
  funext fun i => by rw [ix3_all i]; exact Ref.dq_num hx (i 0) (i 1) (i 2)

variable (m : (ℓ : Loc nD τ sig) → Buf (Elt Ideal) ℓ) (ρ : Dev nD → PrngReg) (c : Dev nD)
  (h0 : m ((c.tc : Thread nD τ).loc main_arg0) = x.q) (h1 : m ((c.tc : Thread nD τ).loc main_arg1) = x.k)
  (h2 : m ((c.tc : Thread nD τ).loc main_arg2) = x.v) (h3 : m ((c.tc : Thread nD τ).loc main_arg3) = x.c)
include h0 h1 h3

theorem res_dv : Cert.ReferenceIdeal.Value.res_main_v64 m c = dvOf x := by
  rw [val_main_v64_eq, h0, h1, h3]
  exact reference_dv hx

include h2

theorem res_dk : Cert.ReferenceIdeal.Value.res_main_v63 m c = dkOf x := by
  rw [val_main_v63_eq, h0, h1, h2, h3]
  exact reference_dk hx

theorem res_dq : Cert.ReferenceIdeal.Value.res_main_v66 m c = dqOf x := by
  rw [val_main_v66_eq, h0, h1, h2, h3]
  exact reference_dq hx
end

theorem algebraic [Cert.Pre_finite.Facts] : Cert.algebraic_KernelIdeal_ReferenceIdeal_pre_finite := by
  intro m g m' g' hm hargs
  have hx := args_real m hm
  refine ⟨fun c => dkOf (args m c), fun c => dvOf (args m c), fun c => dqOf (args m c), ?_, ?_⟩
  · refine (θ_run Cert.KernelIdeal.defs _ _).mono (fun r h c => ?_) (θ_run_and (kernel_run m g hx) (quiescent m g))
    exact ⟨(h.1 c).1, (h.1 c).2.1, (h.1 c).2.2, h.2.1 c⟩
  · refine (θ_run Cert.ReferenceIdeal.defs _ _).mono (fun r h c => ?_) (Cert.ReferenceIdeal.Value.run m' g')
    obtain ⟨e0, e1, e2, e3⟩ := hargs c
    exact ⟨(h c).1.trans (res_dk (hx c) m' c e0 e1 e2 e3), (h c).2.1.trans (res_dv (hx c) m' c e0 e1 e3),
      (h c).2.2.1.trans (res_dq (hx c) m' c e0 e1 e2 e3), (h c).2.2.2⟩

end Cert.Bwd

end
-- ==== Proof.Carry.lean ====
/- Programs that hand a known value on: what is held where a program returns a value, a counted loop carrying one, and the
   joining of such programs. -/
module

public import proofs.«01_k».proof.Proof.Rules

@[expose] public section

noncomputable section

namespace Cert.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {c : Thread nD τ} {bd : Option 𝒱.V} {E : Set Name} {α β : Type}

/-- The value returned is `r`, and `A` is held. -/
abbrev Gives (A : sProp 𝕄) (r : α) : α → sProp 𝕄 := fun x => iprop(⌜x = r⌝ ∗ A)

theorem wp_gives_pure (A : sProp 𝕄) (r : α) : A ⊢ wp frame (wpE defs 𝒱 c bd) E (pure r) (Gives A r) := by
  rw [wp_pure]
  refine .trans ?_ fupd_intro
  iintro H
  isplitr
  · ipureintro; rfl
  · iexact H

theorem wp_gives_bind {A B : sProp 𝕄} {p : Prog (TpuEff nD τ sig Val Λ c.2) α} {r : α} {k : α → Prog (TpuEff nD τ sig Val Λ c.2) β} {Q : β → sProp 𝕄}
    (hp : A ⊢ wp frame (wpE defs 𝒱 c bd) E p (Gives B r)) (hk : B ⊢ wp frame (wpE defs 𝒱 c bd) E (k r) Q) :
    A ⊢ wp frame (wpE defs 𝒱 c bd) E (p >>= k) Q := by
  rw [wp_bind]
  refine hp.trans (wp_mono _ _ _ fun x => ?_)
  unfold Gives
  iintro ⟨%hx, H⟩
  subst hx
  iapply hk $$ H

/-- A counted loop whose trips keep what is held and step a carried value hands on the fold of the steps. -/
theorem wp_forFrom_gives {σ : Type} {n : ℕ} (body : Fin n → σ → Prog (TpuEff nD τ sig Val Λ c.2) σ) (A : sProp 𝕄)
    (f : σ → Fin n → σ) (h : ∀ k x, A ⊢ wp frame (wpE defs 𝒱 c bd) E (body k x) (Gives A (f x k))) (ks : List (Fin n)) (x : σ) :
    A ⊢ wp frame (wpE defs 𝒱 c bd) E (Scf.forFrom body ks x) (Gives A (ks.foldl f x)) := by
  induction ks generalizing x with
  | nil => rw [Scf.forFrom_nil]; exact wp_gives_pure A x
  | cons k ks ih => rw [Scf.forFrom_cons]; exact wp_gives_bind (h k x) (ih (f x k))

end Cert.Att

end
-- ==== Proof.FwdStep.lean ====
/- One step of the forward kernel's inner loop — a block of queries against a block of 1024 keys, in two halves — as a
   program of loads and as a function of the running maxima and sums, and the loops' trips as such steps. -/
module

public import proofs.«01_k».proof.Proof.Gen.Kernel2Ideal.Frame
public import proofs.«01_k».proof.Proof.Gen.Kernel2Ideal.Loops
public import proofs.«01_k».proof.Proof.Carry

@[expose] public section

set_option maxRecDepth 65536

noncomputable section

namespace Cert.Fwd

open Cert.Att
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A weakest precondition of the kernel's own programs, on core `c`. -/
abbrev wpk (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The kernel's memrefs: queries, keys, values, the output, the log-sums, the scratch of transposed values. -/
structure Mems where
  q : Memref sig .tc .vmem S1x1024x256 .bf16
  k : Memref sig .tc .vmem S1x16384x256 .bf16
  v : Memref sig .tc .vmem S1x16384x128 .bf16
  o : Memref sig .tc .vmem S1024x128 .f32
  l : Memref sig .tc .vmem S1x1x1x1024 .f32
  w : Memref sig .tc .vmem S64x144x256 .bf16

/-- What the loops carry: each query's running maximum, and its running sums of the transposed values. -/
abbrev Run (F : FTy → Type) [FloatOps F] : Type := FVec F S1x1024 .f32 × FVec F S144x1024 .f32

/-- The running values after half a block: scores `s` of 512 keys, and those keys' transposed values in two quarters. -/
def half (s : FVec F S512x1024 .f32) (w0 w1 : Vec F S1x144x256 .bf16) (x : Run F) : Run F :=
  let mx : FVec F S1x1024 .f32 := maximumf x.1
    (shapeCast S1x1024 (multiReduction .maximumf [0] S1024 s 0xFF800000#32 reduces_S512x1024_S1024 (.inl rfl) rfl) shapeCasts_S1024_S1x1024)
  let p : FVec F S512x1024 .bf16 := truncf .bf16 (exp2 (subf s (broadcastTo S512x1024 mx broadcasts_S1x1024_S512x1024))) bitsLt_bf16_f32
  (mx, addf
    (addf (mulf (broadcastTo S144x1024 (exp2 (subf x.1 mx)) broadcasts_S1x1024_S144x1024) x.2)
      (matmul dot_S144x256_S256x1024_S144x1024_1_0_0_1_n_n none (shapeCast S144x256 w0 shapeCasts_S1x144x256_S144x256)
        (extractStridedSlice S256x1024 ![0, 0] p slices_S512x1024_o0_0_S256x1024) (constant S144x1024 .f32 0x00000000#32)))
    (matmul dot_S144x256_S256x1024_S144x1024_1_0_0_1_n_n none (shapeCast S144x256 w1 shapeCasts_S1x144x256_S144x256)
      (extractStridedSlice S256x1024 ![256, 0] p slices_S512x1024_o256_0_S256x1024) (constant S144x1024 .f32 0x00000000#32)))

/-- The offsets of a step's loads: two of keys, four of transposed values, with their bounds. -/
structure Offs where
  k : Fin 2 → Fin 3 → ℕ
  hk : ∀ r a, k r a + S1x512x256.size a ≤ S1x16384x256.size a
  w : Fin 2 → Fin 2 → Fin 3 → ℕ
  hw : ∀ r s a, w r s a + S1x144x256.size a ≤ S64x144x256.size a

/-- The rectangle of a half block of keys, and of a quarter of transposed values. -/
abbrev Offs.rk (o : Offs) (r : Fin 2) : Rect S1x16384x256 := Rect.unit (s := S1x16384x256) (o.k r) S1x512x256.size (o.hk r)
abbrev Offs.rw (o : Offs) (r s : Fin 2) : Rect S64x144x256 := Rect.unit (s := S64x144x256) (o.w r s) S1x144x256.size (o.hw r s)

/-- One step as the kernel spells it. -/
def stepProg (M : Mems) (v1 : FVec F S1024x256 .bf16) (o : Offs) (x : Run F) : Prog (TpuEff nD τ sig (Elt F) Λ₀ .tc) (Run F) := do
  let k0 : Vec F S1x512x256 .bf16 ← Prog.lift (.load M.k (o.rk 0).toLoadRect (View.loadsAt_vmem h_S1x512x256))
  let k1 : Vec F S1x512x256 .bf16 ← Prog.lift (.load M.k (o.rk 1).toLoadRect (View.loadsAt_vmem h_S1x512x256))
  let w00 : Vec F S1x144x256 .bf16 ← Prog.lift (.load M.w (o.rw 0 0).toLoadRect (View.loadsAt_vmem h_S1x144x256))
  let w01 : Vec F S1x144x256 .bf16 ← Prog.lift (.load M.w (o.rw 0 1).toLoadRect (View.loadsAt_vmem h_S1x144x256))
  let w10 : Vec F S1x144x256 .bf16 ← Prog.lift (.load M.w (o.rw 1 0).toLoadRect (View.loadsAt_vmem h_S1x144x256))
  let w11 : Vec F S1x144x256 .bf16 ← Prog.lift (.load M.w (o.rw 1 1).toLoadRect (View.loadsAt_vmem h_S1x144x256))
  pure (half (k0_pay80 v1 k1) w10 w11 (half (k0_pay80 v1 k0) w00 w01 x))

/-- The running values after a step, from the keys `k` and the transposed values `w`. -/
def stepRun (v1 : FVec F S1024x256 .bf16) (k : Vec F S1x16384x256 .bf16) (w : Vec F S64x144x256 .bf16) (o : Offs) (x : Run F) : Run F :=
  half (k0_pay80 v1 (rd (o.rk 1) k)) (rd (o.rw 1 0) w) (rd (o.rw 1 1) w)
    (half (k0_pay80 v1 (rd (o.rk 0) k)) (rd (o.rw 0 0) w) (rd (o.rw 0 1) w) x)

/-- The keys and the transposed values owned. -/
def held (c : Dev nD) (M : Mems) (k : Vec F S1x16384x256 .bf16) (w : Vec F S64x144x256 .bf16) : sProp 𝕄 :=
  iprop(owns (c : Thread nD τ) M.k fullShare k ∗ owns (c : Thread nD τ) M.w fullShare w)

theorem wp_step (c : Dev nD) (M : Mems) (k : Vec F S1x16384x256 .bf16) (w : Vec F S64x144x256 .bf16) (v1 : FVec F S1024x256 .bf16) (o : Offs) (x : Run F) :
    held c M k w ⊢ wpk c (stepProg M v1 o x) (Gives (held c M k w) (stepRun v1 k w o x)) := by
  unfold stepProg stepRun wpk
  unfold held
  iintro ⟨Hk, Hw⟩
  iapply wp_load_owns $$ Hk; iintro Hk
  iapply wp_load_owns $$ Hk; iintro Hk
  iapply wp_load_owns $$ Hw; iintro Hw
  iapply wp_load_owns $$ Hw; iintro Hw
  iapply wp_load_owns $$ Hw; iintro Hw
  iapply wp_load_owns $$ Hw; iintro Hw
  simp only [Prog.bind]
  sl_step
  isplitr
  · ipureintro; rfl
  isplitl [Hk]; · iexact Hk
  iexact Hw

/-! ## The loops' trips -/

section Trips

variable (i : grid0.Coords)

/-- Step `u` of a trip of the main loop. -/
def offs2 (t : Fin (k0_t2_loop i).trips) (u : Fin 4) : Offs where
  k r := k0_off4 i t (BitVec.ofNat 32 u.val) (BitVec.ofNat 32 (512 * r.val))
  hk r := k0_off4_inb i t u r
  w r s := k0_off5 i t (BitVec.ofNat 32 u.val) (BitVec.ofNat 32 r.val) (BitVec.ofNat 32 s.val)
  hw r s := k0_off5_inb i t u r s

/-- The step of a trip of the loop over what is left. -/
def offs4 (t : Fin (k0_t4_loop i).trips) : Offs where
  k r := k0_off8 i t (BitVec.ofNat 32 (512 * r.val))
  hk r := k0_off8_inb i t r
  w r s := k0_off9 i t (BitVec.ofNat 32 r.val) (BitVec.ofNat 32 s.val)
  hw r s := k0_off9_inb i t r s

/-- The masked step's loads. -/
def offsM : Offs where
  k r := k0_off12 i (BitVec.ofNat 32 (512 * r.val))
  hk r := k0_off12_inb i r
  w r s := k0_off13 i (BitVec.ofNat 32 r.val) (BitVec.ofNat 32 s.val)
  hw r s := k0_off13_inb i r s

variable (arg2 : Memref sig .tc .vmem S1x1024x256 .bf16) (harg2 : arg2.IsWhole)
  (arg3 : Memref sig .tc .vmem S1x16384x256 .bf16) (harg3 : arg3.IsWhole) (arg4 : Memref sig .tc .vmem S1x16384x128 .bf16) (harg4 : arg4.IsWhole)
  (arg5 : Memref sig .tc .vmem S1024x128 .f32) (harg5 : arg5.IsWhole) (arg6 : Memref sig .tc .vmem S1x1x1x1024 .f32) (harg6 : arg6.IsWhole)
  (arg7 : Memref sig .tc .vmem S64x144x256 .bf16) (harg7 : arg7.IsWhole)

theorem t2_body_eq (v0 : Vec F S1x1024x256 .bf16) (t : Fin (k0_t2_loop i).trips) (x : Run F) :
    k0_t2_body (F := F) i arg2 harg2 arg3 harg3 arg4 harg4 arg5 harg5 arg6 harg6 arg7 harg7 v0 t x
      = (stepProg ⟨arg2, arg3, arg4, arg5, arg6, arg7⟩ (k0_pay84 v0) (offs2 i t 0) x >>= fun x =>
          stepProg ⟨arg2, arg3, arg4, arg5, arg6, arg7⟩ (k0_pay84 v0) (offs2 i t 1) x >>= fun x =>
          stepProg ⟨arg2, arg3, arg4, arg5, arg6, arg7⟩ (k0_pay84 v0) (offs2 i t 2) x >>= fun x =>
          stepProg ⟨arg2, arg3, arg4, arg5, arg6, arg7⟩ (k0_pay84 v0) (offs2 i t 3) x) := by
  unfold k0_t2_body
  rw [k0_part1_eq_skeleton, k0_part2_eq_skeleton, k0_part3_eq_skeleton, k0_part4_eq_skeleton, k0_part5_eq_skeleton, k0_part6_eq_skeleton,
    k0_part7_eq_skeleton, k0_part8_eq_skeleton]
  rfl

theorem t4_body_eq (v0 : Vec F S1x1024x256 .bf16) (v16 : BitVec 32) (t : Fin (k0_t4_loop i).trips) (x : Run F) :
    k0_t4_body (F := F) i arg2 harg2 arg3 harg3 arg4 harg4 arg5 harg5 arg6 harg6 arg7 harg7 v0 v16 t x
      = stepProg ⟨arg2, arg3, arg4, arg5, arg6, arg7⟩ (k0_pay84 v0) (offs4 i t) x := by
  unfold k0_t4_body
  rw [k0_part17_eq_skeleton]
  rfl

end Trips

end Cert.Fwd

end
-- ==== Proof.FwdPoint.lean ====
/- The whole of the forward kernel's body at a grid point, from its buffers' contents to theirs. -/
module

public import proofs.«01_k».proof.Proof.FwdStep
public import Idealize.ShloMosaic.Lib.Pointwise

@[expose] public section

set_option maxRecDepth 65536

noncomputable section

namespace Cert.Fwd

open Cert.Att
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The scratch of transposed values -/

section Fill

/-- The block of 256 values of a trip of the filling loop, and the two parts of the scratch it writes. -/
abbrev rv (i : grid0.Coords) (h : k0_cond1 i = 1#1) (t : Fin k0_t1_loop.trips) : Rect S1x16384x128 :=
  Rect.unit (s := S1x16384x128) (k0_off1 t) S1x256x128.size (k0_off1_inb i t h)
abbrev rtop (i : grid0.Coords) (h : k0_cond1 i = 1#1) (t : Fin k0_t1_loop.trips) : Rect S64x144x256 :=
  Rect.unit (s := S64x144x256) (k0_off2 t) S1x128x256.size (k0_off2_inb i t h)
abbrev rbot (i : grid0.Coords) (h : k0_cond1 i = 1#1) (t : Fin k0_t1_loop.trips) : Rect S64x144x256 :=
  Rect.unit (s := S64x144x256) (k0_off3 t) S1x16x256.size (k0_off3_inb i t h)

/-- The scratch after a trip of the filling loop. -/
def fillTrip (i : grid0.Coords) (h : k0_cond1 i = 1#1) (v : Vec F S1x16384x128 .bf16) (w : Vec F S64x144x256 .bf16) (t : Fin k0_t1_loop.trips) :
    Vec F S64x144x256 .bf16 :=
  wr (rbot i h t) (wr (rtop i h t) w (k0_pay85 (rd (rv i h t) v))) (k0_pay86 (F := F))

theorem t1_trips : k0_t1_loop.trips = 64 := by decide +kernel

theorem off1_eq : ∀ t : Fin k0_t1_loop.trips, k0_off1 t = ![0, 256 * t.val, 0] := by decide +kernel
theorem off2_eq : ∀ t : Fin k0_t1_loop.trips, k0_off2 t = ![t.val, 0, 0] := by decide +kernel
theorem off3_eq : ∀ t : Fin k0_t1_loop.trips, k0_off3 t = ![t.val, 128, 0] := by decide +kernel

/-- A block of 256 values. -/
def vblk (v : Vec F S1x16384x128 .bf16) (t : Fin 64) : Vec F S1x256x128 .bf16 := fun y =>
  v (ix3 (0 : Fin 1) (⟨256 * t.val + (y 1).val, by have h1 : (y 1).val < 256 := (y 1).isLt; have := t.isLt; show _ < 16384; omega⟩ : Fin 16384) (y 2 : Fin 128))

/-- The scratch once filled: under each block of 256 columns, 128 rows of transposed values, a row of ones and rows of zeros. -/
def fill (v : Vec F S1x16384x128 .bf16) : Vec F S64x144x256 .bf16 := fun y =>
  if h : (y 1).val < 128 then k0_pay85 (vblk v (y 0 : Fin 64)) (ix3 (0 : Fin 1) (⟨(y 1).val, h⟩ : Fin 128) (y 2 : Fin 256))
  else k0_pay86 (ix3 (0 : Fin 1) (⟨(y 1).val - 128, by have h1 : (y 1).val < 144 := (y 1).isLt; show _ < 16; omega⟩ : Fin 16) (y 2 : Fin 256))

theorem rd_rv (i : grid0.Coords) (h : k0_cond1 i = 1#1) (v : Vec F S1x16384x128 .bf16) (t : Fin k0_t1_loop.trips) (t' : Fin 64) (ht : t'.val = t.val) :
    rd (rv i h t) v = vblk v t' := by
  funext y
  refine congrArg v ?_
  funext a
  refine Fin.ext ?_
  show k0_off1 t a + 1 * (y a).val = _
  rw [off1_eq]
  have h0 : (y 0).val < 1 := (y 0).isLt
  fin_cases a
  · show 0 + 1 * (y 0).val = 0; omega
  · show 256 * t.val + 1 * (y 1).val = 256 * t'.val + (y 1).val; omega
  · show 0 + 1 * (y 2).val = (y 2).val; omega

theorem fillTrip_eq (i : grid0.Coords) (h : k0_cond1 i = 1#1) (v : Vec F S1x16384x128 .bf16) (w : Vec F S64x144x256 .bf16) (t : Fin k0_t1_loop.trips)
    (y : S64x144x256.Idx) : fillTrip i h v w t y = if (y 0).val = t.val then fill v y else w y := by
  have ht := t.isLt
  have ht' : t.val < 64 := by rw [← t1_trips]; exact ht
  have h1 : (y 1).val < 144 := (y 1).isLt
  unfold fillTrip
  by_cases hy : (y 0).val = t.val
  · rw [if_pos hy]
    have hv : rd (rv i h t) v = vblk v (y 0 : Fin 64) := rd_rv i h v t _ hy
    by_cases hl : (y 1).val < 128
    · rw [wr_of_not]
      · have he : (rtop i h t).emb (ix3 (0 : Fin 1) (⟨(y 1).val, hl⟩ : Fin 128) (y 2 : Fin 256)) = y := by
          funext a
          refine Fin.ext ?_
          show k0_off2 t a + 1 * _ = _
          rw [off2_eq]
          fin_cases a
          · show t.val + 1 * 0 = (y 0).val; omega
          · show 0 + 1 * (y 1).val = (y 1).val; omega
          · show 0 + 1 * (y 2).val = (y 2).val; omega
        have hw := wr_emb (rtop i h t) w (k0_pay85 (rd (rv i h t) v)) (ix3 (0 : Fin 1) (⟨(y 1).val, hl⟩ : Fin 128) (y 2 : Fin 256))
        rw [he] at hw
        rw [hw, hv]
        unfold fill
        rw [dif_pos hl]
      · rintro ⟨j, hj⟩
        have := congrArg (fun y : S64x144x256.Idx => (y 1).val) hj
        have h2 : (k0_off3 t) 1 + 1 * (j 1).val = (y 1).val := this
        rw [off3_eq] at h2
        have h3 : 128 + 1 * (j 1).val = (y 1).val := h2
        omega
    · have he : (rbot i h t).emb (ix3 (0 : Fin 1) (⟨(y 1).val - 128, by show _ < 16; omega⟩ : Fin 16) (y 2 : Fin 256)) = y := by
        funext a
        refine Fin.ext ?_
        show k0_off3 t a + 1 * _ = _
        rw [off3_eq]
        fin_cases a
        · show t.val + 1 * 0 = (y 0).val; omega
        · show 128 + 1 * ((y 1).val - 128) = (y 1).val; omega
        · show 0 + 1 * (y 2).val = (y 2).val; omega
      have hw := wr_emb (rbot i h t) (wr (rtop i h t) w (k0_pay85 (rd (rv i h t) v))) (k0_pay86 (F := F))
        (ix3 (0 : Fin 1) (⟨(y 1).val - 128, by show _ < 16; omega⟩ : Fin 16) (y 2 : Fin 256))
      rw [he] at hw
      rw [hw]
      unfold fill
      rw [dif_neg hl]
  · rw [if_neg hy, wr_of_not, wr_of_not]
    · rintro ⟨j, hj⟩
      have h2 : (k0_off2 t) 0 + 1 * (j 0).val = (y 0).val := congrArg (fun y : S64x144x256.Idx => (y 0).val) hj
      rw [off2_eq] at h2
      have h3 : t.val + 1 * (j 0).val = (y 0).val := h2
      have h4 : (j 0).val < 1 := (j 0).isLt
      omega
    · rintro ⟨j, hj⟩
      have h2 : (k0_off3 t) 0 + 1 * (j 0).val = (y 0).val := congrArg (fun y : S64x144x256.Idx => (y 0).val) hj
      rw [off3_eq] at h2
      have h3 : t.val + 1 * (j 0).val = (y 0).val := h2
      have h4 : (j 0).val < 1 := (j 0).isLt
      omega

theorem fill_foldl (i : grid0.Coords) (h : k0_cond1 i = 1#1) (v : Vec F S1x16384x128 .bf16) (ts : List (Fin k0_t1_loop.trips)) (w : Vec F S64x144x256 .bf16)
    (y : S64x144x256.Idx) : ts.foldl (fillTrip i h v) w y = if ∃ t ∈ ts, (y 0).val = t.val then fill v y else w y := by
  induction ts generalizing w with
  | nil => simp
  | cons t ts ih =>
    rw [List.foldl_cons, ih, fillTrip_eq]
    by_cases h1 : ∃ t ∈ ts, (y 0).val = t.val
    · obtain ⟨t', h1, h2⟩ := h1
      rw [if_pos ⟨t', h1, h2⟩, if_pos ⟨t', List.mem_cons_of_mem _ h1, h2⟩]
    · rw [if_neg h1]
      by_cases h2 : (y 0).val = t.val
      · rw [if_pos h2, if_pos ⟨t, List.mem_cons_self, h2⟩]
      · rw [if_neg h2, if_neg]
        rintro ⟨t', h3, h4⟩
        rcases List.mem_cons.mp h3 with rfl | h3
        · exact h2 h4
        · exact h1 ⟨t', h3, h4⟩

/-- The filling loop fills the scratch, whatever it held. -/
theorem fill_all (i : grid0.Coords) (h : k0_cond1 i = 1#1) (v : Vec F S1x16384x128 .bf16) (w : Vec F S64x144x256 .bf16) :
    (List.finRange k0_t1_loop.trips).foldl (fillTrip i h v) w = fill v := by
  funext y
  rw [fill_foldl, if_pos]
  have h0 : (y 0).val < 64 := (y 0).isLt
  exact ⟨⟨(y 0).val, by rw [t1_trips]; exact h0⟩, List.mem_finRange _, rfl⟩

end Fill

/-! ## The body's parts -/

/-- A trip of the filling loop as the kernel spells it. -/
def fillProg (i : grid0.Coords) (h : k0_cond1 i = 1#1) (M : Mems) (hw : M.w.IsWhole) (t : Fin k0_t1_loop.trips) : Prog (TpuEff nD τ sig (Elt F) Λ₀ .tc) Unit := do
  let v : Vec F S1x256x128 .bf16 ← Prog.lift (.load M.v (rv i h t).toLoadRect (View.loadsAt_vmem h_S1x256x128))
  let _ : Vec F S1x128x256 .bf16 ← Prog.lift (.load M.w (rtop i h t).toLoadRect (View.loadsAt_vmem h_S1x128x256))
  Prog.lift (.store M.w (rtop i h t) (k0_pay85 v) Finset.univ (View.stores_vmem h_S1x128x256 (hw.storeExact_slice rfl _ (k0_off2_packedbf16 i t h)) (fun _ => rfl)) (.inl rfl))
  let _ : Vec F S1x16x256 .bf16 ← Prog.lift (.load M.w (rbot i h t).toLoadRect (View.loadsAt_vmem h_S1x16x256))
  Prog.lift (.store M.w (rbot i h t) (k0_pay86 (F := F)) Finset.univ (View.stores_vmem h_S1x16x256 (hw.storeExact_slice rfl _ (k0_off3_packedbf16 i t h)) (fun _ => rfl)) (.inl rfl))
  pure ⟨⟩

/-- A branch that does nothing where its condition fails. -/
def whenProg (B : Prop) [Decidable B] (p : B → Prog (TpuEff nD τ sig (Elt F) Λ₀ .tc) PUnit) : Prog (TpuEff nD τ sig (Elt F) Λ₀ .tc) PUnit :=
  if h : B then p h else pure ⟨⟩

theorem whenProg_bind {α : Type} (B : Prop) [Decidable B] (p : B → Prog (TpuEff nD τ sig (Elt F) Λ₀ .tc) PUnit)
    (k : PUnit → Prog (TpuEff nD τ sig (Elt F) Λ₀ .tc) α) : whenProg B p >>= k = if h : B then p h >>= k else k ⟨⟩ := by
  unfold whenProg
  split <;> rfl

abbrev ro : Rect S1024x128 := Rect.unit (s := S1024x128) ![0, 0] S1024x128.size inb_S1024x128_S1024x128_0_0
abbrev rl : Rect S1x1x1x1024 := Rect.unit (s := S1x1x1x1024) ![0, 0, 0, 0] S1x1x1x1024.size inb_S1x1x1x1024_S1x1x1x1024_0_0_0_0

/-- The row of the sums of weights. -/
def sums (x : Run F) : FVec F S1x1024 .f32 := extractStridedSlice S1x1024 ![128, 0] x.2 slices_S144x1024_o128_0_S1x1024

/-- The output's block, and the log-sums', from the running values at the end. -/
def outO (x : Run F) : FVec F S1024x128 .f32 :=
  transpose S1024x128 [1, 0] (divf (extractStridedSlice S128x1024 ![0, 0] x.2 slices_S144x1024_o0_0_S128x1024)
    (broadcastTo S128x1024 (sums x) broadcasts_S1x1024_S128x1024)) transposes_S128x1024_p1_0_S1024x128
def outL (x : Run F) : FVec F S1x1x1x1024 .f32 := k0_pay1 x.1 (sums x)

/-- The running values after the masked step on the diagonal. -/
def maskedRun (i : grid0.Coords) (q : Vec F S1x1024x256 .bf16) (k : Vec F S1x16384x256 .bf16) (w : Vec F S64x144x256 .bf16) (x : Run F) : Run F :=
  half (k0_pay97 (k0_pay84 q) (rd ((offsM i).rk 1) k)) (rd ((offsM i).rw 1 0) w) (rd ((offsM i).rw 1 1) w)
    (half (k0_pay96 (k0_pay95 q (rd ((offsM i).rk 0) k))) (rd ((offsM i).rw 0 0) w) (rd ((offsM i).rw 0 1) w) x)

/-- What follows the loops and the first load of the masked step, from what is computed before. -/
def tailProg (i : grid0.Coords) (M : Mems) (r : Σ' (arg1 : BitVec 32) (v1 : FVec F S1024x256 .bf16) (v23_0 : FVec F S1x1024 .f32) (v23_1 : FVec F S144x1024 .f32) (v30 : FVec F S512x1024 .f32), BitVec 32) :
    Prog (TpuEff nD τ sig (Elt F) Λ₀ .tc) PUnit := do
  let k1 : Vec F S1x512x256 .bf16 ← Prog.lift (.load M.k ((offsM i).rk 1).toLoadRect (View.loadsAt_vmem h_S1x512x256))
  let w00 : Vec F S1x144x256 .bf16 ← Prog.lift (.load M.w ((offsM i).rw 0 0).toLoadRect (View.loadsAt_vmem h_S1x144x256))
  let w01 : Vec F S1x144x256 .bf16 ← Prog.lift (.load M.w ((offsM i).rw 0 1).toLoadRect (View.loadsAt_vmem h_S1x144x256))
  let w10 : Vec F S1x144x256 .bf16 ← Prog.lift (.load M.w ((offsM i).rw 1 0).toLoadRect (View.loadsAt_vmem h_S1x144x256))
  let w11 : Vec F S1x144x256 .bf16 ← Prog.lift (.load M.w ((offsM i).rw 1 1).toLoadRect (View.loadsAt_vmem h_S1x144x256))
  let _ : Vec F S1024x128 .f32 ← Prog.lift (.load M.o ro.toLoadRect (View.loadsAt_vmem h_S1024x128))
  let x : Run F := half (k0_pay97 r.2.1 k1) w10 w11 (half (k0_pay96 r.2.2.2.2.1) w00 w01 (r.2.2.1, r.2.2.2.1))
  Prog.lift (.store M.o ro (outO x) Finset.univ (View.stores_vmem_bits_univ h_S1024x128 rfl) (.inl rfl))
  let _ : Vec F S1x1x1x1024 .f32 ← Prog.lift (.load M.l rl.toLoadRect (View.loadsAt_vmem h_S1x1x1x1024))
  Prog.lift (.store M.l rl (outL x) Finset.univ (View.stores_vmem_bits_univ h_S1x1x1x1024 rfl) (.inl rfl))
  pure ⟨⟩

/-- The masked step and what follows it. -/
def lastProg (i : grid0.Coords) (M : Mems) (q : Vec F S1x1024x256 .bf16) (x : Run F) : Prog (TpuEff nD τ sig (Elt F) Λ₀ .tc) PUnit := do
  let k0 : Vec F S1x512x256 .bf16 ← Prog.lift (.load M.k ((offsM i).rk 0).toLoadRect (View.loadsAt_vmem h_S1x512x256))
  tailProg i M ⟨BitVec.ofNat 32 (i 1).val, k0_pay84 q, x.1, x.2, k0_pay95 q k0, Scalar.addi (Scalar.muli (BitVec.ofNat 32 (i 1).val) 1024#32) 512#32⟩

/-- What follows the load of the queries `v0`. -/
def restProg (i : grid0.Coords) (M : Mems) (hq : M.q.IsWhole) (hk : M.k.IsWhole) (hv : M.v.IsWhole) (ho : M.o.IsWhole) (hl : M.l.IsWhole) (hw : M.w.IsWhole)
    (v0 : Vec F S1x1024x256 .bf16) : Prog (TpuEff nD τ sig (Elt F) Λ₀ .tc) PUnit := do
  whenProg (k0_cond1 i = 1#1) fun h =>
    Scf.Loop.for k0_t1_loop (k0_t1_ok i h) ⟨⟩ (k0_t1_body (F := F) i M.q hq M.k hk M.v hv M.o ho M.l hl M.w hw h)
  let x2 : Run F ← Scf.Loop.for (k0_t2_loop i) (k0_t2_ok i) (k0_pay87 (F := F), k0_pay88 (F := F))
    (k0_t2_body i M.q hq M.k hk M.v hv M.o ho M.l hl M.w hw v0)
  let x3 : Run F ← Scf.Loop.for (k0_t3_loop i) (k0_t3_ok i) x2 (k0_t3_body i M.q hq M.k hk M.v hv M.o ho M.l hl M.w hw v0
    (Scalar.addi 0#32 (Scalar.muli (Scalar.divsi (Scalar.subi (Scalar.shrsi (BitVec.ofNat 32 (i 1).val) 2#32) 0#32) 1#32) 1#32)))
  let x4 : Run F ← Scf.Loop.for (k0_t4_loop i) (k0_t4_ok i) x3 (k0_t4_body i M.q hq M.k hk M.v hv M.o ho M.l hl M.w hw v0
    (Scalar.subi (BitVec.ofNat 32 (i 1).val) (Scalar.andi (BitVec.ofNat 32 (i 1).val) 3#32)))
  let x5 : Run F ← Scf.Loop.for (k0_t5_loop i) (k0_t5_ok i) x4 (k0_t5_body i M.q hq M.k hk M.v hv M.o ho M.l hl M.w hw v0
    (Scalar.addi (Scalar.subi (BitVec.ofNat 32 (i 1).val) (Scalar.andi (BitVec.ofNat 32 (i 1).val) 3#32))
      (Scalar.muli (Scalar.divsi (Scalar.subi (BitVec.ofNat 32 (i 1).val) (Scalar.subi (BitVec.ofNat 32 (i 1).val) (Scalar.andi (BitVec.ofNat 32 (i 1).val) 3#32))) 1#32) 1#32)))
  lastProg i M v0 x5

section Eqs

variable (i : grid0.Coords) (arg2 : Memref sig .tc .vmem S1x1024x256 .bf16) (harg2 : arg2.IsWhole)
  (arg3 : Memref sig .tc .vmem S1x16384x256 .bf16) (harg3 : arg3.IsWhole) (arg4 : Memref sig .tc .vmem S1x16384x128 .bf16) (harg4 : arg4.IsWhole)
  (arg5 : Memref sig .tc .vmem S1024x128 .f32) (harg5 : arg5.IsWhole) (arg6 : Memref sig .tc .vmem S1x1x1x1024 .f32) (harg6 : arg6.IsWhole)
  (arg7 : Memref sig .tc .vmem S64x144x256 .bf16) (harg7 : arg7.IsWhole)

theorem t1_body_eq (h : k0_cond1 i = 1#1) (t : Fin k0_t1_loop.trips) :
    k0_t1_body (F := F) i arg2 harg2 arg3 harg3 arg4 harg4 arg5 harg5 arg6 harg6 arg7 harg7 h t ()
      = fillProg i h ⟨arg2, arg3, arg4, arg5, arg6, arg7⟩ harg7 t := rfl

theorem part19_eq :
    k0_part19 (F := F) i arg2 harg2 arg3 harg3 arg4 harg4 arg5 harg5 arg6 harg6 arg7 harg7
      = (do
        let v0 : Vec F S1x1024x256 .bf16 ← Prog.lift (.load arg2 (Rect.unit (s := S1x1024x256) ![0, 0, 0] S1x1024x256.size inb_S1x1024x256_S1x1024x256_0_0_0).toLoadRect (View.loadsAt_vmem h_S1x1024x256))
        whenProg (k0_cond1 i = 1#1) fun h =>
          Scf.Loop.for k0_t1_loop (k0_t1_ok i h) ⟨⟩ (k0_t1_body (F := F) i arg2 harg2 arg3 harg3 arg4 harg4 arg5 harg5 arg6 harg6 arg7 harg7 h)
        let x2 : Run F ← Scf.Loop.for (k0_t2_loop i) (k0_t2_ok i) (k0_pay87 (F := F), k0_pay88 (F := F))
          (k0_t2_body i arg2 harg2 arg3 harg3 arg4 harg4 arg5 harg5 arg6 harg6 arg7 harg7 v0)
        let x3 : Run F ← Scf.Loop.for (k0_t3_loop i) (k0_t3_ok i) x2 (k0_t3_body i arg2 harg2 arg3 harg3 arg4 harg4 arg5 harg5 arg6 harg6 arg7 harg7 v0
          (Scalar.addi 0#32 (Scalar.muli (Scalar.divsi (Scalar.subi (Scalar.shrsi (BitVec.ofNat 32 (i 1).val) 2#32) 0#32) 1#32) 1#32)))
        let x4 : Run F ← Scf.Loop.for (k0_t4_loop i) (k0_t4_ok i) x3 (k0_t4_body i arg2 harg2 arg3 harg3 arg4 harg4 arg5 harg5 arg6 harg6 arg7 harg7 v0
          (Scalar.subi (BitVec.ofNat 32 (i 1).val) (Scalar.andi (BitVec.ofNat 32 (i 1).val) 3#32)))
        let x5 : Run F ← Scf.Loop.for (k0_t5_loop i) (k0_t5_ok i) x4 (k0_t5_body i arg2 harg2 arg3 harg3 arg4 harg4 arg5 harg5 arg6 harg6 arg7 harg7 v0
          (Scalar.addi (Scalar.subi (BitVec.ofNat 32 (i 1).val) (Scalar.andi (BitVec.ofNat 32 (i 1).val) 3#32))
            (Scalar.muli (Scalar.divsi (Scalar.subi (BitVec.ofNat 32 (i 1).val) (Scalar.subi (BitVec.ofNat 32 (i 1).val) (Scalar.andi (BitVec.ofNat 32 (i 1).val) 3#32))) 1#32) 1#32)))
        let k0 : Vec F S1x512x256 .bf16 ← Prog.lift (.load arg3 ((offsM i).rk 0).toLoadRect (View.loadsAt_vmem h_S1x512x256))
        pure ⟨BitVec.ofNat 32 (i 1).val, k0_pay84 v0, x5.1, x5.2, k0_pay95 v0 k0, Scalar.addi (Scalar.muli (BitVec.ofNat 32 (i 1).val) 1024#32) 512#32⟩) := by
  rw [k0_part19_eq_skeleton]
  simp only [whenProg_bind]
  rfl

theorem body_eq :
    cc0_attn_fwd (F := F) i arg2 harg2 arg3 harg3 arg4 harg4 arg5 harg5 arg6 harg6 arg7 harg7
      = (do
        let v0 : Vec F S1x1024x256 .bf16 ← Prog.lift (.load arg2 (Rect.unit (s := S1x1024x256) ![0, 0, 0] S1x1024x256.size inb_S1x1024x256_S1x1024x256_0_0_0).toLoadRect (View.loadsAt_vmem h_S1x1024x256))
        restProg i ⟨arg2, arg3, arg4, arg5, arg6, arg7⟩ harg2 harg3 harg4 harg5 harg6 harg7 v0) := by
  have h : cc0_attn_fwd (F := F) i arg2 harg2 arg3 harg3 arg4 harg4 arg5 harg5 arg6 harg6 arg7 harg7
      = (k0_part19 (F := F) i arg2 harg2 arg3 harg3 arg4 harg4 arg5 harg5 arg6 harg6 arg7 harg7 >>= tailProg i ⟨arg2, arg3, arg4, arg5, arg6, arg7⟩) := by
    rw [cc0_attn_fwd_eq_skeleton]
    unfold cc0_attn_fwd_skel
    rw [k0_part20_eq_skeleton, k0_part21_eq_skeleton]
    rfl
  rw [h, part19_eq]
  simp only [bind_assoc]
  rfl

end Eqs

/-- The second loop of each pair is what is left of the first: no trip. -/
theorem t3_trips (i : grid0.Coords) : (k0_t3_loop i).trips = 0 := by
  revert i
  decide +kernel

theorem t5_trips (i : grid0.Coords) : (k0_t5_loop i).trips = 0 := by
  revert i
  decide +kernel

/-! ## The point's values -/

/-- The contents of the input memrefs: queries, keys, values. -/
structure Ins (F : FTy → Type) where
  q : Vec F S1x1024x256 .bf16
  k : Vec F S1x16384x256 .bf16
  v : Vec F S1x16384x128 .bf16

section Values

variable (i : grid0.Coords) (I : Ins F) (w : Vec F S64x144x256 .bf16)

/-- The scratch the loops read. -/
def pointW : Vec F S64x144x256 .bf16 := if k0_cond1 i = 1#1 then fill I.v else w

/-- The running values after a trip of the main loop, and of the loop over what is left. -/
def trip2 (x : Run F) (t : Fin (k0_t2_loop i).trips) : Run F :=
  stepRun (k0_pay84 I.q) I.k w (offs2 i t 3) (stepRun (k0_pay84 I.q) I.k w (offs2 i t 2)
    (stepRun (k0_pay84 I.q) I.k w (offs2 i t 1) (stepRun (k0_pay84 I.q) I.k w (offs2 i t 0) x)))
def trip4 (x : Run F) (t : Fin (k0_t4_loop i).trips) : Run F := stepRun (k0_pay84 I.q) I.k w (offs4 i t) x

/-- The running values after the loops. -/
def loopsRun : Run F :=
  (List.finRange (k0_t4_loop i).trips).foldl (trip4 i I w) ((List.finRange (k0_t2_loop i).trips).foldl (trip2 i I w) (k0_pay87 (F := F), k0_pay88 (F := F)))

/-- The running values at the end. -/
def pointRun : Run F := maskedRun i I.q I.k w (loopsRun i I w)

end Values

/-! ## The body's run -/

variable (i : grid0.Coords) (M : Mems) (I : Ins F)

/-- All the kernel's memrefs owned. -/
def heldAll (c : Dev nD) (y : Vec F S1024x128 .f32) (z : Vec F S1x1x1x1024 .f32) (w : Vec F S64x144x256 .bf16) : sProp 𝕄 :=
  iprop(owns (c : Thread nD τ) M.q fullShare I.q ∗ owns (c : Thread nD τ) M.v fullShare I.v
    ∗ owns (c : Thread nD τ) M.o fullShare y ∗ owns (c : Thread nD τ) M.l fullShare z ∗ held c M I.k w)

theorem wp_fillTrip (c : Dev nD) (h : k0_cond1 i = 1#1) (hw : M.w.IsWhole) (t : Fin k0_t1_loop.trips) (y z) (w : Vec F S64x144x256 .bf16) :
    heldAll M I c y z w ⊢ wpk c (fillProg i h M hw t) fun _ => heldAll M I c y z (fillTrip i h I.v w t) := by
  unfold heldAll held fillProg wpk
  iintro ⟨Hq, Hv, Ho, Hl, Hk, Hw⟩
  iapply wp_load_owns $$ Hv; iintro Hv
  iapply wp_load_owns $$ Hw; iintro Hw
  iapply wp_store_owns $$ Hw; iintro Hw
  iapply wp_load_owns $$ Hw; iintro Hw
  iapply wp_store_owns $$ Hw; iintro Hw
  simp only [Prog.bind]
  sl_step
  isplitl [Hq]; · iexact Hq
  isplitl [Hv]; · iexact Hv
  isplitl [Ho]; · iexact Ho
  isplitl [Hl]; · iexact Hl
  isplitl [Hk]; · iexact Hk
  unfold fillTrip
  iexact Hw

theorem wp_last (c : Dev nD) (y z) (w : Vec F S64x144x256 .bf16) (x : Run F) :
    heldAll M I c y z w ⊢ wpk c (lastProg i M I.q x) fun _ => heldAll M I c (outO (maskedRun i I.q I.k w x)) (outL (maskedRun i I.q I.k w x)) w := by
  unfold heldAll held lastProg tailProg wpk
  iintro ⟨Hq, Hv, Ho, Hl, Hk, Hw⟩
  iapply wp_load_owns $$ Hk; iintro Hk
  iapply wp_load_owns $$ Hk; iintro Hk
  iapply wp_load_owns $$ Hw; iintro Hw
  iapply wp_load_owns $$ Hw; iintro Hw
  iapply wp_load_owns $$ Hw; iintro Hw
  iapply wp_load_owns $$ Hw; iintro Hw
  iapply wp_load_owns $$ Ho; iintro Ho
  iapply wp_store_owns $$ Ho; iintro Ho
  iapply wp_load_owns $$ Hl; iintro Hl
  iapply wp_store_owns $$ Hl; iintro Hl
  simp only [Prog.bind]
  sl_step
  rw [wr_whole, wr_whole]
  unfold maskedRun
  isplitl [Hq]; · iexact Hq
  isplitl [Hv]; · iexact Hv
  isplitl [Ho]; · iexact Ho
  isplitl [Hl]; · iexact Hl
  isplitl [Hk]; · iexact Hk
  iexact Hw

/-- A program that only reads keys and transposed values keeps all that is held. -/
theorem wpk_held {α : Type} (c : Dev nD) (y z) (w : Vec F S64x144x256 .bf16) (p : Prog (TpuEff nD τ sig (Elt F) Λ₀ .tc) α) (r : α)
    (h : held c M I.k w ⊢ wpk c p (Gives (held c M I.k w) r)) : heldAll M I c y z w ⊢ wpk c p (Gives (heldAll M I c y z w) r) := by
  have hf : iprop((owns (c : Thread nD τ) M.q fullShare I.q ∗ owns (c : Thread nD τ) M.v fullShare I.v
      ∗ owns (c : Thread nD τ) M.o fullShare y ∗ owns (c : Thread nD τ) M.l fullShare z) ∗ held c M I.k w)
      ⊢ wpk c p fun a => iprop((owns (c : Thread nD τ) M.q fullShare I.q ∗ owns (c : Thread nD τ) M.v fullShare I.v
      ∗ owns (c : Thread nD τ) M.o fullShare y ∗ owns (c : Thread nD τ) M.l fullShare z) ∗ Gives (held c M I.k w) r a) :=
    (sep_mono .rfl h).trans (wp_frame_l _ _ _)
  refine .trans ?_ (hf.trans (wp_mono _ _ _ fun a => ?_))
  · unfold heldAll
    iintro ⟨Hq, Hv, Ho, Hl, H⟩
    isplitr [H]
    · isplitl [Hq]; · iexact Hq
      isplitl [Hv]; · iexact Hv
      isplitl [Ho]; · iexact Ho
      iexact Hl
    · iexact H
  · unfold Gives heldAll
    iintro ⟨⟨Hq, Hv, Ho, Hl⟩, ⟨%ha, H⟩⟩
    isplitr
    · ipureintro; exact ha
    isplitl [Hq]; · iexact Hq
    isplitl [Hv]; · iexact Hv
    isplitl [Ho]; · iexact Ho
    isplitl [Hl]; · iexact Hl
    iexact H

/-- A loop of steps hands on the fold of its trips; a loop without a trip what it was given. -/
theorem wpk_loop {σ : Type} (c : Dev nD) (A : sProp 𝕄) (l : Scf.Loop 32) (hok : Scf.OK l.lb l.ub l.st)
    (body : Fin l.trips → σ → Prog (TpuEff nD τ sig (Elt F) Λ₀ .tc) σ) (f : σ → Fin l.trips → σ)
    (h : ∀ t x, A ⊢ wpk c (body t x) (Gives A (f x t))) (x : σ) :
    A ⊢ wpk c (Scf.Loop.for l hok x body) (Gives A ((List.finRange l.trips).foldl f x)) := by
  unfold Scf.Loop.for wpk
  rw [Scf.for_eq]
  exact wp_forFrom_gives (defs := defs₀ (F := F)) (𝒱 := Variants.none) (c := (c : Thread nD τ)) (bd := none) (E := Set.univ) body A f h _ x

theorem wpk_loop_none {σ : Type} (c : Dev nD) (A : sProp 𝕄) (l : Scf.Loop 32) (hok : Scf.OK l.lb l.ub l.st)
    (body : Fin l.trips → σ → Prog (TpuEff nD τ sig (Elt F) Λ₀ .tc) σ) (h : l.trips = 0) (x : σ) :
    A ⊢ wpk c (Scf.Loop.for l hok x body) (Gives A x) := by
  unfold Scf.Loop.for
  rw [Scf.for_eq_ret _ _ _ _ _ _ h]
  exact wp_gives_pure A x

theorem wp_fill (c : Dev nD) (y z) (hq : M.q.IsWhole) (hk : M.k.IsWhole) (hv : M.v.IsWhole) (ho : M.o.IsWhole) (hl : M.l.IsWhole) (hw : M.w.IsWhole)
    (w : Vec F S64x144x256 .bf16) :
    heldAll M I c y z w ⊢ wpk c (whenProg (k0_cond1 i = 1#1) fun h =>
        Scf.Loop.for k0_t1_loop (k0_t1_ok i h) ⟨⟩ (k0_t1_body (F := F) i M.q hq M.k hk M.v hv M.o ho M.l hl M.w hw h))
      fun _ => heldAll M I c y z (pointW i I w) := by
  unfold whenProg pointW
  by_cases h : k0_cond1 i = 1#1
  · rw [dif_pos h, if_pos h, ← fill_all i h I.v w]
    unfold Scf.Loop.for wpk
    beta_reduce
    rw [Scf.for_eq]
    exact wp_forFrom (defs := defs₀ (F := F)) (𝒱 := Variants.none) (c := (c : Thread nD τ)) (bd := none) (E := Set.univ) _
      (fun w => heldAll M I c y z w) (fillTrip i h I.v) (fun t w => wp_fillTrip i M I c h hw t y z w) _ w
  · rw [dif_neg h, if_neg h]
    unfold wpk
    rw [wp_pure]
    exact fupd_intro

/-- What holds at the kernel's own memrefs holds of its body: everything owned before, the point's values owned after. -/
theorem wp_body (c : Dev nD) (y z) (w : Vec F S64x144x256 .bf16)
    (hq : M.q.IsWhole) (hk : M.k.IsWhole) (hv : M.v.IsWhole) (ho : M.o.IsWhole) (hl : M.l.IsWhole) (hw : M.w.IsWhole) :
    heldAll M I c y z w
      ⊢ wpk c (cc0_attn_fwd i M.q hq M.k hk M.v hv M.o ho M.l hl M.w hw)
          fun _ => heldAll M I c (outO (pointRun i I (pointW i I w))) (outL (pointRun i I (pointW i I w))) (pointW i I w) := by
  rw [body_eq]
  have hrest : heldAll M I c y z w ⊢ wpk c (restProg i M hq hk hv ho hl hw I.q) fun _ => heldAll M I c (outO (pointRun i I (pointW i I w))) (outL (pointRun i I (pointW i I w))) (pointW i I w) := by
    unfold restProg wpk
    rw [wp_bind]
    refine (wp_fill i M I c y z hq hk hv ho hl hw w).trans (wp_mono _ _ _ fun _ => ?_)
    refine wp_gives_bind (wpk_held M I c y z _ _ _ (wpk_loop c _ _ _ _ (trip2 i I (pointW i I w)) (fun t x => ?_) _)) ?_
    · rw [t2_body_eq]
      exact wp_gives_bind (wp_step c M I.k _ _ _ _) (wp_gives_bind (wp_step c M I.k _ _ _ _) (wp_gives_bind (wp_step c M I.k _ _ _ _) (wp_step c M I.k _ _ _ _)))
    refine wp_gives_bind (wpk_loop_none c _ _ _ _ (t3_trips i) _) ?_
    refine wp_gives_bind (wpk_held M I c y z _ _ _ (wpk_loop c _ _ _ _ (trip4 i I (pointW i I w)) (fun t x => ?_) _)) ?_
    · rw [t4_body_eq]
      exact wp_step c M I.k _ _ _ _
    refine wp_gives_bind (wpk_loop_none c _ _ _ _ (t5_trips i) _) ?_
    exact wp_last i M I c y z (pointW i I w) (loopsRun i I (pointW i I w))
  refine .trans ?_ (wp_mono _ _ _ fun _ => .rfl)
  unfold heldAll at hrest ⊢
  iintro ⟨Hq, H⟩
  iapply wp_load_owns $$ Hq; iintro Hq
  rw [rd_whole]
  icombine Hq H as H
  iapply hrest $$ H

end Cert.Fwd

end
-- ==== Proof.FwdRun.lean ====
/- The forward kernel's run: what its buffers hold point by point, the pipeline's proof data, the body's obligation and the launch. -/
module

public import proofs.«01_k».proof.Proof.FwdPoint
public import proofs.«01_k».proof.Proof.Gen.Kernel2Ideal.Frame
public import Idealize.ShloMosaic.Lib.Pipeline.FrameBody
public import Idealize.ShloMosaic.Lib.Tactic
public import Idealize.ShloMosaic.Lib.Claim

@[expose] public section

set_option maxRecDepth 65536

noncomputable section

namespace Cert.Fwd

open Cert.Att
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The contents point by point -/

/-- The input blocks of point `t`. -/
def ins (c : Dev nD) (t : Fin cfg0.N) : Ins F where
  q := iblk m c 0 t
  k := iblk m c 1 t
  v := iblk m c 2 t

/-- The scratch before point `n` (at the first point, where the body discards it, what filling it with nothing known leaves). -/
def scr (c : Dev nD) : ℕ → Vec F S64x144x256 .bf16
  | 0 => fill fun _ => Scalar.ofBits .bf16 0#16
  | n + 1 => if h : n < cfg0.N then pointW (grid0.coords ⟨n, h⟩) (ins m c ⟨n, h⟩) (scr c n) else fill fun _ => Scalar.ofBits .bf16 0#16

/-- The scratch the loops of point `t` read, and the running values at its end. -/
def scrAt (c : Dev nD) (t : Fin cfg0.N) : Vec F S64x144x256 .bf16 := pointW (grid0.coords t) (ins m c t) (scr m c t.val)
def runAt (c : Dev nD) (t : Fin cfg0.N) : Run F := pointRun (grid0.coords t) (ins m c t) (scrAt m c t)

theorem scr_succ (c : Dev nD) (t : Fin cfg0.N) : scr m c (t.val + 1) = scrAt m c t := by
  rw [scr, dif_pos t.isLt]; rfl

/-! ## The buffers -/

/-- The staging buffers of point `t` and the scratch. -/
def mems (t : Fin cfg0.N) : Mems where
  q := win0_0.stage (cfg0.slots t 0)
  k := win0_1.stage (cfg0.slots t 1)
  v := win0_2.stage (cfg0.slots t 2)
  o := win0_3.stage (cfg0.slots t 3)
  l := win0_4.stage (cfg0.slots t 4)
  w := Memref.whole cc0_scratch0

theorem bodyAt_eq (t : Fin cfg0.N) : bodyAt0 (F := F) t
    = cc0_attn_fwd (grid0.coords t) (mems t).q (hstage0_0 ((cfg0.slots t 0).cast nbuf0_0)) (mems t).k (hstage0_1 ((cfg0.slots t 1).cast nbuf0_1)) (mems t).v (hstage0_2 ((cfg0.slots t 2).cast nbuf0_2)) (mems t).o (hstage0_3 ((cfg0.slots t 3).cast nbuf0_3)) (mems t).l (hstage0_4 ((cfg0.slots t 4).cast nbuf0_4)) (mems t).w (Memref.isWhole_whole _) := rfl

/-- The region's own resources: the scratch at some contents and the generator's register. -/
theorem phiA_eq (c : Dev nD) : (Pipeline.ΦA spec0 c : sProp 𝕄)
    = iprop((∃ d, owns (c : Thread nD τ) (Memref.whole cc0_scratch0 : Memref sig .tc .vmem S64x144x256 .bf16) fullShare d) ∗ (∃ r, prngReg c r)) := by
  unfold Pipeline.ΦA; rw [scopedRest0_eq]; simp only [owns_whole]; try rfl

/-- The invariant before point `n`: the scratch at its contents. -/
def Inv (c : Dev nD) : (n : ℕ) → n ≤ cfg0.N → sProp 𝕄
  | 0, _ => Pipeline.ΦA spec0 c
  | n + 1, _ => iprop(owns (c : Thread nD τ) (Memref.whole cc0_scratch0 : Memref sig .tc .vmem S64x144x256 .bf16) fullShare (scr m c (n + 1)) ∗ (∃ r, prngReg c r))

theorem inv_succ (c : Dev nD) (n : ℕ) (h : n + 1 ≤ cfg0.N) : Inv m c (n + 1) h
    = iprop(owns (c : Thread nD τ) (Memref.whole cc0_scratch0 : Memref sig .tc .vmem S64x144x256 .bf16) fullShare (scr m c (n + 1)) ∗ (∃ r, prngReg c r)) := rfl

/-- Before any point the scratch holds something that the body does not tell from what is stated. -/
theorem inv_open (c : Dev nD) (t : Fin cfg0.N) : Inv m c t.val (Nat.le_of_lt t.isLt)
    ⊢ iprop((∃ s, owns (c : Thread nD τ) (Memref.whole cc0_scratch0 : Memref sig .tc .vmem S64x144x256 .bf16) fullShare s
        ∗ ⌜pointW (grid0.coords t) (ins m c t) s = scrAt m c t⌝) ∗ (∃ r, prngReg c r)) := by
  obtain ⟨n, hn⟩ := t
  cases n with
  | zero =>
    unfold Inv
    rw [phiA_eq]
    iintro ⟨⟨%s, H⟩, Hg⟩
    isplitl [H]
    · iexists s
      isplitl [H]; · iexact H
      ipureintro
      unfold scrAt pointW
      have h : k0_cond1 (grid0.coords ⟨0, hn⟩) = 1#1 := by revert hn; decide +kernel
      rw [if_pos h, if_pos h]
    iexact Hg
  | succ n =>
    unfold Inv
    iintro ⟨H, Hg⟩
    isplitl [H]
    · iexists _
      isplitl [H]; · iexact H
      ipureintro; rfl
    iexact Hg

/-! ## The pipeline's proof data -/

/-- On core `c`: the arrays as the region finds them; after the body each input's buffer at its block and each output's at
    the point's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (runAt m c t)
    | ⟨4, _⟩ => outL (runAt m c t)
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outO (runAt m c t) := by dsimp only [dats]
theorem after_4 (c : Dev nD) (t : Fin cfg0.N) : (dats m 0 c).after 4 t = outL (runAt m c t) := by dsimp only [dats]

theorem before_0 (c : Dev nD) (t : Fin cfg0.N) (d) : (dats m 0 c).before 0 t d = (ins m c t).q :=
  before0_0_of m (dats m 0 c) (A_eq m c 0) (after_0 m c) t d
theorem before_1 (c : Dev nD) (t : Fin cfg0.N) (d) : (dats m 0 c).before 1 t d = (ins m c t).k :=
  before0_1_of m (dats m 0 c) (A_eq m c 1) (after_1 m c) t d
theorem before_2 (c : Dev nD) (t : Fin cfg0.N) (d) : (dats m 0 c).before 2 t d = (ins m c t).v :=
  before0_2_of m (dats m 0 c) (A_eq m c 2) (after_2 m c) t d

/-- A window that is never idle is left at its contents after the point. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_0 (c : Dev nD) (t : Fin cfg0.N) : (dats m 0 c).leavesExact 0 t = owns (c : Thread nD τ) (mems t).q fullShare (ins m c t).q :=
  (leaves_live m c 0 t rfl).trans (by rw [after_0]; rfl)
theorem leaves_1 (c : Dev nD) (t : Fin cfg0.N) : (dats m 0 c).leavesExact 1 t = owns (c : Thread nD τ) (mems t).k fullShare (ins m c t).k :=
  (leaves_live m c 1 t rfl).trans (by rw [after_1]; rfl)
theorem leaves_2 (c : Dev nD) (t : Fin cfg0.N) : (dats m 0 c).leavesExact 2 t = owns (c : Thread nD τ) (mems t).v fullShare (ins m c t).v :=
  (leaves_live m c 2 t rfl).trans (by rw [after_2]; rfl)
theorem leaves_3 (c : Dev nD) (t : Fin cfg0.N) : (dats m 0 c).leavesExact 3 t = owns (c : Thread nD τ) (mems t).o fullShare (outO (runAt m c t)) :=
  (leaves_live m c 3 t rfl).trans (by rw [after_3]; rfl)
theorem leaves_4 (c : Dev nD) (t : Fin cfg0.N) : (dats m 0 c).leavesExact 4 t = owns (c : Thread nD τ) (mems t).l fullShare (outL (runAt m c t)) :=
  (leaves_live m c 4 t rfl).trans (by rw [after_4]; rfl)

/-! ## The body's obligation -/

/-- What the obligation hands the body, window by window, -/
def bodyPre (c : Dev nD) (t : Fin cfg0.N) : sProp 𝕄 :=
  iprop((dats m 0 c).Φ t.castSucc ∗ (dats m 0 c).owesAt () t.castSucc
    ∗ (∃ d, owns (c : Thread nD τ) (mems t).q fullShare ((dats m 0 c).before 0 t d))
    ∗ (∃ d, owns (c : Thread nD τ) (mems t).k fullShare ((dats m 0 c).before 1 t d))
    ∗ (∃ d, owns (c : Thread nD τ) (mems t).v fullShare ((dats m 0 c).before 2 t d))
    ∗ (∃ d, owns (c : Thread nD τ) (mems t).o fullShare ((dats m 0 c).before 3 t d))
    ∗ (∃ d, owns (c : Thread nD τ) (mems t).l fullShare ((dats m 0 c).before 4 t d)))

/-- and what it takes back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- The order of what the body leaves, and the order of what the obligation takes back. -/
theorem regroup {A0 A1 A2 A3 A4 S G O : sProp 𝕄} :
    iprop((G ∗ O) ∗ A0 ∗ A2 ∗ A3 ∗ A4 ∗ A1 ∗ S) ⊢ iprop((S ∗ G) ∗ O ∗ A0 ∗ A1 ∗ A2 ∗ A3 ∗ A4) := by
  iintro ⟨⟨Hg, Ho⟩, H0, H2, H3, H4, H1, Hs⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  iexact H4

/-- The obligation's resources opened and put in the body's order. -/
theorem open_all {T D0 D1 D2 D3 D4 : Type} {A0 A1 A2 G O W : sProp 𝕄} {A3 : D3 → sProp 𝕄} {A4 : D4 → sProp 𝕄}
    {S : T → sProp 𝕄} {P : T → Prop} (h : ∀ s d3 d4, P s → iprop((G ∗ O) ∗ A0 ∗ A2 ∗ A3 d3 ∗ A4 d4 ∗ A1 ∗ S s) ⊢ W) :
    iprop(((∃ s, S s ∗ ⌜P s⌝) ∗ G) ∗ O ∗ (∃ _ : D0, A0) ∗ (∃ _ : D1, A1) ∗ (∃ _ : D2, A2) ∗ (∃ d, A3 d) ∗ (∃ d, A4 d)) ⊢ W := by
  iintro ⟨⟨⟨%s, Hs, %hs⟩, Hg⟩, Ho, ⟨%d0, H0⟩, ⟨%d1, H1⟩, ⟨%d2, H2⟩, ⟨%d3, H3⟩, ⟨%d4, H4⟩⟩
  iapply h s d3 d4 hs
  isplitl [Hg Ho]
  · isplitl [Hg]; · iexact Hg
    iexact Ho
  isplitl [H0]; · iexact H0
  isplitl [H2]; · iexact H2
  isplitl [H3]; · iexact H3
  isplitl [H4]; · iexact H4
  isplitl [H1]; · iexact H1
  iexact Hs

/-- What the body leaves is what the obligation takes back. -/
theorem body_close (c : Dev nD) (t : Fin cfg0.N) :
    iprop(((∃ r, prngReg c r) ∗ (dats m 0 c).owesAt () t.castSucc) ∗ heldAll (mems t) (ins m c t) c
      (outO (runAt m c t)) (outL (runAt m c t)) (scrAt m c t)) ⊢ bodyPost m c t := by
  unfold bodyPost heldAll held
  rw [show (dats m 0 c).owesAt () t.succ = (dats m 0 c).owesAt () t.castSucc from rfl]
  rw [show (dats m 0 c).Φ t.succ = Inv m c (t.val + 1) t.isLt from rfl, inv_succ, leaves_0, leaves_1, leaves_2, leaves_3, leaves_4]
  rw [scr_succ]
  exact regroup

theorem wpk_frame (c : Dev nD) {A B R : sProp 𝕄} {p : Prog (TpuEff nD τ sig (Elt F) Λ₀ .tc) PUnit} (h : A ⊢ wpk c p fun _ => B) :
    iprop(R ∗ A) ⊢ wpk c p fun _ => iprop(R ∗ B) :=
  (sep_mono .rfl h).trans (wp_frame_l _ _ _)

theorem sound_body (c : Dev nD) (t : Fin cfg0.N) : bodyPre m c t ⊢ wpk c (bodyAt0 t) fun _ => bodyPost m c t := by
  unfold bodyPre
  rw [bodyAt_eq]
  simp only [before_0, before_1, before_2]
  rw [inv_castSucc]
  refine (sep_mono (inv_open m c t) .rfl).trans ?_
  refine open_all fun s d3 d4 hs => ?_
  have hb := wp_body (grid0.coords t) (mems t) (ins m c t) c ((dats m 0 c).before 3 t d3) ((dats m 0 c).before 4 t d4) s
    (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (Memref.isWhole_whole _)
  rw [hs] at hb
  exact (wpk_frame c (R := iprop((∃ r, prngReg c r) ∗ (dats m 0 c).owesAt () t.castSucc)) hb).trans
    (wp_mono _ _ _ fun _ => body_close m c t)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = Inv m c 128 (le_of_eq N_0.symm) from rfl, phiA_eq]
  unfold Inv
  iintro ⟨Hs, Hg⟩
  isplitl [Hs]
  · iexists _; iexact Hs
  iexact Hg

/-! ## The run -/

-- the launch rule's implicit arguments are found by unifying its conclusion with this one
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were and every semaphore at zero, at any floats. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Fwd

end
-- ==== Proof.FwdFrames.lean ====
/- The frames of the forward call's three programs and its named constants. -/
module

public import proofs.«01_k».proof.Defs
public import proofs.«01_k».proof.Proof.Gen.Kernel2
public import proofs.«01_k».proof.Proof.Gen.Reference2Ideal
public import proofs.«01_k».proof.Proof.Gen.Reference2Ideal.Run
public import proofs.«01_k».proof.Proof.FwdRun
public import Idealize.ShloMosaic.Lib.Quiescent

@[expose] public section

set_option maxRecDepth 65536

noncomputable section

namespace Cert.Fwd

open Idealize.ShloMosaic Idealize.SL Idealize.SL.Sem

theorem quiescent_ideal : Cert.quiescent_Kernel2Ideal := fun m g _ => quiescent m g

/-- A named constant at the floats' own bits: the printed word. -/
@[reducible] def namedBits : Named Bits where
  named _ _ {_} b := b

/-- The printed program's frame is the idealised program's at the floats' bits: the two differ in the named constants alone,
    which there are the words printed. -/
theorem quiescent_bits_eq : Cert.quiescent_Kernel2 = (letI := namedBits
    ∀ (m : (ℓ : Loc Cert.Kernel2Ideal.nD Cert.Kernel2Ideal.τ Cert.Kernel2Ideal.sig) → Buf (Elt Bits) ℓ) (g : Dev Cert.Kernel2Ideal.nD → PrngReg), True →
      θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
        r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
        ∧ r.2.sem = fun _ => 0)) := by
  sl_kernel_rfl

theorem quiescent_bits : Cert.quiescent_Kernel2 := by
  rw [quiescent_bits_eq]
  intro m g _
  exact @quiescent Bits _ namedBits m g

theorem quiescent_reference : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

/-! The same two with finite arguments, which they do not need. -/

theorem quiescent_ideal_finite [Cert.Pre_finite2.Facts] : Cert.quiescent_Kernel2Ideal_pre_finite2 := fun m g _ => quiescent m g

theorem quiescent_reference_finite [Cert.Pre_finite2.Facts] : Cert.quiescent_Reference2Ideal_pre_finite2 := fun m g _ => quiescent_reference m g trivial

/-- The side conditions of the precondition's text. -/
theorem finite_facts : Cert.Pre_finite2.Facts where
  bcast_S_S16384x8x192 := by decide
  bcast_S_S16384x8x128 := by decide

theorem preserves_consts : Cert.preserves_Kernel2_Kernel2Ideal :=
  ⟨IdealRules.named_const.statement Cert.Kernel2Ideal.κ "neg_inf" .f32 0xF149F2CA#32 ⊥ rfl,
    IdealRules.named_const.statement Cert.Kernel2Ideal.κ "ln2" .f32 0x3F317218#32 ((Real.log 2 : ℝ) : EReal) rfl⟩

end Cert.Fwd

end
-- ==== Proof.FwdPay.lean ====
/- The values the forward kernel computes with, read at an index on the extended reals. -/
module

public import proofs.«01_k».proof.Proof.FwdPoint

@[expose] public section

set_option maxRecDepth 65536

noncomputable section

namespace Cert.Fwd

open Cert.Att
open Cert.Kernel2Ideal Cert.Kernel2Ideal.Gen
open Idealize.ShloMosaic

/-! ## Scores -/

theorem pay84_apply (q : Vec Ideal S1x1024x256 .bf16) (c : Fin 1024) (x : Fin 256) : k0_pay84 q (ix2 c x) = q (ix3 0 c x) := by
  pointwise [k0_pay84]

/-- A block of scores: key by query. -/
theorem pay80_apply (q : FVec Ideal S1024x256 .bf16) (k : Vec Ideal S1x512x256 .bf16) (r : Fin 512) (c : Fin 1024) :
    k0_pay80 q k (ix2 r c) = ∑ x : Fin 256, k (ix3 0 r x) * q (ix2 c x) := by
  pointwise [k0_pay80]

theorem pay95_apply (q : Vec Ideal S1x1024x256 .bf16) (k : Vec Ideal S1x512x256 .bf16) (r : Fin 512) (c : Fin 1024) :
    k0_pay95 q k (ix2 r c) = ∑ x : Fin 256, k (ix3 0 r x) * q (ix3 0 c x) := by
  pointwise [k0_pay95]
  simp only [pay84_apply]

/-- The block on the diagonal, the keys that a query does not see less than every number: its first half, -/
theorem pay96_apply (s : FVec Ideal S512x1024 .f32) (r : Fin 512) (c : Fin 1024) :
    k0_pay96 s (ix2 r c) = Scalar.select (IntOp.cmpi .sge (BitVec.ofNat 32 c) (IntOp.addi (BitVec.ofNat 32 r) 0#32)) (s (ix2 r c)) (⊥ : EReal) := by
  pointwise [k0_pay96]
  rfl

/-- and its second. -/
theorem pay97_apply (q : FVec Ideal S1024x256 .bf16) (k : Vec Ideal S1x512x256 .bf16) (r : Fin 512) (c : Fin 1024) :
    k0_pay97 q k (ix2 r c) = Scalar.select (IntOp.cmpi .sge (BitVec.ofNat 32 c) (IntOp.addi (BitVec.ofNat 32 r) 512#32))
      (∑ x : Fin 256, k (ix3 0 r x) * q (ix2 c x)) (⊥ : EReal) := by
  pointwise [k0_pay97]
  rfl

/-! ## The running values -/

theorem pay87_apply (c : Fin 1024) : k0_pay87 (F := Ideal) (ix2 0 c) = (⊥ : EReal) := by
  pointwise [k0_pay87]
  rfl

theorem pay88_apply (l : Fin 144) (c : Fin 1024) : k0_pay88 (F := Ideal) (ix2 l c) = (0 : EReal) := by
  pointwise [k0_pay88]

theorem half_max (s : FVec Ideal S512x1024 .f32) (w0 w1 : Vec Ideal S1x144x256 .bf16) (x : Run Ideal) (c : Fin 1024) :
    (half s w0 w1 x).1 (ix2 0 c) = max (x.1 (ix2 0 c)) (Finset.fold max (Ideal.ofBits .f32 0xFF800000#32) (fun r : Fin 512 => s (ix2 r c)) Finset.univ) := by
  obtain ⟨m, a⟩ := x
  pointwise [half]

theorem half_sum (s : FVec Ideal S512x1024 .f32) (w0 w1 : Vec Ideal S1x144x256 .bf16) (x : Run Ideal) (l : Fin 144) (c : Fin 1024) :
    (half s w0 w1 x).2 (ix2 l c)
      = FloatOps.exp2 (F := Ideal) (φ := .f32) (x.1 (ix2 0 c) - (half s w0 w1 x).1 (ix2 0 c)) * x.2 (ix2 l c)
        + (∑ r : Fin 256, w0 (ix3 0 l r) * FloatOps.exp2 (F := Ideal) (φ := .f32) (s (ix2 ⟨r, by omega⟩ c) - (half s w0 w1 x).1 (ix2 0 c)))
        + ∑ r : Fin 256, w1 (ix3 0 l r) * FloatOps.exp2 (F := Ideal) (φ := .f32) (s (ix2 ⟨256 + r, by omega⟩ c) - (half s w0 w1 x).1 (ix2 0 c)) := by
  rw [half_max]
  obtain ⟨m, a⟩ := x
  pointwise [half]

/-! ## The results -/

theorem outO_apply (x : Run Ideal) (c : Fin 1024) (e : Fin 128) :
    outO x (ix2 c e) = Ideal.div (x.2 (ix2 ⟨e, by omega⟩ c)) (x.2 (ix2 ⟨128, by omega⟩ c)) := by
  obtain ⟨m, a⟩ := x
  pointwise [outO, sums]

theorem outL_apply (x : Run Ideal) (c : Fin 1024) :
    outL x (ix4 0 0 0 c) = x.1 (ix2 0 c) + Ideal.div (Ideal.log (x.2 (ix2 ⟨128, by omega⟩ c))) ((Real.log 2 : ℝ) : EReal) := by
  obtain ⟨m, a⟩ := x
  pointwise [outL, sums, k0_pay1]
  rfl

/-! ## The scratch -/

theorem pay85_apply (v : Vec Ideal S1x256x128 .bf16) (e : Fin 128) (r : Fin 256) : k0_pay85 v (ix3 0 e r) = v (ix3 0 r e) := by
  pointwise [k0_pay85]

theorem pay86_apply (e : Fin 16) (r : Fin 256) : k0_pay86 (F := Ideal) (ix3 0 e r)
    = Scalar.select (IntOp.cmpi .eq (BitVec.ofNat 32 e) 0#32) (Ideal.ofBits .f32 0x3F800000#32) (Ideal.ofBits .f32 0x00000000#32) := by
  pointwise [k0_pay86]

end Cert.Fwd

end
-- ==== Proof.FwdReals.lean ====
/- The forward kernel's running values over the real numbers: after any number of half blocks of keys, each query's sums, weighted
   by powers of two below some number, and that each half block adds its keys to them. -/
module

public import proofs.«01_k».proof.Proof.FwdPay
public import proofs.«01_k».proof.Proof.Numbers

@[expose] public section

set_option maxRecDepth 65536

noncomputable section

namespace Cert.Fwd

open Cert.Att Cert.Bwd
open Cert.Kernel2Ideal Cert.Kernel2Ideal.Gen
open Idealize.ShloMosaic

/-- The score in base 2 of query row `a` and key row `b`. -/
def sc (D : Head) (a b : ℕ) : ℝ := ∑ x : Fin 256, D.k b x * D.q a x

/-- The transposed values with a row of ones under them, then rows of zeros. -/
def vt (D : Head) (l b : ℕ) : ℝ := if l < 128 then D.v b l else if l = 128 then 1 else 0

/-- What key row `b` adds to sum `l` of query row `a`, the number `μ` taken off the scores. -/
def term (D : Head) (μ : ℝ) (l a b : ℕ) : ℝ := vt D l b * if b ≤ a then Real.rpow 2 (sc D a b - μ) else 0

/-- Sum `l` of query row `a` over the first `n` keys. -/
def wsum (D : Head) (μ : ℝ) (n l a : ℕ) : ℝ := ∑ b ∈ Finset.range n, term D μ l a b

theorem exp2_seen (P : Prop) [Decidable P] (x y : ℝ) :
    FloatOps.exp2 (F := Ideal) (φ := .f32) (seenE P x - (y : EReal)) = ((if P then Real.rpow 2 (x - y) else 0 : ℝ) : EReal) := by
  unfold seenE
  split
  · rw [← EReal.coe_sub, coe_exp2]
  · rw [EReal.bot_sub]; rfl

/-- Another number taken off the scores. -/
theorem wsum_shift (D : Head) (μ ν : ℝ) (n l a : ℕ) : Real.rpow 2 (μ - ν) * wsum D μ n l a = wsum D ν n l a := by
  unfold wsum
  rw [Finset.mul_sum]
  refine Finset.sum_congr rfl fun b _ => ?_
  unfold term
  split
  · have e : sc D a b - ν = (μ - ν) + (sc D a b - μ) := by ring
    have h : Real.rpow 2 (sc D a b - ν) = Real.rpow 2 (μ - ν) * Real.rpow 2 (sc D a b - μ) := by
      rw [e]; exact Real.rpow_add two_pos _ _
    rw [h]; ring
  · rw [mul_zero, mul_zero]

/-- A half block more. -/
theorem wsum_half (D : Head) (μ : ℝ) (n l a : ℕ) : wsum D μ (512 * (n + 1)) l a = wsum D μ (512 * n) l a
    + (∑ r : Fin 256, term D μ l a (512 * n + r)) + ∑ r : Fin 256, term D μ l a (512 * n + (256 + r)) := by
  unfold wsum
  rw [show 512 * (n + 1) = 512 * n + (256 + 256) by ring, Finset.sum_range_add, Finset.sum_range_add, add_assoc,
    Fin.sum_univ_eq_sum_range (fun r => term D μ l a (512 * n + r)), Fin.sum_univ_eq_sum_range (fun r => term D μ l a (512 * n + (256 + r)))]

/-- One query's running values after `n` half blocks: nothing at first, then the sums below some number. -/
def Col (D : Head) (n a : ℕ) (x : EReal) (y : Fin 144 → EReal) : Prop :=
  (n = 0 ∧ x = ⊥ ∧ ∀ l, y l = 0) ∨ ∃ μ : ℝ, x = (μ : EReal) ∧ ∀ l : Fin 144, y l = (wsum D μ (512 * n) l a : EReal)

/-- The running values of query block `j`. -/
def RunR (D : Head) (j n : ℕ) (x : Run Ideal) : Prop := ∀ c : Fin 1024, Col D n (1024 * j + c) (x.1 (ix2 0 c)) fun l => x.2 (ix2 l c)

/-- The new largest score is a number: the first key is seen. -/
theorem max_new {D : Head} {n a : ℕ} {x : EReal} {y : Fin 144 → EReal} (hx : Col D n a x y) {s : Fin 512 → EReal}
    (hs : ∀ r : Fin 512, s r = seenE (512 * n + r ≤ a) (sc D a (512 * n + r))) : ∃ ν : ℝ, max x (Finset.fold max ⊥ s Finset.univ) = (ν : EReal) := by
  have ht (r : Fin 512) : s r ≠ ⊤ := by
    rw [hs]; unfold seenE; split
    · exact EReal.coe_ne_top _
    · exact bot_ne_top
  rcases hx with ⟨rfl, rfl, _⟩ | ⟨μ, rfl, _⟩
  · refine ⟨_, (max_eq_right bot_le).trans (max_real s ht 0 ?_)⟩
    rw [hs, seenE, if_pos (by simp)]
    exact EReal.coe_ne_bot _
  · have hM : Finset.fold max ⊥ s Finset.univ ≠ ⊤ :=
      ((Finset.fold_max_lt (b := (⊥ : EReal)) (f := s) (s := Finset.univ) (⊤ : EReal)).mpr ⟨bot_lt_top, fun r _ => lt_top_iff_ne_top.mpr (ht r)⟩).ne
    refine ⟨_, (EReal.coe_toReal (x := max (μ : EReal) (Finset.fold max ⊥ s Finset.univ)) ?_ ?_).symm⟩
    · exact (max_lt (EReal.coe_lt_top μ) (lt_top_iff_ne_top.mpr hM)).ne
    · exact ((EReal.bot_lt_coe μ).trans_le (le_max_left _ _)).ne'

/-- The sums kept, scaled to the new number. -/
theorem keep {D : Head} {n a : ℕ} {x : EReal} {y : Fin 144 → EReal} (hx : Col D n a x y) (ν : ℝ) (l : Fin 144) :
    FloatOps.exp2 (F := Ideal) (φ := .f32) (x - (ν : EReal)) * y l = (wsum D ν (512 * n) l a : EReal) := by
  rcases hx with ⟨rfl, rfl, h⟩ | ⟨μ, rfl, h⟩
  · rw [h, mul_zero]
    simp [wsum]
  · rw [h, ← EReal.coe_sub, coe_exp2, ← EReal.coe_mul, wsum_shift]

/-- A half block's step on the running values. -/
theorem RunR.half {D : Head} {j n : ℕ} {x : Run Ideal} (hx : RunR D j n x) {s : FVec Ideal S512x1024 .f32} {w0 w1 : Vec Ideal S1x144x256 .bf16}
    (hs : ∀ (r : Fin 512) (c : Fin 1024), s (ix2 r c) = seenE (512 * n + r ≤ 1024 * j + c) (sc D (1024 * j + c) (512 * n + r)))
    (h0 : ∀ (l : Fin 144) (r : Fin 256), w0 (ix3 0 l r) = (vt D l (512 * n + r) : EReal))
    (h1 : ∀ (l : Fin 144) (r : Fin 256), w1 (ix3 0 l r) = (vt D l (512 * n + (256 + r)) : EReal)) : RunR D j (n + 1) (half s w0 w1 x) := by
  intro c
  obtain ⟨ν, hν⟩ := max_new (hx c) (s := fun r => s (ix2 r c)) fun r => hs r c
  have hm : (Fwd.half s w0 w1 x).1 (ix2 0 c) = (ν : EReal) := by rw [half_max, ofBits_neg_inf, hν]
  refine .inr ⟨ν, hm, fun l => ?_⟩
  show (Fwd.half s w0 w1 x).2 (ix2 l c) = _
  have hk : FloatOps.exp2 (F := Ideal) (φ := .f32) (x.1 (ix2 0 c) - (ν : EReal)) * x.2 (ix2 l c) = (wsum D ν (512 * n) l (1024 * j + c) : EReal) := keep (hx c) ν l
  rw [half_sum, hm, hk]
  simp only [h0, h1, hs, exp2_seen, ← EReal.coe_mul, ← coe_sum, ← EReal.coe_add]
  rw [wsum_half]
  rfl

/-! ## A grid point -/

/-- The point's inputs are head `D`'s arrays, at query block `j`. -/
structure InsR (I : Ins Ideal) (j : ℕ) (D : Head) : Prop where
  q : ∀ (c : Fin 1024) (x : Fin 256), I.q (ix3 0 c x) = (D.q (1024 * j + c) x : EReal)
  k : ∀ (r : Fin 16384) (x : Fin 256), I.k (ix3 0 r x) = (D.k r x : EReal)
  v : ∀ (r : Fin 16384) (x : Fin 128), I.v (ix3 0 r x) = (D.v r x : EReal)

/-- The scratch holds the head's transposed values. -/
def Filled (D : Head) (w : Vec Ideal S64x144x256 .bf16) : Prop :=
  ∀ (t : Fin 64) (l : Fin 144) (r : Fin 256), w (ix3 t l r) = (vt D l (256 * t + r) : EReal)

theorem ofBits_one : Ideal.ofBits .f32 0x3F800000#32 = ((1 : ℝ) : EReal) := by
  simp [Ideal.ofBits, Ideal.ieee]
  rw [← EReal.coe_mul]
  norm_num

theorem ofBits_zero : Ideal.ofBits .f32 0x00000000#32 = ((0 : ℝ) : EReal) := by simp [Ideal.ofBits, Ideal.ieee]

theorem fill_filled {I : Ins Ideal} {j : ℕ} {D : Head} (hI : InsR I j D) : Filled D (fill I.v) := by
  intro t l r
  unfold fill vt
  by_cases h : l.val < 128
  · rw [if_pos h]
    refine (dif_pos (c := ((ix3 t l r : S64x144x256.Idx) 1).val < 128) h).trans ?_
    refine (pay85_apply (vblk I.v t) ⟨l.val, h⟩ r).trans ?_
    exact hI.v ⟨256 * t.val + r.val, by omega⟩ ⟨l.val, h⟩
  · rw [if_neg h]
    refine (dif_neg (c := ((ix3 t l r : S64x144x256.Idx) 1).val < 128) h).trans ?_
    refine (pay86_apply ⟨l.val - 128, by omega⟩ r).trans ?_
    rw [ofBits_one, ofBits_zero]
    by_cases h1 : l.val = 128
    · rw [if_pos h1]
      simp [h1, IntOp.cmpi, Scalar.select]
    · rw [if_neg h1]
      have hne : BitVec.ofNat 32 (l.val - 128) ≠ 0#32 := by
        intro e
        have := congrArg BitVec.toNat e
        rw [BitVec.toNat_ofNat, Nat.mod_eq_of_lt (by omega)] at this
        have h2 : l.val - 128 = 0 := this
        omega
      have hb : (BitVec.ofNat 32 (l.val - 128) == 0#32) = false := beq_eq_false_iff_ne.mpr hne
      simp [hb, IntOp.cmpi, Scalar.select]

section Point
variable {I : Ins Ideal} {j : ℕ} {D : Head} {w : Vec Ideal S64x144x256 .bf16}

/-- The offsets of key block `b`. -/
structure At (o : Offs) (b : ℕ) : Prop where
  k : ∀ r : Fin 2, o.k r = ![0, 1024 * b + 512 * r, 0]
  w : ∀ r s : Fin 2, o.w r s = ![4 * b + 2 * r + s, 0, 0]

/-- A half block of keys as the kernel loads it. -/
theorem InsR.rd_k (hI : InsR I j D) {o : Offs} {b : ℕ} (ho : At o b) (hb : b < 16) (u : Fin 2) (r : Fin 512) (x : Fin 256) :
    rd (o.rk u) I.k (ix3 0 r x) = (D.k (512 * (2 * b + u) + r) x : EReal) := by
  have e := ho.k u
  obtain ⟨ok, hk, ow, hw⟩ := o
  have hh := hk u
  have : rd (Rect.unit (s := S1x16384x256) (ok u) S1x512x256.size hh) I.k (ix3 0 r x) = (D.k (512 * (2 * b + u) + r) x : EReal) := by
    replace e : ok u = ![0, 1024 * b + 512 * u.val, 0] := e
    clear ho
    revert hh
    rw [e]
    intro hh
    refine (rd_rows3 (n := 512) 16384 (1024 * b + 512 * u) hh I.k r x (by omega)).trans ?_
    rw [hI.k]
    congr 2
    show 1024 * b + 512 * u.val + r.val = _
    ring
  exact this

/-- A quarter of the transposed values as the kernel loads it. -/
theorem Filled.rd_w (hw : Filled D w) {o : Offs} {b : ℕ} (ho : At o b) (hb : b < 16) (u s : Fin 2) (l : Fin 144) (r : Fin 256) :
    rd (o.rw u s) w (ix3 0 l r) = (vt D l (512 * (2 * b + u) + (256 * s + r)) : EReal) := by
  have e := ho.w u s
  obtain ⟨ok, hk, ow, hw'⟩ := o
  have hh := hw' u s
  have : rd (Rect.unit (s := S64x144x256) (ow u s) S1x144x256.size hh) w (ix3 0 l r) = (vt D l (512 * (2 * b + u) + (256 * s + r)) : EReal) := by
    replace e : ow u s = ![4 * b + 2 * u.val + s.val, 0, 0] := e
    clear ho
    revert hh
    rw [e]
    intro hh
    refine (rd_block3 (n := 256) 64 256 (4 * b + 2 * u + s) 0 hh w l r (by omega) (by omega)).trans ?_
    rw [hw]
    congr 2
    show 256 * (4 * b + 2 * u.val + s.val) + (0 + r.val) = _
    ring
  exact this

/-- The first quarter and the second of a half block. -/
theorem Filled.quarters (hw : Filled D w) {o : Offs} {b : ℕ} (ho : At o b) (hb : b < 16) (u : Fin 2) :
    (∀ (l : Fin 144) (r : Fin 256), rd (o.rw u 0) w (ix3 0 l r) = (vt D l (512 * (2 * b + u) + r) : EReal))
    ∧ ∀ (l : Fin 144) (r : Fin 256), rd (o.rw u 1) w (ix3 0 l r) = (vt D l (512 * (2 * b + u) + (256 + r)) : EReal) := by
  refine ⟨fun l r => (hw.rd_w ho hb u 0 l r).trans ?_, fun l r => (hw.rd_w ho hb u 1 l r).trans ?_⟩
  · congr 3; show 256 * 0 + r.val = _; omega
  · congr 3

/-- The scores of a half block. -/
theorem InsR.score (hI : InsR I j D) {o : Offs} {b : ℕ} (ho : At o b) (hb : b < 16) (u : Fin 2) (r : Fin 512) (c : Fin 1024) :
    ∑ x : Fin 256, rd (o.rk u) I.k (ix3 0 r x) * I.q (ix3 0 c x) = (sc D (1024 * j + c) (512 * (2 * b + u) + r) : EReal) := by
  simp only [hI.rd_k ho hb, hI.q, ← EReal.coe_mul, ← coe_sum]
  rfl

/-- A step off the diagonal adds its block of keys. -/
theorem RunR.step (hI : InsR I j D) (hw : Filled D w) {o : Offs} {b : ℕ} (ho : At o b) (hb : b < 16) (hj : b < j) {x : Run Ideal} (hx : RunR D j (2 * b) x) :
    RunR D j (2 * (b + 1)) (stepRun (k0_pay84 I.q) I.k w o x) := by
  have hs (u : Fin 2) (r : Fin 512) (c : Fin 1024) : k0_pay80 (k0_pay84 I.q) (rd (o.rk u) I.k) (ix2 r c)
      = seenE (512 * (2 * b + u) + r ≤ 1024 * j + c) (sc D (1024 * j + c) (512 * (2 * b + u) + r)) := by
    rw [pay80_apply, seenE, if_pos (by omega), ← hI.score ho hb u r c]
    simp only [pay84_apply]
  obtain ⟨a0, a1⟩ := hw.quarters ho hb 0
  obtain ⟨b0, b1⟩ := hw.quarters ho hb 1
  exact (hx.half (hs 0) a0 a1).half (hs 1) b0 b1

/-- The kernel's question on words, as one on numbers. -/
theorem select_sge {a b o : ℕ} (ha : a < 1024) (hb : b < 512) (ho : o ≤ 512) (x y : EReal) :
    Scalar.select (IntOp.cmpi .sge (BitVec.ofNat 32 a) (IntOp.addi (BitVec.ofNat 32 b) (BitVec.ofNat 32 o))) x y = if b + o ≤ a then x else y := by
  show Scalar.select (BitVec.ofBool ((BitVec.ofNat 32 b + BitVec.ofNat 32 o).sle (BitVec.ofNat 32 a))) x y = _
  rw [← BitVec.ofNat_add, sle_ofNat (by omega) (by omega)]
  by_cases h : b + o ≤ a <;> simp [h, Scalar.select]

/-- The masked step adds the diagonal block. -/
theorem RunR.masked (hI : InsR I j D) (hw : Filled D w) {i : grid0.Coords} (ho : At (offsM i) j) (hj : j < 16) {x : Run Ideal} (hx : RunR D j (2 * j) x) :
    RunR D j (2 * (j + 1)) (maskedRun i I.q I.k w x) := by
  have h0 (r : Fin 512) (c : Fin 1024) : k0_pay96 (k0_pay95 I.q (rd ((offsM i).rk 0) I.k)) (ix2 r c)
      = seenE (512 * (2 * j + (0 : Fin 2).val) + r ≤ 1024 * j + c) (sc D (1024 * j + c) (512 * (2 * j + (0 : Fin 2).val) + r)) := by
    have hs := select_sge c.isLt r.isLt (o := 0) (by omega) (k0_pay95 I.q (rd ((offsM i).rk 0) I.k) (ix2 r c)) ⊥
    rw [pay96_apply, show (0#32 : BitVec 32) = BitVec.ofNat 32 0 from rfl, hs, pay95_apply, hI.score ho hj 0 r c, seenE]
    refine if_congr ?_ rfl rfl
    show _ ↔ 512 * (2 * j + 0) + r.val ≤ 1024 * j + c.val
    omega
  have h1 (r : Fin 512) (c : Fin 1024) : k0_pay97 (k0_pay84 I.q) (rd ((offsM i).rk 1) I.k) (ix2 r c)
      = seenE (512 * (2 * j + (1 : Fin 2).val) + r ≤ 1024 * j + c) (sc D (1024 * j + c) (512 * (2 * j + (1 : Fin 2).val) + r)) := by
    rw [pay97_apply, show (512#32 : BitVec 32) = BitVec.ofNat 32 512 from rfl, select_sge c.isLt r.isLt (by omega), seenE]
    simp only [pay84_apply]
    rw [hI.score ho hj 1 r c]
    refine if_congr ?_ rfl rfl
    show _ ↔ 512 * (2 * j + 1) + r.val ≤ 1024 * j + c.val
    omega
  obtain ⟨a0, a1⟩ := hw.quarters ho hj 0
  obtain ⟨b0, b1⟩ := hw.quarters ho hj 1
  exact (hx.half h0 a0 a1).half h1 b0 b1

/-- A fold of steps, each taking the next count. -/
theorem fold_count {α : Type} (P : ℕ → α → Prop) {n : ℕ} (f : α → Fin n → α) (h : ∀ (t : Fin n) x, P t x → P (t + 1) (f x t)) {x : α} (hx : P 0 x) :
    P n ((List.finRange n).foldl f x) := by
  induction n with
  | zero => exact hx
  | succ n ih =>
    rw [List.finRange_succ_last, List.foldl_append, List.foldl_map]
    exact h (Fin.last n) _ (ih (fun x t => f x t.castSucc) fun t x ht => h t.castSucc x ht)

theorem trips2 : ∀ i : grid0.Coords, (k0_t2_loop i).trips = (i 1).val / 4 := by decide +kernel

theorem trips4 : ∀ i : grid0.Coords, (k0_t4_loop i).trips = (i 1).val % 4 := by decide +kernel

theorem off_t2 : ∀ (i : grid0.Coords) (t : Fin (k0_t2_loop i).trips) (u : Fin 4), At (offs2 i t u) (4 * t + u) := by
  have h1 : ∀ (i : grid0.Coords) (t : Fin (k0_t2_loop i).trips) (u : Fin 4) (r : Fin 2),
      k0_off4 i t (BitVec.ofNat 32 u.val) (BitVec.ofNat 32 (512 * r.val)) = ![0, 1024 * (4 * t.val + u.val) + 512 * r.val, 0] := by decide +kernel
  have h2 : ∀ (i : grid0.Coords) (t : Fin (k0_t2_loop i).trips) (u : Fin 4) (r s : Fin 2),
      k0_off5 i t (BitVec.ofNat 32 u.val) (BitVec.ofNat 32 r.val) (BitVec.ofNat 32 s.val) = ![4 * (4 * t.val + u.val) + 2 * r.val + s.val, 0, 0] := by decide +kernel
  exact fun i t u => ⟨h1 i t u, h2 i t u⟩

theorem off_t4 : ∀ (i : grid0.Coords) (t : Fin (k0_t4_loop i).trips), At (offs4 i t) (4 * ((i 1).val / 4) + t) := by
  have h1 : ∀ (i : grid0.Coords) (t : Fin (k0_t4_loop i).trips) (r : Fin 2),
      k0_off8 i t (BitVec.ofNat 32 (512 * r.val)) = ![0, 1024 * (4 * ((i 1).val / 4) + t.val) + 512 * r.val, 0] := by decide +kernel
  have h2 : ∀ (i : grid0.Coords) (t : Fin (k0_t4_loop i).trips) (r s : Fin 2),
      k0_off9 i t (BitVec.ofNat 32 r.val) (BitVec.ofNat 32 s.val) = ![4 * (4 * ((i 1).val / 4) + t.val) + 2 * r.val + s.val, 0, 0] := by decide +kernel
  exact fun i t => ⟨h1 i t, h2 i t⟩

theorem off_masked : ∀ i : grid0.Coords, At (offsM i) (i 1).val := by
  have h1 : ∀ (i : grid0.Coords) (r : Fin 2), k0_off12 i (BitVec.ofNat 32 (512 * r.val)) = ![0, 1024 * (i 1).val + 512 * r.val, 0] := by decide +kernel
  have h2 : ∀ (i : grid0.Coords) (r s : Fin 2), k0_off13 i (BitVec.ofNat 32 r.val) (BitVec.ofNat 32 s.val) = ![4 * (i 1).val + 2 * r.val + s.val, 0, 0] := by decide +kernel
  exact fun i => ⟨h1 i, h2 i⟩

variable {i : grid0.Coords}

theorem RunR.trip2 (hI : InsR I (i 1) D) (hw : Filled D w) (t : Fin (k0_t2_loop i).trips) {x : Run Ideal} (hx : RunR D (i 1) (2 * (4 * t)) x) :
    RunR D (i 1) (2 * (4 * (t + 1))) (trip2 i I w x t) := by
  have ht := lt_of_lt_of_eq t.isLt (trips2 i)
  have hj : (i 1).val < 16 := (i 1).isLt
  have h0 := RunR.step hI hw (off_t2 i t 0) (show 4 * t.val + 0 < 16 by omega) (show 4 * t.val + 0 < (i 1).val by omega) hx
  have h1 := RunR.step hI hw (off_t2 i t 1) (show 4 * t.val + 1 < 16 by omega) (show 4 * t.val + 1 < (i 1).val by omega) h0
  have h2 := RunR.step hI hw (off_t2 i t 2) (show 4 * t.val + 2 < 16 by omega) (show 4 * t.val + 2 < (i 1).val by omega) h1
  exact RunR.step hI hw (off_t2 i t 3) (show 4 * t.val + 3 < 16 by omega) (show 4 * t.val + 3 < (i 1).val by omega) h2

theorem RunR.trip4 (hI : InsR I (i 1) D) (hw : Filled D w) (t : Fin (k0_t4_loop i).trips) {x : Run Ideal} (hx : RunR D (i 1) (2 * (4 * ((i 1).val / 4) + t)) x) :
    RunR D (i 1) (2 * (4 * ((i 1).val / 4) + (t + 1))) (trip4 i I w x t) := by
  have ht := lt_of_lt_of_eq t.isLt (trips4 i)
  have hj : (i 1).val < 16 := (i 1).isLt
  exact RunR.step hI hw (off_t4 i t) (by omega) (by omega) hx

/-- The running values at the end of a point: all keys up to the diagonal block's end. -/
theorem point_RunR (hI : InsR I (i 1) D) (hw : Filled D w) : RunR D (i 1) (2 * ((i 1).val + 1)) (pointRun i I w) := by
  have hj : (i 1).val < 16 := (i 1).isLt
  have h0 : RunR D (i 1) (2 * (4 * 0)) (k0_pay87 (F := Ideal), k0_pay88 (F := Ideal)) := fun c => .inl ⟨rfl, pay87_apply c, fun l => pay88_apply l c⟩
  have h2 := fold_count (fun n x => RunR D (i 1) (2 * (4 * n)) x) (trip2 i I w) (fun t x hx => RunR.trip2 hI hw t hx) h0
  have e2 : 4 * (k0_t2_loop i).trips = 4 * ((i 1).val / 4) + 0 := by rw [trips2, Nat.add_zero]
  dsimp only at h2
  rw [e2] at h2
  have h4 := fold_count (fun n x => RunR D (i 1) (2 * (4 * ((i 1).val / 4) + n)) x) (trip4 i I w) (fun t x hx => RunR.trip4 hI hw t hx) h2
  have e4 : 4 * ((i 1).val / 4) + (k0_t4_loop i).trips = (i 1).val := by rw [trips4]; exact Nat.div_add_mod _ _
  dsimp only at h4
  rw [e4] at h4
  exact RunR.masked hI hw (off_masked i) hj h4

end Point

end Cert.Fwd

end
-- ==== Proof.FwdOuts.lean ====
/- The forward kernel's two results over the real numbers: a point's sums as the attention of its head, and the arrays after the
   run. -/
module

public import proofs.«01_k».proof.Proof.FwdRun
public import proofs.«01_k».proof.Proof.FwdReals
public import proofs.«01_k».proof.Proof.Outs
public import Idealize.ShloMosaic.Lib.Pipeline.ValueKit

@[expose] public section

set_option maxRecDepth 65536

noncomputable section

namespace Cert.Fwd

open Cert.Att Cert.Bwd
open Cert.Kernel2Ideal Cert.Kernel2Ideal.Gen
open Idealize.ShloMosaic Idealize.ShloMosaic.TcCoe Idealize.SL.Sem

/-! ## The sums as the attention -/

section
variable {A : Attn} (hk : ∀ b x, 192 ≤ x → A.k b x = 0)
include hk

/-- A key's share of a sum, by the attention's own exponentials. -/
theorem term_eq (μ : ℝ) (l a b : ℕ) : term A.head μ l a b = Real.exp (A.m a - μ * Real.log 2) * (vt A.head l b * A.ex a b) := by
  unfold term Attn.ex
  split
  · have e : Real.rpow 2 (sc A.head a b - μ) = Real.exp (A.m a - μ * Real.log 2) * Real.exp (A.score a b - A.m a) := by
      rw [show sc A.head a b = _ from Attn.head_score hk a b, ← Real.exp_add]
      show (2 : ℝ) ^ (A.score a b / Real.log 2 - μ) = _
      rw [Real.rpow_def_of_pos two_pos, mul_sub, mul_div_cancel₀ _ Attn.log_two_ne]
      congr 1; ring
    rw [e]; ring
  · rw [mul_zero, mul_zero]

/-- The sums over enough keys are over all. -/
theorem wsum_eq (μ : ℝ) {n l a : ℕ} (hn : n ≤ 16384) (ha : a < n) :
    wsum A.head μ n l a = Real.exp (A.m a - μ * Real.log 2) * ∑ b : Fin 16384, vt A.head l b * A.ex a b := by
  unfold wsum
  rw [Fin.sum_univ_eq_sum_range (fun b => vt A.head l b * A.ex a b) 16384, Finset.mul_sum]
  rw [Finset.sum_congr rfl fun b _ => term_eq hk μ l a b]
  refine Finset.sum_subset (fun b hb => ?_) fun b _ hb => ?_
  · rw [Finset.mem_range] at hb ⊢; omega
  · rw [Finset.mem_range] at hb
    rw [Attn.ex, if_neg (by omega), mul_zero, mul_zero]

/-- The row of ones gives the weights' sum. -/
theorem wsum_ones (μ : ℝ) {n a : ℕ} (hn : n ≤ 16384) (ha : a < n) : wsum A.head μ n 128 a = Real.exp (A.m a - μ * Real.log 2) * A.sm a := by
  rw [wsum_eq hk μ hn ha, Attn.sm]
  refine congrArg _ (Finset.sum_congr rfl fun b _ => ?_)
  rw [vt, if_neg (lt_irrefl _), if_pos rfl, one_mul]

theorem wsum_vals (μ : ℝ) {n a e : ℕ} (hn : n ≤ 16384) (ha : a < n) (he : e < 128) :
    wsum A.head μ n e a = Real.exp (A.m a - μ * Real.log 2) * (A.sm a * A.out a e) := by
  rw [wsum_eq hk μ hn ha]
  congr 1
  rw [Attn.out, Finset.mul_sum]
  refine Finset.sum_congr rfl fun b _ => ?_
  rw [vt, if_pos he, Attn.wt]
  show A.v b e * A.ex a b = _
  field_simp [(A.sm_pos (lt_of_lt_of_le ha hn)).ne']

theorem run_out {j : ℕ} (hj : j < 16) {x : Run Ideal} (hx : RunR A.head j (2 * (j + 1)) x) (c : Fin 1024) (e : Fin 128) :
    outO x (ix2 c e) = (A.out (1024 * j + c) e : EReal) := by
  rcases hx c with ⟨h, _⟩ | ⟨μ, _, h⟩
  · omega
  · have hn : 512 * (2 * (j + 1)) ≤ 16384 := by omega
    have ha : 1024 * j + c.val < 512 * (2 * (j + 1)) := by omega
    have hs := A.sm_pos (lt_of_lt_of_le ha hn)
    have h0 := h ⟨e, by omega⟩
    have h1 := h ⟨128, by omega⟩
    dsimp only at h0 h1
    rw [wsum_vals hk μ hn ha e.isLt] at h0
    rw [wsum_ones hk μ hn ha] at h1
    rw [outO_apply, h0, h1, div_coe _ (mul_pos (Real.exp_pos _) hs).ne', mul_div_mul_left _ _ (Real.exp_pos _).ne', mul_div_cancel_left₀ _ hs.ne']

theorem run_lse {j : ℕ} (hj : j < 16) {x : Run Ideal} (hx : RunR A.head j (2 * (j + 1)) x) (c : Fin 1024) :
    outL x (ix4 0 0 0 c) = (A.lse (1024 * j + c) : EReal) := by
  rcases hx c with ⟨h, _⟩ | ⟨μ, hm, h⟩
  · omega
  · have hn : 512 * (2 * (j + 1)) ≤ 16384 := by omega
    have ha : 1024 * j + c.val < 512 * (2 * (j + 1)) := by omega
    have hs := A.sm_pos (lt_of_lt_of_le ha hn)
    have h1 := h ⟨128, by omega⟩
    dsimp only at h1
    rw [wsum_ones hk μ hn ha] at h1
    rw [outL_apply, hm, h1, log_coe (mul_pos (Real.exp_pos _) hs), div_coe _ Attn.log_two_ne, ← EReal.coe_add]
    refine congrArg (fun x : ℝ => (x : EReal)) ?_
    rw [Real.log_mul (Real.exp_pos _).ne' hs.ne', Real.log_exp, Attn.lse]
    field_simp [Attn.log_two_ne]
    ring

end

/-! ## The arrays -/

/-- A grid point's head and query block. -/
theorem coords_eq : ∀ t : Fin cfg0.N, (grid0.coords t 0).val = t.val / 16 ∧ (grid0.coords t 1).val = t.val % 16
    ∧ (k0_cond1 (grid0.coords t) = 1#1 ↔ t.val % 16 = 0) := by decide +kernel

/-- Where the windows stand at a grid point. -/
theorem idx : ∀ t : Fin cfg0.N, win0_0.index t = ![t.val / 16, t.val % 16, 0] ∧ win0_1.index t = ![t.val / 16, 0, 0]
    ∧ win0_2.index t = ![t.val / 16, 0, 0] ∧ win0_3.index t = ![t.val % 16, t.val / 16] ∧ win0_4.index t = ![t.val / 16, t.val % 16, 0, 0] := by
  decide +kernel

variable (m : (ℓ : Loc nD τ sig) → Buf (Elt Ideal) ℓ) (c : Dev nD)

/-! The three arrays the kernel is handed. -/

def qA : Vec Ideal S8x16384x256 .bf16 := V m c main_v6
def kA : Vec Ideal S8x16384x256 .bf16 := V m c main_v9
def vA : Vec Ideal S8x16384x128 .bf16 := V m c main_v12

/-- The three arrays are the heads' numbers. -/
structure ArrR (D : ℕ → Head) : Prop where
  q : ∀ (h : Fin 8) (s : Fin 16384) (x : Fin 256), qA m c (ix3 h s x) = ((D h).q s x : EReal)
  k : ∀ (h : Fin 8) (s : Fin 16384) (x : Fin 256), kA m c (ix3 h s x) = ((D h).k s x : EReal)
  v : ∀ (h : Fin 8) (s : Fin 16384) (x : Fin 128), vA m c (ix3 h s x) = ((D h).v s x : EReal)

variable {m c}

theorem blk0 (t : Fin cfg0.N) (h : t.val / 16 < 8) (r : Fin 1024) (hr : 1024 * (t.val % 16) + r < 16384) (x : Fin 256) :
    iblk m c 0 t (ix3 0 r x) = qA m c (ix3 ⟨t.val / 16, h⟩ ⟨1024 * (t.val % 16) + r, hr⟩ x) := by
  have i0 := (idx t).1
  blk_ext [iblk, qA, i0]

theorem blk1 (t : Fin cfg0.N) (h : t.val / 16 < 8) (r : Fin 16384) (x : Fin 256) :
    iblk m c 1 t (ix3 0 r x) = kA m c (ix3 ⟨t.val / 16, h⟩ r x) := by
  have i1 := (idx t).2.1
  blk_ext [iblk, kA, i1]

theorem blk2 (t : Fin cfg0.N) (h : t.val / 16 < 8) (r : Fin 16384) (x : Fin 128) :
    iblk m c 2 t (ix3 0 r x) = vA m c (ix3 ⟨t.val / 16, h⟩ r x) := by
  have i2 := (idx t).2.2.1
  blk_ext [iblk, vA, i2]

theorem point_bounds {n : ℕ} (h : n < 128) : n / 16 < 8 ∧ ∀ r : Fin 1024, 1024 * (n % 16) + r < 16384 :=
  ⟨by omega, fun r => by omega⟩

set_option maxHeartbeats 2000000 in
theorem ArrR.ins {D : ℕ → Head} (hA : ArrR m c D) (t : Fin cfg0.N) : InsR (ins m c t) (grid0.coords t 1) (D (t.val / 16)) := by
  obtain ⟨hh, hr⟩ := point_bounds (lt_of_lt_of_eq t.isLt N_0)
  rw [(coords_eq t).2.1]
  constructor
  · intro r x
    have h := hA.q ⟨_, hh⟩ ⟨_, hr r⟩ x
    rw [← blk0] at h
    exact h
  · intro r x
    have h := hA.k ⟨_, hh⟩ r x
    rw [← blk1] at h
    exact h
  · intro r x
    have h := hA.v ⟨_, hh⟩ r x
    rw [← blk2] at h
    exact h

/-- The scratch that a point reads holds its head's transposed values. -/
theorem ArrR.filled {D : ℕ → Head} (hA : ArrR m c D) : ∀ (n : ℕ) (h : n < cfg0.N), Filled (D (n / 16)) (scrAt m c ⟨n, h⟩) := by
  intro n
  induction n with
  | zero =>
    intro h
    unfold scrAt pointW
    rw [if_pos ((coords_eq ⟨0, h⟩).2.2.mpr rfl)]
    exact fill_filled (hA.ins ⟨0, h⟩)
  | succ n ih =>
    intro h
    by_cases h0 : (n + 1) % 16 = 0
    · unfold scrAt pointW
      rw [if_pos ((coords_eq ⟨n + 1, h⟩).2.2.mpr h0)]
      exact fill_filled (hA.ins ⟨n + 1, h⟩)
    · unfold scrAt pointW
      rw [if_neg fun e => h0 ((coords_eq ⟨n + 1, h⟩).2.2.mp e)]
      have hn : n < cfg0.N := Nat.lt_of_succ_lt h
      rw [show scr m c (⟨n + 1, h⟩ : Fin cfg0.N).val = scrAt m c ⟨n, hn⟩ from scr_succ m c ⟨n, hn⟩]
      have e : (n + 1) / 16 = n / 16 := by clear ih h hn; omega
      rw [e]
      exact ih hn

/-- What a point ends with. -/
theorem ArrR.point {D : ℕ → Head} (hA : ArrR m c D) (t : Fin cfg0.N) : RunR (D (t.val / 16)) (t.val % 16) (2 * (t.val % 16 + 1)) (runAt m c t) := by
  have h := point_RunR (hA.ins t) (hA.filled t.val t.isLt)
  rw [(coords_eq t).2.1] at h
  exact h

/-- The output and the log-sums of some heads. -/
def outOf (B : ℕ → Attn) : Vec Ideal S16384x1024 .f32 := fun i => ((B ((i 1).val / 128)).out (i 0).val ((i 1).val % 128) : EReal)
def lseOf (B : ℕ → Attn) : Vec Ideal S8x16x1x1024 .f32 := fun i => ((B (i 0).val).lse ((i 1).val * 1024 + (i 3).val) : EReal)

theorem ix2_all {a b : ℕ} (y : (⟨2, ![a, b]⟩ : Shape).Idx) : y = ix2 (y 0 : Fin a) (y 1 : Fin b) := by
  funext i; fin_cases i <;> rfl

theorem ix4_all {b : ℕ} (y : (⟨4, ![1, 1, 1, b]⟩ : Shape).Idx) : y = ix4 (0 : Fin 1) (0 : Fin 1) (0 : Fin 1) (y 3 : Fin b) := by
  funext i
  fin_cases i
  · exact Subsingleton.elim (α := Fin 1) _ _
  · exact Subsingleton.elim (α := Fin 1) _ _
  · exact Subsingleton.elim (α := Fin 1) _ _
  · rfl

theorem ArrR.out_point {B : ℕ → Attn} (hk : ∀ h b x, 192 ≤ x → (B h).k b x = 0) (hA : ArrR m c fun h => (B h).head) (t : Fin cfg0.N) (y : S1024x128.Idx) :
    outO (runAt m c t) y
      = ((B ((t.val / 16 * 128 + (y 1).val) / 128)).out (t.val % 16 * 1024 + (y 0).val) ((t.val / 16 * 128 + (y 1).val) % 128) : EReal) := by
  have h := run_out (hk (t.val / 16)) (Nat.mod_lt _ (by decide)) (hA.point t) (y 0) (y 1)
  obtain ⟨e1, e2⟩ := block_row (n := t.val / 16) (y 1).isLt
  rw [show ((t.val / 16 * 128 + (y 1).val) / 128) = t.val / 16 from e1, show ((t.val / 16 * 128 + (y 1).val) % 128) = (y 1).val from e2,
    mul_comm (t.val % 16), ← h]
  exact congrArg (outO (runAt m c t)) (ix2_all y)

theorem ArrR.lse_point {B : ℕ → Attn} (hk : ∀ h b x, 192 ≤ x → (B h).k b x = 0) (hA : ArrR m c fun h => (B h).head) (t : Fin cfg0.N) (y : S1x1x1x1024.Idx) :
    outL (runAt m c t) y = ((B (t.val / 16)).lse (t.val % 16 * 1024 + (y 3).val) : EReal) := by
  have h := run_lse (hk (t.val / 16)) (Nat.mod_lt _ (by decide)) (hA.point t) (y 3)
  rw [mul_comm (t.val % 16), ← h]
  exact congrArg (outL (runAt m c t)) (ix4_all y)

theorem ArrR.out {B : ℕ → Attn} (hk : ∀ h b x, 192 ≤ x → (B h).k b x = 0) (hA : ArrR m c fun h => (B h).head) :
    (dats m 0 c).arrAt 3 (cfgs 0).N = outOf B := by
  refine (dats m 0 c).arrAt_eq_of_covers 3 _ (by decide +kernel) fun t hf y => ?_
  have i3 := (idx t).2.2.2.1
  unfold outOf
  blk_simp [i3]
  rw [after_3]
  exact hA.out_point hk t y

theorem ArrR.lse {B : ℕ → Attn} (hk : ∀ h b x, 192 ≤ x → (B h).k b x = 0) (hA : ArrR m c fun h => (B h).head) :
    (dats m 0 c).arrAt 4 (cfgs 0).N = lseOf B := by
  refine (dats m 0 c).arrAt_eq_of_covers 4 _ (by decide +kernel) fun t hf y => ?_
  have i4 := (idx t).2.2.2.2
  unfold lseOf
  blk_simp [i4]
  rw [after_4]
  exact hA.lse_point hk t y

end Cert.Fwd

end
-- ==== Proof.FwdValue.lean ====
/- The forward kernel and its reference leave the same two arrays: the attention's output and each row's log-sum in base 2, over
   the real numbers. -/
module

public import proofs.«01_k».proof.Defs
public import proofs.«01_k».proof.Proof.FwdOuts
public import proofs.«01_k».proof.Proof.Value
public import proofs.«01_k».proof.Proof.Gen.Reference2Ideal.Read

@[expose] public section

set_option maxRecDepth 65536

noncomputable section

namespace Cert.Fwd

open Cert.Att Cert.Bwd
open Idealize.ShloMosaic Idealize.ShloMosaic.TcCoe Idealize.SL Idealize.SL.Sem Idealize.ShloMosaic.StableHlo

/-! ## The kernel -/

section
open Cert.Kernel2Ideal Cert.Kernel2Ideal.Gen
variable (m : (ℓ : Loc nD τ sig) → Buf (Elt Ideal) ℓ) (c : Dev nD)

/-- The kernel's arguments, and nothing for a cotangent. -/
def args : Args := ⟨m (c.tc.loc main_arg0), m (c.tc.loc main_arg1), m (c.tc.loc main_arg2), fun _ => (0 : EReal)⟩

theorem qA_eq : (qA m c : FVec Ideal _ _) = truncf .bf16 (hScaled (args m c).q) bitsLt_bf16_f32 := by
  unfold qA V
  simp only [hostOps0, hostOps0_1, hostOps0_2, hostOps0_3, hostOps0_4, hostOps0_5, hostOps0_6, List.flatten_cons,
    List.flatten_nil, List.append_nil, List.cons_append, List.nil_append, TRef.binary, TRef.nullary, TRef.ternary, TRef.unary, TRef.toBuf, TRef.ofBuf, cast_eq]
  after_results_simp
  rfl

theorem kA_eq : (kA m c : FVec Ideal _ _) = truncf .bf16 (hHeads (args m c).k) bitsLt_bf16_f32 := by
  unfold kA V
  simp only [hostOps0, hostOps0_1, hostOps0_2, hostOps0_3, hostOps0_4, hostOps0_5, hostOps0_6, List.flatten_cons,
    List.flatten_nil, List.append_nil, List.cons_append, List.nil_append, TRef.binary, TRef.nullary, TRef.ternary, TRef.unary, TRef.toBuf, TRef.ofBuf, cast_eq]
  after_results_simp
  rfl

theorem vA_eq : (vA m c : FVec Ideal _ _) = truncf .bf16 (hHeads' (args m c).v) bitsLt_bf16_f32 := by
  unfold vA V
  simp only [hostOps0, hostOps0_1, hostOps0_2, hostOps0_3, hostOps0_4, hostOps0_5, hostOps0_6, List.flatten_cons,
    List.flatten_nil, List.append_nil, List.cons_append, List.nil_append, TRef.binary, TRef.nullary, TRef.ternary, TRef.unary, TRef.toBuf, TRef.ofBuf, cast_eq]
  after_results_simp
  rfl

variable {m c}

/-- The kernel is handed the heads' attention. -/
theorem arrays (hx : (args m c).Real) : ArrR m c fun h => ((args m c).attn h).head where
  q h s x := by
    rw [qA_eq]
    exact scaled_num hx h s x
  k h s x := by
    rw [kA_eq]
    exact heads_num hx.k h s x
  v h s x := by
    rw [vA_eq]
    exact (hHeads'_apply _ h s x).trans (v_num hx h s x)

variable (m) (ρ : Dev nD → PrngReg)

theorem kernel_run (hx : ∀ c, (args m c).Real) : θ_run defs (onTc (τ := τ) (main (F := Ideal))) ⟨m, fun _ => 0, ρ⟩ (fun r => ∀ c : Dev nD,
    r.2.mem ((c.tc : Thread nD τ).loc main_v13_0) = outOf (args m c).attn
    ∧ r.2.mem ((c.tc : Thread nD τ).loc main_v13_1) = lseOf (args m c).attn) :=
  (θ_run defs _ _).mono (fun _ h c => ⟨((h.1 c).1 3).trans ((arrays (hx c)).out (args m c).attn_k_zero),
    ((h.1 c).1 4).trans ((arrays (hx c)).lse (args m c).attn_k_zero)⟩) (run_main m ρ)

end

theorem args_real [Cert.Pre_finite2.Facts] (m : (ℓ : Loc Cert.Kernel2Ideal.nD Cert.Kernel2Ideal.τ Cert.Kernel2Ideal.sig) → Buf (Elt Ideal) ℓ)
    (hm : Cert.Pre_Kernel2Ideal_finite2 m) (c : Dev Cert.Kernel2Ideal.nD) : (args m c).Real where
  q := real_of_finite _ _ (hm c).1
  k := real_of_finite _ _ (hm c).2.1
  v := real_of_finite _ _ (hm c).2.2
  c := fun _ => ⟨0, rfl⟩

/-! ## The reference -/

section
open Cert.Reference2Ideal Cert.Reference2Ideal.Gen Cert.Reference2Ideal.Read
variable (X : Args)

/-- The reference's stages are those the backward kernel's host program takes. -/
theorem v10_eq : val_main_v10 (F := Ideal) X.q X.k = sS X := rfl

theorem v12_eq : val_main_v12 (F := Ideal) X.q X.k = uS X := by
  unfold val_main_v12 val_main_v11
  rw [v10_eq]
  rfl

theorem v15_eq : val_main_v15 (F := Ideal) X.q X.k = eS X := by
  unfold val_main_v15 val_main_v14 val_main_v13
  rw [v10_eq, v12_eq]
  rfl

theorem v17_eq : val_main_v17 (F := Ideal) X.q X.k = zS X := by
  unfold val_main_v17 val_main_v16
  rw [v15_eq]
  rfl

theorem v20_eq : val_main_v20 (F := Ideal) X.q X.k X.v = hOut (eS X) (zS X) X.v := by
  unfold val_main_v20 val_main_v19 val_main_v18
  rw [v15_eq, v17_eq]
  rfl

theorem v26_eq : val_main_v26 (F := Ideal) X.q X.k = hLse (uS X) (zS X) := by
  unfold val_main_v26 val_main_v23 val_main_v22
  rw [v12_eq, v17_eq]
  rfl

theorem v27_at (s : Fin 16384) (y : Fin 1024) : val_main_v27 (F := Ideal) X.q X.k X.v (ix2 s y)
    = hOut (eS X) (zS X) X.v (ix3 ⟨y / 128, by omega⟩ ⟨y % 128, by omega⟩ s) := by
  unfold val_main_v27 val_main_v21
  rw [v20_eq]
  generalize hOut (eS X) (zS X) X.v = z
  pointwise

theorem v28_at (h : Fin 8) (b : Fin 16) (z : Fin 1024) : val_main_v28 (F := Ideal) X.q X.k (ix4 h b 0 z)
    = hLse (uS X) (zS X) (ix3 h ⟨b * 1024 + z, by omega⟩ 0) := by
  unfold val_main_v28
  rw [v26_eq]
  generalize hLse (uS X) (zS X) = y
  pointwise

variable {X} (hx : X.Real)
include hx

theorem reference_out : val_main_v27 (F := Ideal) X.q X.k X.v = outOf X.attn :=
  funext fun i => by
    rw [ix2_all i]
    exact (v27_at X (i 0) (i 1)).trans (out_num hx _ _ _)

theorem reference_lse : val_main_v28 (F := Ideal) X.q X.k = lseOf X.attn :=
  funext fun i => by
    have e : i = ix4 (i 0 : Fin 8) (i 1 : Fin 16) (0 : Fin 1) (i 3 : Fin 1024) := by
      funext a
      fin_cases a
      · rfl
      · rfl
      · exact Subsingleton.elim (α := Fin 1) _ _
      · rfl
    rw [e]
    exact (v28_at X (i 0) (i 1) (i 3)).trans (lse_num hx _ _)

variable (m : (ℓ : Loc nD τ sig) → Buf (Elt Ideal) ℓ) (c : Dev nD)
  (h0 : m ((c.tc : Thread nD τ).loc main_arg0) = X.q) (h1 : m ((c.tc : Thread nD τ).loc main_arg1) = X.k)
  (h2 : m ((c.tc : Thread nD τ).loc main_arg2) = X.v)
include h0 h1

theorem res_lse : val_main_v28 (F := Ideal) (m ((c.tc : Thread nD τ).loc main_arg0)) (m ((c.tc : Thread nD τ).loc main_arg1)) = lseOf X.attn := by
  rw [h0, h1]
  exact reference_lse hx

include h2

theorem res_out : Cert.Reference2Ideal.Value.res_main_v27 m c = outOf X.attn := by
  rw [val_main_v27_eq, h0, h1, h2]
  exact reference_out hx
end

theorem algebraic [Cert.Pre_finite2.Facts] : Cert.algebraic_Kernel2Ideal_Reference2Ideal_pre_finite2 := by
  intro m g m' g' hm hargs
  have hx := args_real m hm
  refine ⟨fun c => outOf (args m c).attn, fun c => lseOf (args m c).attn, ?_, ?_⟩
  · refine (θ_run Cert.Kernel2Ideal.defs _ _).mono (fun r h c => ?_) (θ_run_and (kernel_run m g hx) (quiescent m g))
    exact ⟨(h.1 c).1, (h.1 c).2, h.2.1 c⟩
  · refine (θ_run Cert.Reference2Ideal.defs _ _).mono (fun r h c => ?_) (Cert.Reference2Ideal.Value.run m' g')
    obtain ⟨e0, e1, e2⟩ := hargs c
    exact ⟨(h c).1.trans (res_out (hx c) m' c e0 e1 e2), ((h c).2.1.trans (Cert.Reference2Ideal.Read.val_main_v28_eq _ _)).trans (res_lse (hx c) m' c e0 e1), (h c).2.2⟩

end Cert.Fwd

end
-- ==== Proof.InpPay.lean ====
/- The projection's backward kernel: the values one grid point stores, read at an index on the extended reals. -/
module

public import proofs.«01_k».proof.Proof.Gen.Kernel3Ideal.Skeleton
public import Idealize.ShloMosaic.Lib.Pipeline.FrameBody
public import Idealize.ShloMosaic.Lib.Pointwise

@[expose] public section

set_option maxRecDepth 65536

noncomputable section

namespace Cert.Inp

open Cert.Kernel3Ideal Cert.Kernel3Ideal.Gen
open Idealize.ShloMosaic

/-- The blocks a grid point reads: 256 tokens of the layer's input and of the gradient that joins it, the modulation's rows, the
    padded weight, and the seven pieces of the projection's gradient. -/
structure In where
  x : Vec Ideal S256x1024 .f32
  g : Vec Ideal S256x1024 .f32
  m : Vec Ideal S8x3072 .f32
  w : Vec Ideal S1024x4480 .bf16
  q : Vec Ideal S256x384 .bf16
  kv : Vec Ideal S256x256 .bf16
  za : Vec Ideal S256x1024 .bf16
  xbc : Vec Ideal S256x1536 .bf16
  zs : Vec Ideal S256x1024 .bf16
  kr : Vec Ideal S256x128 .bf16
  dt : Vec Ideal S256x128 .bf16

namespace In
variable (I : In)

/-- The modulation's first row, and its second one from column 1024 on, as the body loads them. -/
def sh : Vec Ideal S1x1024 .f32 := View.ld I.m (Rect.unit (s := S8x3072) ![0, 0] S1x1024.size inb_S8x3072_S1x1024_0_0)
def sc : Vec Ideal S1x1024 .f32 := View.ld I.m (Rect.unit (s := S8x3072) ![0, 1024] S1x1024.size inb_S8x3072_S1x1024_0_1024)

/-- The gradient of the modulated input, as the body sums it piece by piece. -/
def du : FVec Ideal S256x1024 .f32 :=
  k0_pay24
    (k0_pay17 (k0_pay9 I.q (View.ld I.w (Rect.unit (s := S1024x4480) ![0, 0] S1024x384.size inb_S1024x4480_S1024x384_0_0)))
      (k0_pay11 I.kv) (k0_pay12 (View.ld I.w (Rect.unit (s := S1024x4480) ![0, 384] S1024x256.size inb_S1024x4480_S1024x256_0_384)))
      (constant S256x1024 .f32 0#32)
      I.za (View.ld I.w (Rect.unit (s := S1024x4480) ![0, 640] S1024x1024.size inb_S1024x4480_S1024x1024_0_640))
      I.xbc (View.ld I.w (Rect.unit (s := S1024x4480) ![0, 1664] S1024x1536.size inb_S1024x4480_S1024x1536_0_1664)))
    I.zs (View.ld I.w (Rect.unit (s := S1024x4480) ![0, 3200] S1024x1024.size inb_S1024x4480_S1024x1024_0_3200))
    I.kr (View.ld I.w (Rect.unit (s := S1024x4480) ![0, 4224] S1024x128.size inb_S1024x4480_S1024x128_0_4224))
    I.dt (View.ld I.w (Rect.unit (s := S1024x4480) ![0, 4352] S1024x128.size inb_S1024x4480_S1024x128_0_4352))

/-- The modulated input, transposed. -/
def u : FVec Ideal S1024x256 .bf16 := k0_pay7 I.sh I.sc I.x

theorem sh_apply (d : Fin 1024) : I.sh (ix2 0 d) = I.m (ix2 0 ⟨d, by omega⟩) := by
  refine congrArg I.m (funext fun a => Fin.ext ?_)
  fin_cases a
  · rfl
  · show 0 + 1 * d.val = d.val; omega

theorem sc_apply (d : Fin 1024) : I.sc (ix2 0 d) = I.m (ix2 0 ⟨1024 + d, by omega⟩) := by
  refine congrArg I.m (funext fun a => Fin.ext ?_)
  fin_cases a
  · rfl
  · show 1024 + 1 * d.val = 1024 + d.val; omega

theorem u_apply (d : Fin 1024) (r : Fin 256) : I.u (ix2 d r)
    = I.x (ix2 r d) * (1 + I.m (ix2 0 ⟨1024 + d, by omega⟩)) + I.m (ix2 0 ⟨d, by omega⟩) := by
  rw [← sc_apply, ← sh_apply, u]
  generalize I.sc = b
  generalize I.sh = a
  pointwise [k0_pay7, k0_pay6]

end In

/-- Columns from `o` on of an array of 4480 columns. -/
theorem ld_cols {e : EltTy} {n : ℕ} (w : Vec Ideal S1024x4480 e) (o : ℕ) (inb : ∀ a, (![0, o] : Fin 2 → ℕ) a + (⟨2, ![1024, n]⟩ : Shape).size a ≤ S1024x4480.size a)
    (d : Fin 1024) (y : Fin n) (h : o + y < 4480) :
    View.ld w (Rect.unit (s := S1024x4480) ![0, o] (⟨2, ![1024, n]⟩ : Shape).size inb) (ix2 d y) = w (ix2 d ⟨o + y, h⟩) := by
  refine congrArg w (funext fun a => Fin.ext ?_)
  fin_cases a
  · show 0 + 1 * d.val = d.val; omega
  · show o + 1 * y.val = o + y.val; omega

theorem pay9_apply (q : Vec Ideal S256x384 .bf16) (w : Vec Ideal S1024x384 .bf16) (r : Fin 256) (d : Fin 1024) :
    k0_pay9 q w (ix2 r d) = ∑ y : Fin 384, q (ix2 r y) * w (ix2 d y) := by
  pointwise [k0_pay9, k0_pay8]

theorem pay17_apply (a : FVec Ideal S256x1024 .f32) (kv : Vec Ideal S256x256 .bf16) (w1 : Vec Ideal S1024x256 .bf16) (za : Vec Ideal S256x1024 .bf16)
    (w2 : Vec Ideal S1024x1024 .bf16) (xbc : Vec Ideal S256x1536 .bf16) (w3 : Vec Ideal S1024x1536 .bf16) (r : Fin 256) (d : Fin 1024) :
    k0_pay17 a (k0_pay11 kv) (k0_pay12 w1) (constant S256x1024 .f32 0#32) za w2 xbc w3 (ix2 r d)
      = a (ix2 r d) + (∑ y : Fin 256, kv (ix2 r y) * w1 (ix2 d y)) + (∑ y : Fin 1024, za (ix2 r y) * w2 (ix2 d y))
        + ∑ y : Fin 1536, xbc (ix2 r y) * w3 (ix2 d y) := by
  pointwise [k0_pay17, k0_pay11, k0_pay12, k0_pay14, k0_pay16]

theorem pay24_apply (a : FVec Ideal S256x1024 .f32) (zs : Vec Ideal S256x1024 .bf16) (w1 : Vec Ideal S1024x1024 .bf16) (kr : Vec Ideal S256x128 .bf16)
    (w2 : Vec Ideal S1024x128 .bf16) (dt : Vec Ideal S256x128 .bf16) (w3 : Vec Ideal S1024x128 .bf16) (r : Fin 256) (d : Fin 1024) :
    k0_pay24 a zs w1 kr w2 dt w3 (ix2 r d)
      = a (ix2 r d) + (∑ y : Fin 1024, zs (ix2 r y) * w1 (ix2 d y)) + (∑ y : Fin 128, kr (ix2 r y) * w2 (ix2 d y))
        + ∑ y : Fin 128, dt (ix2 r y) * w3 (ix2 d y) := by
  pointwise [k0_pay24, k0_pay19, k0_pay21, k0_pay23]

/-! A piece of the weight's gradient: what was there and the tokens' products. -/

theorem pay10_apply (a b : Vec Ideal S1x1024 .f32) (x : Vec Ideal S256x1024 .f32) (q : Vec Ideal S256x384 .bf16) (z : Vec Ideal S1024x384 .f32) (d : Fin 1024) (y : Fin 384) :
    k0_pay10 a b x q z (ix2 d y) = z (ix2 d y) + ∑ r : Fin 256, k0_pay7 a b x (ix2 d r) * q (ix2 r y) := by
  pointwise [k0_pay10, k0_pay8]

theorem pay13_apply (u : FVec Ideal S1024x256 .bf16) (p : Vec Ideal S256x256 .bf16) (z : Vec Ideal S1024x256 .f32) (d : Fin 1024) (y : Fin 256) :
    k0_pay13 u (k0_pay11 p) z (ix2 d y) = z (ix2 d y) + ∑ r : Fin 256, u (ix2 d r) * p (ix2 r y) := by
  pointwise [k0_pay13, k0_pay11]

theorem pay15_apply (u : FVec Ideal S1024x256 .bf16) (p : Vec Ideal S256x1024 .bf16) (z : Vec Ideal S1024x1024 .f32) (d : Fin 1024) (y : Fin 1024) :
    k0_pay15 u p z (ix2 d y) = z (ix2 d y) + ∑ r : Fin 256, u (ix2 d r) * p (ix2 r y) := by
  pointwise [k0_pay15, k0_pay14]

theorem pay18_apply (u : FVec Ideal S1024x256 .bf16) (p : Vec Ideal S256x1536 .bf16) (z : Vec Ideal S1024x1536 .f32) (d : Fin 1024) (y : Fin 1536) :
    k0_pay18 u p z (ix2 d y) = z (ix2 d y) + ∑ r : Fin 256, u (ix2 d r) * p (ix2 r y) := by
  pointwise [k0_pay18, k0_pay16]

theorem pay20_apply (u : FVec Ideal S1024x256 .bf16) (p : Vec Ideal S256x1024 .bf16) (z : Vec Ideal S1024x1024 .f32) (d : Fin 1024) (y : Fin 1024) :
    k0_pay20 u p z (ix2 d y) = z (ix2 d y) + ∑ r : Fin 256, u (ix2 d r) * p (ix2 r y) := by
  pointwise [k0_pay20, k0_pay19]

theorem pay22_apply (u : FVec Ideal S1024x256 .bf16) (p : Vec Ideal S256x128 .bf16) (z : Vec Ideal S1024x128 .f32) (d : Fin 1024) (y : Fin 128) :
    k0_pay22 u p z (ix2 d y) = z (ix2 d y) + ∑ r : Fin 256, u (ix2 d r) * p (ix2 r y) := by
  pointwise [k0_pay22, k0_pay21]

theorem pay25_apply (u : FVec Ideal S1024x256 .bf16) (p : Vec Ideal S256x128 .bf16) (z : Vec Ideal S1024x128 .f32) (d : Fin 1024) (y : Fin 128) :
    k0_pay25 u p z (ix2 d y) = z (ix2 d y) + ∑ r : Fin 256, u (ix2 d r) * p (ix2 r y) := by
  pointwise [k0_pay25, k0_pay23]

theorem pay4_apply (i : S1024x4480.Idx) : k0_pay4 (F := Ideal) i = 0 := by
  unfold k0_pay4; exact Ideal.ofBits_zero .f32

theorem pay5_apply (i : S8x1024.Idx) : k0_pay5 (F := Ideal) i = 0 := by
  unfold k0_pay5; exact Ideal.ofBits_zero .f32

/-! The modulation's two gradients and the layer input's. -/

theorem pay1_apply (u : FVec Ideal S256x1024 .f32) (z : Vec Ideal S1x1024 .f32) (d : Fin 1024) :
    k0_pay1 u z (ix2 0 d) = z (ix2 0 d) + ∑ r : Fin 256, u (ix2 r d) := by
  pointwise [k0_pay1]

theorem pay2_apply (x u : FVec Ideal S256x1024 .f32) (z : Vec Ideal S1x1024 .f32) (d : Fin 1024) :
    k0_pay2 x u z (ix2 0 d) = z (ix2 0 d) + ∑ r : Fin 256, u (ix2 r d) * x (ix2 r d) := by
  pointwise [k0_pay2]

theorem pay3_apply (b : Vec Ideal S1x1024 .f32) (u g : FVec Ideal S256x1024 .f32) (r : Fin 256) (d : Fin 1024) :
    k0_pay3 (k0_pay6 b) u g (ix2 r d) = g (ix2 r d) + u (ix2 r d) * (1 + b (ix2 0 d)) := by
  pointwise [k0_pay3, k0_pay6]

end Cert.Inp
end
-- ==== Proof.InpPoint.lean ====
/- The projection's backward kernel: what one grid point leaves in its three output blocks, read at an index. -/
module

public import proofs.«01_k».proof.Proof.InpPay
public import proofs.«01_k».proof.Proof.Gen.Kernel3Ideal.Value
public import Idealize.ShloMosaic.Lib.Tactic
public import Idealize.ShloMosaic.Lib.Pipeline.ReadBack
public import Idealize.ShloMosaic.Lib.WritesUnit
public import Idealize.ShloMosaic.Lib.VecWindow

@[expose] public section

set_option maxRecDepth 65536

noncomputable section

namespace Cert.Inp

open Cert.Kernel3Ideal Cert.Kernel3Ideal.Gen
open Idealize.ShloMosaic Idealize.ShloMosaic.TcCoe Idealize.SL.Sem

/-- The columns of a point's blocks: `P r y` the projection's gradient at token `r` and padded column `y`, `W d y` the padded weight. -/
structure In.Cols (I : In) (P : Fin 256 → ℕ → EReal) (W : Fin 1024 → ℕ → EReal) : Prop where
  w : ∀ (d : Fin 1024) (y : Fin 4480), I.w (ix2 d y) = W d y
  q : ∀ (r : Fin 256) (y : Fin 384), I.q (ix2 r y) = P r (0 + y)
  kv : ∀ (r : Fin 256) (y : Fin 256), I.kv (ix2 r y) = P r (384 + y)
  za : ∀ (r : Fin 256) (y : Fin 1024), I.za (ix2 r y) = P r (640 + y)
  xbc : ∀ (r : Fin 256) (y : Fin 1536), I.xbc (ix2 r y) = P r (1664 + y)
  zs : ∀ (r : Fin 256) (y : Fin 1024), I.zs (ix2 r y) = P r (3200 + y)
  kr : ∀ (r : Fin 256) (y : Fin 128), I.kr (ix2 r y) = P r (4224 + y)
  dt : ∀ (r : Fin 256) (y : Fin 128), I.dt (ix2 r y) = P r (4352 + y)

/-- A sum over the padded columns, piece by piece. -/
theorem sum_cols (f : ℕ → EReal) : ∑ y ∈ Finset.range 4480, f y = (∑ y : Fin 384, f (0 + y)) + (∑ y : Fin 256, f (384 + y))
    + (∑ y : Fin 1024, f (640 + y)) + (∑ y : Fin 1536, f (1664 + y)) + (∑ y : Fin 1024, f (3200 + y)) + (∑ y : Fin 128, f (4224 + y))
    + ∑ y : Fin 128, f (4352 + y) := by
  rw [show 4480 = 384 + 256 + 1024 + 1536 + 1024 + 128 + 128 from rfl]
  simp only [Finset.sum_range_add]
  simp only [Finset.sum_range, Nat.zero_add]

variable {I : In} {P : Fin 256 → ℕ → EReal} {W : Fin 1024 → ℕ → EReal}

theorem In.Cols.du (h : I.Cols P W) (r : Fin 256) (d : Fin 1024) : I.du (ix2 r d) = ∑ y ∈ Finset.range 4480, P r y * W d y := by
  rw [sum_cols, In.du, pay24_apply, pay17_apply, pay9_apply]
  simp only [h.q, h.kv, h.za, h.xbc, h.zs, h.kr, h.dt]
  refine congrArg₂ (· + ·) (congrArg₂ (· + ·) (congrArg₂ (· + ·) (congrArg₂ (· + ·) (congrArg₂ (· + ·) (congrArg₂ (· + ·) ?_ ?_) ?_) ?_) ?_) ?_) ?_
  all_goals
    refine Finset.sum_congr rfl fun y _ => congrArg (_ * ·) ?_
    exact (ld_cols I.w _ _ d y (by have := y.isLt; omega)).trans (h.w _ _)

/-- A piece's place in an array of 4480 columns. -/
theorem emb_cols {n : ℕ} (o : ℕ) (inb : ∀ a, (![0, o] : Fin 2 → ℕ) a + (⟨2, ![1024, n]⟩ : Shape).size a ≤ S1024x4480.size a)
    (d : Fin 1024) (y : Fin n) (h : o + y < 4480) :
    (Rect.unit (s := S1024x4480) ![0, o] (⟨2, ![1024, n]⟩ : Shape).size inb).emb (ix2 d y) = ix2 d ⟨o + y, h⟩ := by
  refine funext fun a => Fin.ext ?_
  fin_cases a
  · show 0 + 1 * d.val = d.val; omega
  · show o + 1 * y.val = o + y.val; omega

/-- The weight's gradient after a point that finds `z`. -/
def gradW (I : In) (P : Fin 256 → ℕ → EReal) (z : Vec Ideal S1024x4480 .f32) : Vec Ideal S1024x4480 .f32 :=
  fun i => z i + ∑ r : Fin 256, I.u (ix2 (i 0 : Fin 1024) r) * P r (i 1).val

/-- A piece's stored value is the gradient's there, once it reads as what was there and the tokens' products. -/
theorem piece_eq {n : ℕ} (o : ℕ) (inb : ∀ a, (![0, o] : Fin 2 → ℕ) a + (⟨2, ![1024, n]⟩ : Shape).size a ≤ S1024x4480.size a) (ho : o + n ≤ 4480)
    (z : Vec Ideal S1024x4480 .f32) (p : Vec Ideal ⟨2, ![256, n]⟩ .bf16) (hp : ∀ (r : Fin 256) (y : Fin n), p (ix2 r y) = P r (o + y))
    (v : Vec Ideal ⟨2, ![1024, n]⟩ .f32)
    (hv : ∀ (d : Fin 1024) (y : Fin n), v (ix2 d y) = View.ld z (Rect.unit (s := S1024x4480) ![0, o] (⟨2, ![1024, n]⟩ : Shape).size inb) (ix2 d y)
      + ∑ r : Fin 256, I.u (ix2 d r) * p (ix2 r y))
    (x : (⟨2, ![1024, n]⟩ : Shape).Idx) :
    v x = gradW I P z ((Rect.unit (s := S1024x4480) ![0, o] (⟨2, ![1024, n]⟩ : Shape).size inb).emb x) := by
  obtain ⟨d, y, rfl⟩ : ∃ (d : Fin 1024) (y : Fin n), x = ix2 d y := ⟨x 0, x 1, by funext a; fin_cases a <;> rfl⟩
  have hb : o + y.val < 4480 := lt_of_lt_of_le (Nat.add_lt_add_left y.isLt o) ho
  rw [hv, emb_cols o inb d y hb, ld_cols z o inb d y hb]
  simp only [hp]
  rfl

/-- The seven pieces a point stores, last first, over what it finds. -/
def pieces (I : In) (z : Vec Ideal S1024x4480 .f32) : List (View.Piece (Elt Ideal) S1024x4480 .f32) :=
  [⟨Rect.unit ![0, 4352] S1024x128.size inb_S1024x4480_S1024x128_0_4352, k0_pay25 I.u I.dt (View.ld z (Rect.unit ![0, 4352] S1024x128.size inb_S1024x4480_S1024x128_0_4352))⟩,
   ⟨Rect.unit ![0, 4224] S1024x128.size inb_S1024x4480_S1024x128_0_4224, k0_pay22 I.u I.kr (View.ld z (Rect.unit ![0, 4224] S1024x128.size inb_S1024x4480_S1024x128_0_4224))⟩,
   ⟨Rect.unit ![0, 3200] S1024x1024.size inb_S1024x4480_S1024x1024_0_3200, k0_pay20 I.u I.zs (View.ld z (Rect.unit ![0, 3200] S1024x1024.size inb_S1024x4480_S1024x1024_0_3200))⟩,
   ⟨Rect.unit ![0, 1664] S1024x1536.size inb_S1024x4480_S1024x1536_0_1664, k0_pay18 I.u I.xbc (View.ld z (Rect.unit ![0, 1664] S1024x1536.size inb_S1024x4480_S1024x1536_0_1664))⟩,
   ⟨Rect.unit ![0, 640] S1024x1024.size inb_S1024x4480_S1024x1024_0_640, k0_pay15 I.u I.za (View.ld z (Rect.unit ![0, 640] S1024x1024.size inb_S1024x4480_S1024x1024_0_640))⟩,
   ⟨Rect.unit ![0, 384] S1024x256.size inb_S1024x4480_S1024x256_0_384, k0_pay13 I.u (k0_pay11 I.kv) (View.ld z (Rect.unit ![0, 384] S1024x256.size inb_S1024x4480_S1024x256_0_384))⟩,
   ⟨Rect.unit ![0, 0] S1024x384.size inb_S1024x4480_S1024x384_0_0, k0_pay10 I.sh I.sc I.x I.q (View.ld z (Rect.unit ![0, 0] S1024x384.size inb_S1024x4480_S1024x384_0_0))⟩]

theorem In.Cols.pieces (h : I.Cols P W) (z : Vec Ideal S1024x4480 .f32) : View.PiecesOf (gradW I P z) (pieces I z) :=
  ⟨piece_eq 4352 inb_S1024x4480_S1024x128_0_4352 (by decide) z I.dt h.dt _ (pay25_apply _ _ _),
   piece_eq 4224 inb_S1024x4480_S1024x128_0_4224 (by decide) z I.kr h.kr _ (pay22_apply _ _ _),
   piece_eq 3200 inb_S1024x4480_S1024x1024_0_3200 (by decide) z I.zs h.zs _ (pay20_apply _ _ _),
   piece_eq 1664 inb_S1024x4480_S1024x1536_0_1664 (by decide) z I.xbc h.xbc _ (pay18_apply _ _ _),
   piece_eq 640 inb_S1024x4480_S1024x1024_0_640 (by decide) z I.za h.za _ (pay15_apply _ _ _),
   piece_eq 384 inb_S1024x4480_S1024x256_0_384 (by decide) z I.kv h.kv _ (pay13_apply _ _ _),
   piece_eq 0 inb_S1024x4480_S1024x384_0_0 (by decide) z I.q h.q _ (pay10_apply _ _ _ _ _), trivial⟩

theorem mem_cols {n : ℕ} (o : ℕ) (inb : ∀ a, (![0, o] : Fin 2 → ℕ) a + (⟨2, ![1024, n]⟩ : Shape).size a ≤ S1024x4480.size a)
    (d : Fin 1024) (y : Fin 4480) (h : o ≤ y) (h' : y < o + n) : ix2 d y ∈ (Rect.unit (s := S1024x4480) ![0, o] (⟨2, ![1024, n]⟩ : Shape).size inb).set := by
  rw [Rect.mem_set_unit]
  intro a
  fin_cases a
  · exact ⟨Nat.zero_le _, by show d.val < 0 + 1024; omega⟩
  · exact ⟨h, h'⟩

theorem pieces_cover (z : Vec Ideal S1024x4480 .f32) (d : Fin 1024) (y : Fin 4480) : ∃ p ∈ pieces I z, ix2 d y ∈ p.1.set := by
  by_cases h1 : y.val < 384
  · exact ⟨_, .tail _ (.tail _ (.tail _ (.tail _ (.tail _ (.tail _ (.head _)))))), mem_cols 0 inb_S1024x4480_S1024x384_0_0 d y (by omega) (by omega)⟩
  by_cases h2 : y.val < 640
  · exact ⟨_, .tail _ (.tail _ (.tail _ (.tail _ (.tail _ (.head _))))), mem_cols 384 inb_S1024x4480_S1024x256_0_384 d y (by omega) (by omega)⟩
  by_cases h3 : y.val < 1664
  · exact ⟨_, .tail _ (.tail _ (.tail _ (.tail _ (.head _)))), mem_cols 640 inb_S1024x4480_S1024x1024_0_640 d y (by omega) (by omega)⟩
  by_cases h4 : y.val < 3200
  · exact ⟨_, .tail _ (.tail _ (.tail _ (.head _))), mem_cols 1664 inb_S1024x4480_S1024x1536_0_1664 d y (by omega) (by omega)⟩
  by_cases h5 : y.val < 4224
  · exact ⟨_, .tail _ (.tail _ (.head _)), mem_cols 3200 inb_S1024x4480_S1024x1024_0_3200 d y (by omega) (by omega)⟩
  by_cases h6 : y.val < 4352
  · exact ⟨_, .tail _ (.head _), mem_cols 4224 inb_S1024x4480_S1024x128_0_4224 d y (by omega) (by omega)⟩
  · exact ⟨_, .head _, mem_cols 4352 inb_S1024x4480_S1024x128_0_4352 d y (by omega) (by omega)⟩

/-- What the seven pieces leave, over anything stored before. -/
theorem In.Cols.canon_pieces (h : I.Cols P W) (z : Vec Ideal S1024x4480 .f32) (L : List (View.Piece (Elt Ideal) S1024x4480 .f32)) (d : Fin 1024) (y : Fin 4480) :
    View.canon (Cert.Inp.pieces I z ++ L) (ix2 d y) = z (ix2 d y) + ∑ r : Fin 256, I.u (ix2 d r) * P r y :=
  View.canon_append_of_piecesOf (gradW I P z) L _ (h.pieces z) _ (pieces_cover z d y)

/-- The two rows a point stores of the modulation's gradient, last first, over what it finds. -/
def rows (I : In) (z : Vec Ideal S8x1024 .f32) : List (View.Piece (Elt Ideal) S8x1024 .f32) :=
  [⟨Rect.unit ![1, 0] S1x1024.size inb_S8x1024_S1x1024_1_0, k0_pay2 I.x I.du (View.ld z (Rect.unit ![1, 0] S1x1024.size inb_S8x1024_S1x1024_1_0))⟩,
   ⟨Rect.unit ![0, 0] S1x1024.size inb_S8x1024_S1x1024_0_0, k0_pay1 I.du (View.ld z (Rect.unit ![0, 0] S1x1024.size inb_S8x1024_S1x1024_0_0))⟩]

/-- What a point adds to each row: the modulated input's gradient summed, that times the input, and nothing. -/
def rowPart (I : In) (k d : ℕ) : EReal :=
  if h : d < 1024 then
    if k = 0 then ∑ r : Fin 256, I.du (ix2 r ⟨d, h⟩) else if k = 1 then ∑ r : Fin 256, I.du (ix2 r ⟨d, h⟩) * I.x (ix2 r ⟨d, h⟩) else 0
  else 0

theorem ld_row (z : Vec Ideal S8x1024 .f32) (k : Fin 8) (inb : ∀ a, (![k.val, 0] : Fin 2 → ℕ) a + S1x1024.size a ≤ S8x1024.size a) (d : Fin 1024) :
    View.ld z (Rect.unit (s := S8x1024) ![k.val, 0] S1x1024.size inb) (ix2 0 d) = z (ix2 k d) := by
  refine congrArg z (funext fun a => Fin.ext ?_)
  fin_cases a
  · show k.val + 1 * 0 = k.val; omega
  · show 0 + 1 * d.val = d.val; omega

theorem rows_read (I : In) {κ : Kind} {sp : Space} (v : View sig κ sp S8x1024 .f32) (f : v.ty.Contents (Elt Ideal)) (z : Vec Ideal S8x1024 .f32)
    (hf : v.read (Elt Ideal) f = z) (k : Fin 8) (d : Fin 1024) :
    v.read (Elt Ideal) (v.writes (Elt Ideal) f (rows I z)) (ix2 k d) = z (ix2 k d) + rowPart I k d := by
  rw [rowPart, dif_pos d.isLt, rows]
  by_cases h1 : k = 1
  · subst h1
    refine (View.read_writes_cons_unit_of_mem v f inb_S8x1024_S1x1024_1_0 _ _ _ (ix2 0 d) rfl ?_).trans ?_
    · intro a; fin_cases a
      · rfl
      · show d.val = 0 + d.val; omega
    · exact (pay2_apply ..).trans (congrArg (· + _) (ld_row z 1 _ d))
  have h1' : k.val ≠ 1 := fun h => h1 (Fin.ext h)
  rw [View.read_writes_cons_unit_of_not_mem v f _ _ _ _ rfl (0 : Fin 2) (by show k.val < 1 ∨ 1 + 1 ≤ k.val; omega)]
  by_cases h0 : k = 0
  · subst h0
    refine (View.read_writes_cons_unit_of_mem v f inb_S8x1024_S1x1024_0_0 _ _ _ (ix2 0 d) rfl ?_).trans ?_
    · intro a; fin_cases a
      · rfl
      · show d.val = 0 + d.val; omega
    · exact (pay1_apply ..).trans (congrArg (· + _) (ld_row z 0 _ d))
  have h0' : k.val ≠ 0 := fun h => h0 (Fin.ext h)
  rw [View.read_writes_cons_unit_of_not_mem v f _ _ _ _ rfl (0 : Fin 2) (by show k.val < 0 ∨ 0 + 1 ≤ k.val; omega)]
  rw [if_neg h0', if_neg h1', add_zero, View.writes_nil, hf]

/-! ## The two cases of a grid point -/

theorem hz : (![0, 0] : Fin 2 → Nat) = fun _ => 0 := funext fun a => by fin_cases a <;> rfl

variable (m : (ℓ : Loc nD τ sig) → Buf (Elt Ideal) ℓ) (c : Dev nD)

/-- The blocks grid point `t` reads. -/
def ins (t : Fin cfg0.N) : In := ⟨iblk m c 0 t, iblk m c 1 t, iblk m c 2 t, iblk m c 3 t, iblk m c 4 t, iblk m c 5 t, iblk m c 6 t, iblk m c 7 t,
  iblk m c 8 t, iblk m c 9 t, iblk m c 10 t⟩

theorem outA_gx (t : Fin cfg0.N) (h0 : t.val % 64 = 0) : (outsAt0 m c t.val t.isLt).1
    = k0_pay3 (k0_pay6 (ins m c t).sc) (ins m c t).du (ins m c t).g := by
  rw [outsAt0_A m c t h0]
  dsimp only
  unfold out0_A_11
  rw [View.read_writes_junk_eq_canon]
  unfold kernelRun0_A
  dsimp only
  sl_unfold_words
  simp only [View.readAt_eq_ld, Memref.IsWhole.read_unread, View.ld_unit_zero (S := S256x1024) hz, View.ld_unit_zero (S := S256x384) hz,
    View.ld_unit_zero (S := S256x256) hz, View.ld_unit_zero (S := S256x1536) hz, View.ld_unit_zero (S := S256x128) hz]
  exact (View.canon_unit_zero (S := S256x1024) hz _ _).trans (by sl_kernel_rfl)

theorem outB_gx (t : Fin cfg0.N) (h0 : ¬t.val % 64 = 0) : (outsAt0 m c t.val t.isLt).1
    = k0_pay3 (k0_pay6 (ins m c t).sc) (ins m c t).du (ins m c t).g := by
  rw [outsAt0_B m c t h0]
  dsimp only
  unfold out0_B_11
  rw [View.read_writes_junk_eq_canon]
  unfold kernelRun0_B
  dsimp only
  sl_unfold_words
  simp only [View.readAt_eq_ld, Memref.IsWhole.read_unread, View.ld_unit_zero (S := S256x1024) hz, View.ld_unit_zero (S := S256x384) hz,
    View.ld_unit_zero (S := S256x256) hz, View.ld_unit_zero (S := S256x1536) hz, View.ld_unit_zero (S := S256x128) hz]
  exact (View.canon_unit_zero (S := S256x1024) hz _ _).trans (by sl_kernel_rfl)

theorem outB_dw (t : Fin cfg0.N) (h0 : ¬t.val % 64 = 0) : (outsAt0 m c t.val t.isLt).2.1
    = View.canon (pieces (ins m c t) (outsAt0 m c (t.val - 1) (Nat.lt_of_le_of_lt (Nat.sub_le _ _) t.isLt)).2.1) := by
  rw [outsAt0_B m c t h0]
  dsimp only
  unfold out0_B_12
  rw [View.read_writes_junk_eq_canon]
  unfold kernelRun0_B
  dsimp only
  sl_unfold_words
  generalize (outsAt0 m c (t.val - 1) (Nat.lt_of_le_of_lt (Nat.sub_le _ _) t.isLt)) = ac
  simp only [View.readAt_eq_ld, Memref.IsWhole.read_unread, View.ld_unit_zero (S := S256x1024) hz, View.ld_unit_zero (S := S256x384) hz,
    View.ld_unit_zero (S := S256x256) hz, View.ld_unit_zero (S := S256x1536) hz, View.ld_unit_zero (S := S256x128) hz]
  sl_kernel_rfl

theorem outA_dw (t : Fin cfg0.N) (h0 : t.val % 64 = 0) : (outsAt0 m c t.val t.isLt).2.1
    = View.canon (pieces (ins m c t) (k0_pay4 (F := Ideal)) ++ [⟨Rect.unit ![0, 0] S1024x4480.size inb_S1024x4480_S1024x4480_0_0, k0_pay4 (F := Ideal)⟩]) := by
  rw [outsAt0_A m c t h0]
  dsimp only
  unfold out0_A_12
  rw [View.read_writes_junk_eq_canon]
  unfold kernelRun0_A
  dsimp only
  sl_unfold_words
  simp (disch := decide) only [View.readAt_eq_ld, Memref.IsWhole.read_unread, View.ld_unit_zero (S := S256x1024) hz, View.ld_unit_zero (S := S256x384) hz,
    View.ld_unit_zero (S := S256x256) hz, View.ld_unit_zero (S := S256x1536) hz, View.ld_unit_zero (S := S256x128) hz, ↓View.readCov_skip, View.readCov_fill]
  sl_kernel_rfl

theorem outB_dv (t : Fin cfg0.N) (h0 : ¬t.val % 64 = 0) : (outsAt0 m c t.val t.isLt).2.2
    = (ms0_13 t).view.read (Elt Ideal) ((ms0_13 t).view.writes (Elt Ideal)
      ((hs0_13 t).unread (outsAt0 m c (t.val - 1) (Nat.lt_of_le_of_lt (Nat.sub_le _ _) t.isLt)).2.2)
      (rows (ins m c t) (outsAt0 m c (t.val - 1) (Nat.lt_of_le_of_lt (Nat.sub_le _ _) t.isLt)).2.2)) := by
  rw [outsAt0_B m c t h0]
  dsimp only
  unfold out0_B_13
  unfold kernelRun0_B
  dsimp only
  sl_unfold_words
  generalize (outsAt0 m c (t.val - 1) (Nat.lt_of_le_of_lt (Nat.sub_le _ _) t.isLt)) = ac
  simp only [View.readAt_eq_ld, Memref.IsWhole.read_unread, View.ld_unit_zero (S := S256x1024) hz, View.ld_unit_zero (S := S256x384) hz,
    View.ld_unit_zero (S := S256x256) hz, View.ld_unit_zero (S := S256x1536) hz, View.ld_unit_zero (S := S256x128) hz]
  sl_kernel_rfl

theorem outA_dv (t : Fin cfg0.N) (h0 : t.val % 64 = 0) : (outsAt0 m c t.val t.isLt).2.2
    = VO0_13.read (Elt Ideal) (VO0_13.writes (Elt Ideal)
      (VO0_13.writes (Elt Ideal) VO0_13.junk [⟨Rect.unit ![0, 0] S8x1024.size inb_S8x1024_S8x1024_0_0, k0_pay5 (F := Ideal)⟩])
      (rows (ins m c t) (k0_pay5 (F := Ideal)))) := by
  rw [outsAt0_A m c t h0]
  dsimp only
  unfold out0_A_13
  unfold kernelRun0_A
  dsimp only
  sl_unfold_words
  simp (disch := decide) only [View.readAt_eq_ld, Memref.IsWhole.read_unread, View.ld_unit_zero (S := S256x1024) hz, View.ld_unit_zero (S := S256x384) hz,
    View.ld_unit_zero (S := S256x256) hz, View.ld_unit_zero (S := S256x1536) hz, View.ld_unit_zero (S := S256x128) hz, ↓View.readCov_skip, View.readCov_fill]
  sl_kernel_rfl

/-! ## The two cases together: over what a point finds, nothing at the first -/

/-- What a point finds of the weight's and of the modulation's gradient. -/
def foundW (t : Fin cfg0.N) : Vec Ideal S1024x4480 .f32 :=
  if t.val % 64 = 0 then fun _ => (0 : EReal) else (outsAt0 m c (t.val - 1) (Nat.lt_of_le_of_lt (Nat.sub_le _ _) t.isLt)).2.1
def foundV (t : Fin cfg0.N) : Vec Ideal S8x1024 .f32 :=
  if t.val % 64 = 0 then fun _ => (0 : EReal) else (outsAt0 m c (t.val - 1) (Nat.lt_of_le_of_lt (Nat.sub_le _ _) t.isLt)).2.2

variable {m c} {t : Fin cfg0.N} (h : (ins m c t).Cols P W)
include h

theorem out_gx (r : Fin 256) (d : Fin 1024) : (outsAt0 m c t.val t.isLt).1 (ix2 r d)
    = (ins m c t).g (ix2 r d) + (∑ y ∈ Finset.range 4480, P r y * W d y) * (1 + (ins m c t).m (ix2 0 ⟨1024 + d, by omega⟩)) := by
  have e : (outsAt0 m c t.val t.isLt).1 = k0_pay3 (k0_pay6 (ins m c t).sc) (ins m c t).du (ins m c t).g := by
    by_cases h0 : t.val % 64 = 0
    · exact outA_gx m c t h0
    · exact outB_gx m c t h0
  rw [e, pay3_apply, h.du, In.sc_apply]

theorem out_dw (d : Fin 1024) (y : Fin 4480) : (outsAt0 m c t.val t.isLt).2.1 (ix2 d y)
    = foundW m c t (ix2 d y) + ∑ r : Fin 256, (ins m c t).u (ix2 d r) * P r y := by
  by_cases h0 : t.val % 64 = 0
  · rw [outA_dw m c t h0, h.canon_pieces, foundW, if_pos h0, pay4_apply]
  · rw [outB_dw m c t h0, ← List.append_nil (pieces _ _), h.canon_pieces, foundW, if_neg h0]

omit h in
theorem out_dv (k : Fin 8) (d : Fin 1024) : (outsAt0 m c t.val t.isLt).2.2 (ix2 k d) = foundV m c t (ix2 k d) + rowPart (ins m c t) k d := by
  by_cases h0 : t.val % 64 = 0
  · rw [outA_dv m c t h0, rows_read _ _ _ _ (View.read_writes_full VO0_13 _ inb_S8x1024_S8x1024_0_0 _ []), foundV, if_pos h0, pay5_apply]
  · rw [outB_dv m c t h0, rows_read _ _ _ _ ((hs0_13 t).read_unread _), foundV, if_neg h0]

end Cert.Inp
end
-- ==== Proof.InpHost.lean ====
/- The projection's backward: its arguments, the padded columns they are laid out in, and the arrays the kernel is handed. -/
module

public import proofs.«01_k».proof.Proof.InpPoint
public import Idealize.ShloMosaic.Lib.Pipeline.ValueKit

@[expose] public section

set_option maxRecDepth 65536

noncomputable section

namespace Cert.Inp

open Cert.Kernel3Ideal Cert.Kernel3Ideal.Gen
open Idealize.ShloMosaic Idealize.ShloMosaic.TcCoe Idealize.SL.Sem Idealize.ShloMosaic.StableHlo

/-! ## The padded columns -/

/-- A matrix at natural numbers, zero outside. -/
def at2 {a b : ℕ} (v : (⟨2, ![a, b]⟩ : Shape).Idx → EReal) (i j : ℕ) : EReal := if h : i < a ∧ j < b then v (ix2 ⟨i, h.1⟩ ⟨j, h.2⟩) else 0

theorem at2_lt {a b : ℕ} (v : (⟨2, ![a, b]⟩ : Shape).Idx → EReal) {i j : ℕ} (hi : i < a) (hj : j < b) : at2 v i j = v (ix2 ⟨i, hi⟩ ⟨j, hj⟩) :=
  dif_pos ⟨hi, hj⟩

theorem at2_out {a b : ℕ} (v : (⟨2, ![a, b]⟩ : Shape).Idx → EReal) {i j : ℕ} (h : ¬(i < a ∧ j < b)) : at2 v i j = 0 := dif_neg h

/-- The projection's column that stands in a padded column, and one past the last in the padding. -/
def src (y : ℕ) : ℕ :=
  if y < 640 then y else if y < 3200 then y + 64 else if y < 4224 then y + 80 else if y < 4288 then y - 3584 else if y < 4352 then 4304
  else if y < 4368 then y - 1088 else 4304

/-- A sum over the padded columns is one over the projection's. -/
theorem sum_src (f : ℕ → EReal) (h : f 4304 = 0) : ∑ y ∈ Finset.range 4480, f (src y) = ∑ k ∈ Finset.range 4304, f k := by
  have seg : ∀ {a n : ℕ} (b : ℕ), (∀ y < n, src (a + y) = b + y) → ∑ y ∈ Finset.range n, f (src (a + y)) = ∑ y ∈ Finset.range n, f (b + y) :=
    fun b hb => Finset.sum_congr rfl fun y hy => by rw [hb y (Finset.mem_range.mp hy)]
  have out : ∀ {a n : ℕ}, (∀ y < n, src (a + y) = 4304) → ∑ y ∈ Finset.range n, f (src (a + y)) = 0 :=
    fun hb => Finset.sum_eq_zero fun y hy => by rw [hb y (Finset.mem_range.mp hy), h]
  rw [show 4480 = 640 + 2560 + 1024 + 64 + 64 + 16 + 112 from rfl, show 4304 = 640 + 64 + 2560 + 16 + 1024 from rfl]
  simp only [Finset.sum_range_add]
  have h1 : ∑ y ∈ Finset.range 640, f (src y) = ∑ y ∈ Finset.range 640, f y :=
    Finset.sum_congr rfl fun y hy => by rw [src, if_pos (Finset.mem_range.mp hy)]
  rw [h1, seg (640 + 64) (by intro y hy; unfold src; split_ifs <;> omega), seg (640 + 64 + 2560 + 16) (by intro y hy; unfold src; split_ifs <;> omega),
    seg 640 (by intro y hy; unfold src; split_ifs <;> omega), out (by intro y hy; unfold src; split_ifs <;> omega),
    seg (640 + 64 + 2560) (by intro y hy; unfold src; split_ifs <;> omega), out (by intro y hy; unfold src; split_ifs <;> omega)]
  abel

/-! ## The arguments -/

/-- The layer's input, the gradient that joins its own, the modulation, the projection's weight and its gradient. -/
@[ext] structure Args where
  x : Vec Ideal S16384x1024 .f32
  g : Vec Ideal S16384x1024 .f32
  m : Vec Ideal S1x3072 .f32
  w : Vec Ideal S1024x4304 .f32
  p : Vec Ideal S16384x4304 .f32

namespace Args
variable (A : Args)

/-- One plus the modulation's scale. -/
def scale (d : ℕ) : EReal := 1 + at2 A.m 0 (1024 + d)

/-- The modulated input. -/
def u (s d : ℕ) : EReal := at2 A.x s d * A.scale d + at2 A.m 0 d

/-- The gradient of the modulated input. -/
def du (s d : ℕ) : EReal := ∑ k ∈ Finset.range 4304, at2 A.p s k * at2 A.w d k

/-- The input's gradient. -/
def gx (s d : ℕ) : EReal := at2 A.g s d + A.du s d * A.scale d

/-- The first `n` tokens' part of the weight's gradient, in padded columns, and of the modulation's. -/
def dw (n d y : ℕ) : EReal := ∑ s ∈ Finset.range n, A.u s d * at2 A.p s (src y)
def dv (n k d : ℕ) : EReal :=
  if k = 0 then ∑ s ∈ Finset.range n, A.du s d else if k = 1 then ∑ s ∈ Finset.range n, A.du s d * at2 A.x s d else 0

end Args

/-! ## What the kernel is handed -/

/-- The padded weight. -/
def hW (w : FVec Ideal S1024x4304 .f32) : FVec Ideal S1024x4480 .bf16 :=
  concatenate S1024x4480 1
    [⟨S1024x384, extractStridedSlice S1024x384 ![0, 0] (truncf .bf16 w bitsLt_bf16_f32) slices_S1024x4304_S1024x384_0_0⟩,
     ⟨S1024x256, extractStridedSlice S1024x256 ![0, 384] (truncf .bf16 w bitsLt_bf16_f32) slices_S1024x4304_S1024x256_0_384⟩,
     ⟨S1024x1024, extractStridedSlice S1024x1024 ![0, 704] (truncf .bf16 w bitsLt_bf16_f32) slices_S1024x4304_S1024x1024_0_704⟩,
     ⟨S1024x1536, extractStridedSlice S1024x1536 ![0, 1728] (truncf .bf16 w bitsLt_bf16_f32) slices_S1024x4304_S1024x1536_0_1728⟩,
     ⟨S1024x1024, extractStridedSlice S1024x1024 ![0, 3280] (truncf .bf16 w bitsLt_bf16_f32) slices_S1024x4304_S1024x1024_0_3280⟩,
     ⟨S1024x64, extractStridedSlice S1024x64 ![0, 640] (truncf .bf16 w bitsLt_bf16_f32) slices_S1024x4304_S1024x64_0_640⟩,
     ⟨S1024x64, broadcastInDim S1024x64 ![] bcast_S_S1024x64 (constant S_ .bf16 0x0000#16)⟩,
     ⟨S1024x16, extractStridedSlice S1024x16 ![0, 3264] (truncf .bf16 w bitsLt_bf16_f32) slices_S1024x4304_S1024x16_0_3264⟩,
     ⟨S1024x112, broadcastInDim S1024x112 ![] bcast_S_S1024x112 (constant S_ .bf16 0x0000#16)⟩]
    concatenates_S1024x384_S1024x256_S1024x1024_S1024x1536_S1024x1024_S1024x64_S1024x64_S1024x16_S1024x112_S1024x4480_d1

/-- `n` columns of the gradient from column `o` on. -/
def hP (n o : ℕ) (hs : S16384x4304.Slices ![0, o] ⟨2, ![16384, n]⟩) (p : FVec Ideal S16384x4304 .f32) : FVec Ideal ⟨2, ![16384, n]⟩ .bf16 :=
  extractStridedSlice ⟨2, ![16384, n]⟩ ![0, o] (truncf .bf16 p bitsLt_bf16_f32) hs

/-- The gradient's key rotation and step columns, filled up with zeros. -/
def hKr (p : FVec Ideal S16384x4304 .f32) : FVec Ideal S16384x128 .bf16 :=
  pad S16384x128 ![0, 0] ![0, 64] ![0, 0] (extractStridedSlice S16384x64 ![0, 640] (truncf .bf16 p bitsLt_bf16_f32) slices_S16384x4304_S16384x64_0_640)
    (sitofp .bf16 (constantI S_ 32 0#32)) pads_S16384x64_S16384x128_000_0640 h_S_
def hDt (p : FVec Ideal S16384x4304 .f32) : FVec Ideal S16384x128 .bf16 :=
  pad S16384x128 ![0, 0] ![0, 112] ![0, 0] (extractStridedSlice S16384x16 ![0, 3264] (truncf .bf16 p bitsLt_bf16_f32) slices_S16384x4304_S16384x16_0_3264)
    (sitofp .bf16 (constantI S_ 32 0#32)) pads_S16384x16_S16384x128_000_01120 h_S_

/-- A column of the matrix read where `src` says. -/
theorem at2_src {a : ℕ} (v : (⟨2, ![a, 4304]⟩ : Shape).Idx → EReal) (i : Fin a) {y k : ℕ} (hk : k < 4304) (e : src y = k) :
    v (ix2 i ⟨k, hk⟩) = at2 v i (src y) := by
  rw [e, at2_lt v i.isLt hk]

theorem at2_pad {a : ℕ} (v : (⟨2, ![a, 4304]⟩ : Shape).Idx → EReal) (i : Fin a) {y : ℕ} (e : src y = 4304) : 0 = at2 v i (src y) := by
  rw [e, at2_out v (by omega)]

theorem word_zero : FloatOps.sitofp (F := Ideal) .bf16 (0#32) = (0 : EReal) := by
  show (((0#32 : BitVec 32).toInt : ℝ) : EReal) = _
  simp

set_option maxHeartbeats 1000000 in
theorem hW_apply (w : FVec Ideal S1024x4304 .f32) (d : Fin 1024) (y : Fin 4480) : hW w (ix2 d y) = at2 w d (src y) := by
  pointwise [hW]
  split_ifs
  all_goals first
    | exact at2_src (y := y) w d _ (by unfold src; split_ifs <;> omega)
    | exact at2_pad (y := y) w d (by unfold src; split_ifs <;> omega)

theorem hKr_apply (p : FVec Ideal S16384x4304 .f32) (s : Fin 16384) (y : Fin 128) : hKr p (ix2 s y) = at2 p s (src (4224 + y)) := by
  pointwise [hKr]
  split_ifs
  · exact at2_src p s _ (by unfold src; split_ifs <;> omega)
  · exact word_zero.trans (at2_pad p s (by unfold src; split_ifs <;> omega))

theorem hDt_apply (p : FVec Ideal S16384x4304 .f32) (s : Fin 16384) (y : Fin 128) : hDt p (ix2 s y) = at2 p s (src (4352 + y)) := by
  pointwise [hDt]
  split_ifs
  · exact at2_src p s _ (by unfold src; split_ifs <;> omega)
  · exact word_zero.trans (at2_pad p s (by unfold src; split_ifs <;> omega))

theorem hP_apply {n : ℕ} (o a : ℕ) (p : FVec Ideal S16384x4304 .f32) (hs : S16384x4304.Slices ![0, o] ⟨2, ![16384, n]⟩) (hn : o + n ≤ 4304)
    (hsrc : ∀ y < n, src (a + y) = o + y) (s : Fin 16384) (y : Fin n) : hP n o hs p (ix2 s y) = at2 p s (src (a + y)) := by
  have := y.isLt
  rw [← at2_src p s (by omega) (hsrc y y.isLt)]
  pointwise [hP]

/-- Where the windows stand at a grid point. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![0, 0] ∧ win0_13.index t = ![0, 0] := by decide +kernel

variable (m : (ℓ : Loc nD τ sig) → Buf (Elt Ideal) ℓ) (c : Dev nD)

def args : Args := ⟨m (c.tc.loc main_arg0), m (c.tc.loc main_arg1), m (c.tc.loc main_arg2), m (c.tc.loc main_arg3), m (c.tc.loc main_arg4)⟩

theorem V_w : (V m c main_v10 : FVec Ideal S1024x4480 .bf16) = hW (args m c).w := by
  unfold V
  simp only [hostOps0, hostOps0_1, hostOps0_2, hostOps0_3, List.flatten_cons, List.flatten_nil, List.append_nil, List.cons_append, List.nil_append,
    TRef.binary, TRef.nullary, TRef.ternary, TRef.unary, TRef.toBuf, TRef.ofBuf, cast_eq]
  after_results_simp
  rfl

theorem V_m : (V m c main_v12 : FVec Ideal S8x3072 .f32) = broadcastInDim S8x3072 ![0, 1] bcast_S1x3072_S8x3072_0_1 (args m c).m := by
  unfold V
  simp only [hostOps0, hostOps0_1, hostOps0_2, hostOps0_3, List.flatten_cons, List.flatten_nil, List.append_nil, List.cons_append, List.nil_append,
    TRef.binary, TRef.nullary, TRef.ternary, TRef.unary, TRef.toBuf, TRef.ofBuf, cast_eq]
  after_results_simp
  rfl

/-- The gradient's pieces. -/
theorem V_p : (V m c main_v13 : FVec Ideal S16384x384 .bf16) = hP 384 0 slices_S16384x4304_S16384x384_0_0 (args m c).p
    ∧ (V m c main_v14 : FVec Ideal S16384x256 .bf16) = hP 256 384 slices_S16384x4304_S16384x256_0_384 (args m c).p
    ∧ (V m c main_v15 : FVec Ideal S16384x1024 .bf16) = hP 1024 704 slices_S16384x4304_S16384x1024_0_704 (args m c).p
    ∧ (V m c main_v16 : FVec Ideal S16384x1536 .bf16) = hP 1536 1728 slices_S16384x4304_S16384x1536_0_1728 (args m c).p
    ∧ (V m c main_v17 : FVec Ideal S16384x1024 .bf16) = hP 1024 3280 slices_S16384x4304_S16384x1024_0_3280 (args m c).p
    ∧ (V m c main_v19 : FVec Ideal S16384x128 .bf16) = hKr (args m c).p ∧ (V m c main_v21 : FVec Ideal S16384x128 .bf16) = hDt (args m c).p := by
  unfold V
  simp only [hostOps0, hostOps0_1, hostOps0_2, hostOps0_3, List.flatten_cons, List.flatten_nil, List.append_nil, List.cons_append, List.nil_append,
    TRef.binary, TRef.nullary, TRef.ternary, TRef.unary, TRef.toBuf, TRef.ofBuf, cast_eq]
  refine ⟨?_, ?_, ?_, ?_, ?_, ?_, ?_⟩ <;> (after_results_simp; rfl)

theorem V_x : V m c main_arg0 = m (c.tc.loc main_arg0) ∧ V m c main_arg1 = m (c.tc.loc main_arg1) := by
  unfold V
  simp only [hostOps0, hostOps0_1, hostOps0_2, hostOps0_3, List.flatten_cons, List.flatten_nil, List.append_nil, List.cons_append, List.nil_append,
    TRef.binary, TRef.nullary, TRef.ternary, TRef.unary, TRef.toBuf, TRef.ofBuf, cast_eq]
  constructor <;> after_results_simp

/-! The blocks of a grid point. -/

variable (t : Fin cfg0.N)

theorem tok {t : Fin cfg0.N} (r : Fin 256) : 256 * t.val + r < 16384 := by
  have := lt_of_lt_of_eq t.isLt N_0
  omega

theorem ins_x (r : Fin 256) (d : Fin 1024) : (ins m c t).x (ix2 r d) = at2 (args m c).x (256 * t.val + r) d := by
  rw [at2_lt _ (tok r) d.isLt]
  have i := (idx t).1
  have e : iblk m c 0 t (ix2 r d) = V m c main_arg0 (ix2 ⟨256 * t.val + r, tok r⟩ d) := by blk_ext [iblk, i]
  exact e.trans (congrFun (V_x m c).1 _)

theorem ins_g (r : Fin 256) (d : Fin 1024) : (ins m c t).g (ix2 r d) = at2 (args m c).g (256 * t.val + r) d := by
  rw [at2_lt _ (tok r) d.isLt]
  have i := (idx t).2.1
  have e : iblk m c 1 t (ix2 r d) = V m c main_arg1 (ix2 ⟨256 * t.val + r, tok r⟩ d) := by blk_ext [iblk, i]
  exact e.trans (congrFun (V_x m c).2 _)

theorem ins_m (d : Fin 3072) : (ins m c t).m (ix2 0 d) = at2 (args m c).m 0 d := by
  rw [at2_lt _ Nat.zero_lt_one d.isLt]
  have i := (idx t).2.2.1
  have e : iblk m c 2 t (ix2 (0 : Fin 8) d) = V m c main_v12 (ix2 (0 : Fin 8) d) := by blk_ext [iblk, i]
  refine e.trans ((congrFun (V_m m c) _).trans ?_)
  pointwise

set_option maxHeartbeats 1000000 in
theorem cols : (ins m c t).Cols (fun r y => at2 (args m c).p (256 * t.val + r) (src y)) (fun d y => at2 (args m c).w d (src y)) := by
  obtain ⟨-, -, -, i3, i4, i5, i6, i7, i8, i9, i10, -⟩ := idx t
  obtain ⟨p4, p5, p6, p7, p8, p9, p10⟩ := V_p m c
  refine ⟨fun d y => ?_, fun r y => ?_, fun r y => ?_, fun r y => ?_, fun r y => ?_, fun r y => ?_, fun r y => ?_, fun r y => ?_⟩
  · have e : iblk m c 3 t (ix2 d y) = V m c main_v10 (ix2 d y) := by blk_ext [iblk, i3]
    exact e.trans ((congrFun (V_w m c) _).trans (hW_apply _ d y))
  · have e : iblk m c 4 t (ix2 r y) = V m c main_v13 (ix2 ⟨256 * t.val + r, tok r⟩ y) := by blk_ext [iblk, i4]
    exact e.trans ((congrFun p4 _).trans (hP_apply 0 0 _ _ (by decide) (by intro y hy; unfold src; split_ifs <;> omega) ⟨_, tok r⟩ y))
  · have e : iblk m c 5 t (ix2 r y) = V m c main_v14 (ix2 ⟨256 * t.val + r, tok r⟩ y) := by blk_ext [iblk, i5]
    exact e.trans ((congrFun p5 _).trans (hP_apply 384 384 _ _ (by decide) (by intro y hy; unfold src; split_ifs <;> omega) ⟨_, tok r⟩ y))
  · have e : iblk m c 6 t (ix2 r y) = V m c main_v15 (ix2 ⟨256 * t.val + r, tok r⟩ y) := by blk_ext [iblk, i6]
    exact e.trans ((congrFun p6 _).trans (hP_apply 704 640 _ _ (by decide) (by intro y hy; unfold src; split_ifs <;> omega) ⟨_, tok r⟩ y))
  · have e : iblk m c 7 t (ix2 r y) = V m c main_v16 (ix2 ⟨256 * t.val + r, tok r⟩ y) := by blk_ext [iblk, i7]
    exact e.trans ((congrFun p7 _).trans (hP_apply 1728 1664 _ _ (by decide) (by intro y hy; unfold src; split_ifs <;> omega) ⟨_, tok r⟩ y))
  · have e : iblk m c 8 t (ix2 r y) = V m c main_v17 (ix2 ⟨256 * t.val + r, tok r⟩ y) := by blk_ext [iblk, i8]
    exact e.trans ((congrFun p8 _).trans (hP_apply 3280 3200 _ _ (by decide) (by intro y hy; unfold src; split_ifs <;> omega) ⟨_, tok r⟩ y))
  · have e : iblk m c 9 t (ix2 r y) = V m c main_v19 (ix2 ⟨256 * t.val + r, tok r⟩ y) := by blk_ext [iblk, i9]
    exact e.trans ((congrFun p9 _).trans (hKr_apply _ ⟨_, tok r⟩ y))
  · have e : iblk m c 10 t (ix2 r y) = V m c main_v21 (ix2 ⟨256 * t.val + r, tok r⟩ y) := by blk_ext [iblk, i10]
    exact e.trans ((congrFun p10 _).trans (hDt_apply _ ⟨_, tok r⟩ y))

end Cert.Inp
end
-- ==== Proof.InpOuts.lean ====
/- The three arrays the projection's backward leaves: grid point after grid point, the sums over the tokens. -/
module

public import proofs.«01_k».proof.Proof.InpHost

@[expose] public section

set_option maxRecDepth 65536

noncomputable section

namespace Cert.Inp

open Cert.Kernel3Ideal Cert.Kernel3Ideal.Gen
open Idealize.ShloMosaic Idealize.ShloMosaic.TcCoe Idealize.SL.Sem

variable (m : (ℓ : Loc nD τ sig) → Buf (Elt Ideal) ℓ) (c : Dev nD) (t : Fin cfg0.N)

/-! ## A point's values, by the arguments -/

theorem ins_u (d : Fin 1024) (r : Fin 256) : (ins m c t).u (ix2 d r) = (args m c).u (256 * t.val + r) d := by
  rw [In.u_apply, ins_x, ins_m, ins_m]
  rfl

theorem ins_du (r : Fin 256) (d : Fin 1024) : (ins m c t).du (ix2 r d) = (args m c).du (256 * t.val + r) d := by
  rw [(cols m c t).du]
  exact sum_src (fun k => at2 (args m c).p (256 * t.val + r) k * at2 (args m c).w d k) (by
    rw [at2_out (args m c).p (by omega), zero_mul])

theorem point_gx (r : Fin 256) (d : Fin 1024) : (outsAt0 m c t.val t.isLt).1 (ix2 r d) = (args m c).gx (256 * t.val + r) d := by
  rw [out_gx (cols m c t), ← (cols m c t).du, ins_du, ins_g, ins_m]
  rfl

/-- The tokens up to a point are those before it and its own. -/
theorem sum_point (f : ℕ → EReal) (n : ℕ) : ∑ s ∈ Finset.range (256 * (n + 1)), f s = ∑ s ∈ Finset.range (256 * n), f s + ∑ r : Fin 256, f (256 * n + r) := by
  rw [Nat.mul_succ, Finset.sum_range_add, Finset.sum_range (n := 256)]

theorem row_part (k : ℕ) (d : Fin 1024) : (args m c).dv (256 * (t.val + 1)) k d = (args m c).dv (256 * t.val) k d + rowPart (ins m c t) k d := by
  rw [rowPart, dif_pos d.isLt, Args.dv, Args.dv]
  simp only [ins_du, ins_x]
  split_ifs
  · exact sum_point _ _
  · exact sum_point _ _
  · exact (add_zero _).symm

theorem Args.dv_zero (A : Args) (k d : ℕ) : A.dv (256 * 0) k d = 0 := by
  rw [Args.dv]; simp

/-! ## From point to point -/

theorem point_dw (n : ℕ) (hn : n < cfg0.N) (d : Fin 1024) (y : Fin 4480) : (outsAt0 m c n hn).2.1 (ix2 d y) = (args m c).dw (256 * (n + 1)) d y := by
  induction n with
  | zero =>
    rw [out_dw (t := ⟨0, hn⟩) (cols m c ⟨0, hn⟩), foundW, if_pos (Nat.zero_mod _), Args.dw, sum_point]
    simp only [ins_u]
    rfl
  | succ n ih =>
    have h0 : ¬(n + 1) % 64 = 0 := by
      have := lt_of_lt_of_eq hn N_0
      omega
    rw [out_dw (t := ⟨n + 1, hn⟩) (cols m c ⟨n + 1, hn⟩), foundW, if_neg h0, Args.dw, sum_point]
    simp only [ins_u]
    exact congrArg (· + _) (ih (Nat.lt_of_succ_lt hn))

theorem point_dv (n : ℕ) (hn : n < cfg0.N) (k : Fin 8) (d : Fin 1024) : (outsAt0 m c n hn).2.2 (ix2 k d) = (args m c).dv (256 * (n + 1)) k d := by
  induction n with
  | zero =>
    rw [out_dv (t := ⟨0, hn⟩), foundV, if_pos (Nat.zero_mod _), row_part m c ⟨0, hn⟩]
    exact congrArg (· + _) ((args m c).dv_zero k d).symm
  | succ n ih =>
    have h0 : ¬(n + 1) % 64 = 0 := by
      have := lt_of_lt_of_eq hn N_0
      omega
    rw [out_dv (t := ⟨n + 1, hn⟩), foundV, if_neg h0, row_part m c ⟨n + 1, hn⟩]
    exact congrArg (· + _) (ih (Nat.lt_of_succ_lt hn))

/-! ## The arrays -/

/-- The three results, from the arguments. -/
def Args.gxA (A : Args) : Vec Ideal S16384x1024 .f32 := fun i => A.gx (i 0).val (i 1).val
def Args.dwA (A : Args) : Vec Ideal S1024x4480 .f32 := fun i => A.dw 16384 (i 0).val (i 1).val
def Args.dvA (A : Args) : Vec Ideal S8x1024 .f32 := fun i => A.dv 16384 (i 0).val (i 1).val

theorem ix2_all {a b : ℕ} (y : (⟨2, ![a, b]⟩ : Shape).Idx) : y = ix2 (y 0 : Fin a) (y 1 : Fin b) := by
  funext i; fin_cases i <;> rfl

theorem arr_gx : (dats m 0 c).arrAt 11 (cfgs 0).N = (args m c).gxA := by
  refine (dats m 0 c).arrAt_eq_of_covers 11 _ (by decide +kernel) fun t hf y => ?_
  have i11 := (idx t).2.2.2.2.2.2.2.2.2.2.2.1
  unfold Args.gxA
  blk_simp [i11]
  rw [after0_11]
  rw [ix2_all y, mul_comm t.val]
  exact point_gx m c t (y 0) (y 1)

theorem arr_dw : (dats m 0 c).arrAt 12 (cfgs 0).N = (args m c).dwA := by
  refine (dats m 0 c).arrAt_eq_of_covers 12 _ (by decide +kernel) fun t hf y => ?_
  have i12 := (idx t).2.2.2.2.2.2.2.2.2.2.2.2.1
  unfold Args.dwA
  blk_simp [i12]
  rw [after0_12]
  have e : t.val = 63 := by
    have := (flush0_12 t).mp hf
    have := lt_of_lt_of_eq t.isLt N_0
    omega
  rw [ix2_all y]
  refine (point_dw m c t.val t.isLt (y 0) (y 1)).trans ?_
  rw [e]
  rfl

theorem arr_dv : (dats m 0 c).arrAt 13 (cfgs 0).N = (args m c).dvA := by
  refine (dats m 0 c).arrAt_eq_of_covers 13 _ (by decide +kernel) fun t hf y => ?_
  have i13 := (idx t).2.2.2.2.2.2.2.2.2.2.2.2.2
  unfold Args.dvA
  blk_simp [i13]
  rw [after0_13]
  have e : t.val = 63 := by
    have := (flush0_13 t).mp hf
    have := lt_of_lt_of_eq t.isLt N_0
    omega
  rw [ix2_all y]
  refine (point_dv m c t.val t.isLt (y 0) (y 1)).trans ?_
  rw [e]
  rfl

end Cert.Inp
end
-- ==== Proof.InpRef.lean ====
/- The projection's backward as its reference computes it: the stages, their values at an index, and the three results. -/
module

public import proofs.«01_k».proof.Proof.InpOuts
public import proofs.«01_k».proof.Proof.Gen.Reference3Ideal
public import proofs.«01_k».proof.Proof.Gen.Reference3Ideal.Run

@[expose] public section

set_option maxRecDepth 65536

noncomputable section

namespace Cert.Inp.Ref

open Cert.Reference3Ideal Cert.Reference3Ideal.Gen
open Idealize.ShloMosaic Idealize.ShloMosaic.TcCoe Idealize.SL.Sem Idealize.ShloMosaic.StableHlo

/-! ## The stages -/

def rScale (m : FVec Ideal S1x3072 .f32) : FVec Ideal S1x1024 .f32 :=
  addf (broadcastInDim S1x1024 ![] bcast_S_S1x1024 (constant S_ .f32 0x3F800000#32)) (extractStridedSlice S1x1024 ![0, 1024] m slices_S1x3072_S1x1024_0_1024)

def rU (x : FVec Ideal S16384x1024 .f32) (m : FVec Ideal S1x3072 .f32) : FVec Ideal S16384x1024 .f32 :=
  addf (mulf x (broadcastInDim S16384x1024 ![0, 1] bcast_S1x1024_S16384x1024_0_1 (rScale m)))
    (broadcastInDim S16384x1024 ![0, 1] bcast_S1x1024_S16384x1024_0_1 (extractStridedSlice S1x1024 ![0, 0] m slices_S1x3072_S1x1024_0_0))

def rDu (p : FVec Ideal S16384x4304 .f32) (w : FVec Ideal S1024x4304 .f32) : FVec Ideal S16384x1024 .f32 :=
  Host.dotGeneral dot_S16384x4304_S1024x4304_S16384x1024_1_1_0_0_n_n none p w

def rGx (g du : FVec Ideal S16384x1024 .f32) (m : FVec Ideal S1x3072 .f32) : FVec Ideal S16384x1024 .f32 :=
  addf g (mulf du (broadcastInDim S16384x1024 ![0, 1] bcast_S1x1024_S16384x1024_0_1 (rScale m)))

def rDw (p : FVec Ideal S16384x4304 .f32) (u : FVec Ideal S16384x1024 .f32) : FVec Ideal S1024x4304 .f32 :=
  transpose S1024x4304 [1, 0] (Host.dotGeneral dot_S16384x4304_S16384x1024_S4304x1024_0_0_1_1_n_n none p u) transposes_S4304x1024_S1024x4304_1_0

/-- The weight's gradient in the padded columns. -/
def rPad (z : FVec Ideal S1024x4304 .f32) : FVec Ideal S1024x4480 .f32 :=
  concatenate S1024x4480 1
    [⟨S1024x384, extractStridedSlice S1024x384 ![0, 0] z slices_S1024x4304_S1024x384_0_0⟩,
     ⟨S1024x256, extractStridedSlice S1024x256 ![0, 384] z slices_S1024x4304_S1024x256_0_384⟩,
     ⟨S1024x1024, extractStridedSlice S1024x1024 ![0, 704] z slices_S1024x4304_S1024x1024_0_704⟩,
     ⟨S1024x1536, extractStridedSlice S1024x1536 ![0, 1728] z slices_S1024x4304_S1024x1536_0_1728⟩,
     ⟨S1024x1024, extractStridedSlice S1024x1024 ![0, 3280] z slices_S1024x4304_S1024x1024_0_3280⟩,
     ⟨S1024x128, pad S1024x128 ![0, 0] ![0, 64] ![0, 0] (extractStridedSlice S1024x64 ![0, 640] z slices_S1024x4304_S1024x64_0_640)
       (sitofp .f32 (constantI S_ 32 0#32)) pads_S1024x64_S1024x128_000_0640 h_S_⟩,
     ⟨S1024x128, pad S1024x128 ![0, 0] ![0, 112] ![0, 0] (extractStridedSlice S1024x16 ![0, 3264] z slices_S1024x4304_S1024x16_0_3264)
       (sitofp .f32 (constantI S_ 32 0#32)) pads_S1024x16_S1024x128_000_01120 h_S_⟩]
    concatenates_S1024x384_S1024x256_S1024x1024_S1024x1536_S1024x1024_S1024x128_S1024x128_S1024x4480_d1

/-- A sum over the tokens, as a row. -/
def rRow (z : FVec Ideal S16384x1024 .f32) : FVec Ideal S1x1024 .f32 :=
  shapeCast S1x1024 (Host.reduceAdd z (constant S_ .f32 0x00000000#32) reducesTo_S16384x1024_S1024_d0 h_S_) shapeCasts_S1024_S1x1024

/-- Two rows, filled up with zeros to eight. -/
def rRows (a b : FVec Ideal S1x1024 .f32) : FVec Ideal S8x1024 .f32 :=
  pad S8x1024 ![0, 0] ![6, 0] ![0, 0] (concatenate S2x1024 0 [⟨S1x1024, a⟩, ⟨S1x1024, b⟩] concatenates_S1x1024_S1x1024_S2x1024_d0)
    (sitofp .f32 (constantI S_ 32 0#32)) pads_S2x1024_S8x1024_060_000 h_S_

/-! ## The stages at an index -/

theorem word_zero : FloatOps.sitofp (F := Ideal) .f32 (0#32) = (0 : EReal) := by
  show (((0#32 : BitVec 32).toInt : ℝ) : EReal) = _
  simp

theorem rScale_apply (m) (d : Fin 1024) : rScale m (ix2 0 d) = 1 + m (ix2 0 ⟨1024 + d, by omega⟩) := by
  pointwise [rScale]

theorem rU_apply (x m) (s : Fin 16384) (d : Fin 1024) : rU x m (ix2 s d) = x (ix2 s d) * rScale m (ix2 0 d) + m (ix2 0 ⟨d, by omega⟩) := by
  unfold rU
  generalize rScale m = z
  pointwise

theorem rDu_apply (p w) (s : Fin 16384) (d : Fin 1024) : rDu p w (ix2 s d) = ∑ k : Fin 4304, p (ix2 s k) * w (ix2 d k) := by
  pointwise [rDu]

theorem rGx_apply (g du m) (s : Fin 16384) (d : Fin 1024) : rGx g du m (ix2 s d) = g (ix2 s d) + du (ix2 s d) * rScale m (ix2 0 d) := by
  unfold rGx
  generalize rScale m = z
  pointwise

theorem rDw_apply (p u) (d : Fin 1024) (k : Fin 4304) : rDw p u (ix2 d k) = ∑ s : Fin 16384, p (ix2 s k) * u (ix2 s d) := by
  pointwise [rDw]

theorem rRow_apply (z) (d : Fin 1024) : rRow z (ix2 0 d) = ∑ s : Fin 16384, z (ix2 s d) := by
  pointwise [rRow]

theorem rRows_apply (a b) (k : Fin 8) (d : Fin 1024) : rRows a b (ix2 k d) = if k.val = 0 then a (ix2 0 d) else if k.val = 1 then b (ix2 0 d) else 0 := by
  pointwise [rRows]
  by_cases h0 : k = 0
  · subst h0; rfl
  by_cases h1 : k = 1
  · subst h1; rfl
  have h0' : k.val ≠ 0 := fun h => h0 (Fin.ext h)
  have h1' : k.val ≠ 1 := fun h => h1 (Fin.ext h)
  rw [dif_neg (by omega), if_neg h0', if_neg h1', word_zero]

set_option maxHeartbeats 1000000 in
theorem rPad_apply (z : FVec Ideal S1024x4304 .f32) (d : Fin 1024) (y : Fin 4480) : rPad z (ix2 d y) = at2 z d (src y) := by
  pointwise [rPad]
  split_ifs
  all_goals first
    | exact at2_src (y := y) z d _ (by unfold src; split_ifs <;> omega)
    | exact word_zero.trans (at2_pad (y := y) z d (by unfold src; split_ifs <;> omega))

/-! ## The results -/

variable (A : Args)

theorem scale_eq (d : Fin 1024) : rScale A.m (ix2 0 d) = A.scale d := by
  rw [rScale_apply, Args.scale, at2_lt A.m Nat.zero_lt_one (by omega : 1024 + d.val < 3072)]
  rfl

theorem u_eq (s : Fin 16384) (d : Fin 1024) : rU A.x A.m (ix2 s d) = A.u s d := by
  rw [rU_apply, scale_eq, Args.u, at2_lt A.x s.isLt d.isLt, at2_lt A.m Nat.zero_lt_one (by omega : d.val < 3072)]
  rfl

theorem du_eq (s : Fin 16384) (d : Fin 1024) : rDu A.p A.w (ix2 s d) = A.du s d := by
  rw [rDu_apply, Args.du, Finset.sum_range]
  exact Finset.sum_congr rfl fun k _ => by rw [at2_lt A.p s.isLt k.isLt, at2_lt A.w d.isLt k.isLt]

theorem gx_eq : rGx A.g (rDu A.p A.w) A.m = A.gxA := funext fun i => by
  obtain ⟨s, d, rfl⟩ : ∃ (s : Fin 16384) (d : Fin 1024), i = ix2 s d := ⟨i 0, i 1, ix2_all i⟩
  rw [rGx_apply, du_eq, scale_eq]
  show _ = at2 A.g s d + A.du s d * A.scale d
  rw [at2_lt A.g s.isLt d.isLt]

theorem dw_eq : rPad (rDw A.p (rU A.x A.m)) = A.dwA := funext fun i => by
  obtain ⟨d, y, rfl⟩ : ∃ (d : Fin 1024) (y : Fin 4480), i = ix2 d y := ⟨i 0, i 1, ix2_all i⟩
  rw [rPad_apply]
  show _ = ∑ s ∈ Finset.range 16384, A.u s d * at2 A.p s (src y)
  by_cases hy : src y < 4304
  · rw [at2_lt _ d.isLt hy, rDw_apply, Finset.sum_range]
    exact Finset.sum_congr rfl fun s _ => by rw [at2_lt A.p s.isLt hy, u_eq, mul_comm]
  · rw [at2_out _ (by omega)]
    exact (Finset.sum_eq_zero fun s _ => by rw [at2_out A.p (by omega), mul_zero]).symm

theorem dv_eq : rRows (rRow (rDu A.p A.w)) (rRow (mulf A.x (rDu A.p A.w))) = A.dvA := funext fun i => by
  obtain ⟨k, d, rfl⟩ : ∃ (k : Fin 8) (d : Fin 1024), i = ix2 k d := ⟨i 0, i 1, ix2_all i⟩
  rw [rRows_apply, rRow_apply, rRow_apply]
  show _ = A.dv 16384 k.val d.val
  rw [Args.dv, Finset.sum_range, Finset.sum_range]
  have e : ∀ s : Fin 16384, mulf A.x (rDu A.p A.w) (ix2 s d) = A.du s d * at2 A.x s d := fun s => by
    rw [at2_lt A.x s.isLt d.isLt, mul_comm, ← du_eq]
    rfl
  simp only [e, du_eq]

variable (m : (ℓ : Loc nD τ sig) → Buf (Elt Ideal) ℓ) (ρ : Dev nD → PrngReg)

def args (c : Dev nD) : Args := ⟨m (c.tc.loc main_arg0), m (c.tc.loc main_arg1), m (c.tc.loc main_arg2), m (c.tc.loc main_arg3), m (c.tc.loc main_arg4)⟩

theorem run : θ_run defs (onTc (τ := τ) (main (F := Ideal))) ⟨m, fun _ => 0, ρ⟩ fun r => ∀ c : Dev nD,
    r.2.mem ((c.tc : Thread nD τ).loc main_v29) = (args m c).gxA
    ∧ r.2.mem ((c.tc : Thread nD τ).loc main_v28) = (args m c).dwA
    ∧ r.2.mem ((c.tc : Thread nD τ).loc main_v31) = (args m c).dvA
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => by
    obtain ⟨h0, h1, h2, h3⟩ := h c
    exact ⟨h0.trans (gx_eq (args m c)), h1.trans (dw_eq (args m c)), h2.trans (dv_eq (args m c)), h3⟩) (Cert.Reference3Ideal.Value.run m ρ)

end Cert.Inp.Ref
end
-- ==== Proof.InpValue.lean ====
/- The projection's backward and its reference leave the same three arrays, and the frames of their programs. -/
module

public import proofs.«01_k».proof.Defs
public import proofs.«01_k».proof.Proof.InpRef
public import proofs.«01_k».proof.Proof.Gen.Kernel3
public import Idealize.ShloMosaic.Lib.Quiescent

@[expose] public section

set_option maxRecDepth 65536

noncomputable section

namespace Cert.Inp

open Idealize.ShloMosaic Idealize.SL Idealize.SL.Sem

/-! ## The frames -/

theorem quiescent_ideal : Cert.quiescent_Kernel3Ideal := fun m g _ => Cert.Kernel3Ideal.Gen.frame m g

/-- The printed program's frame is the idealised program's at the floats' bits: the two are one text. -/
theorem quiescent_bits_eq : Cert.quiescent_Kernel3 = (
    ∀ (m : (ℓ : Loc Cert.Kernel3Ideal.nD Cert.Kernel3Ideal.τ Cert.Kernel3Ideal.sig) → Buf (Elt Bits) ℓ) (g : Dev Cert.Kernel3Ideal.nD → PrngReg), True →
      θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
        r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
        ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
        ∧ r.2.sem = fun _ => 0)) := by
  sl_kernel_rfl

theorem quiescent_bits : Cert.quiescent_Kernel3 := by
  rw [quiescent_bits_eq]
  intro m g _
  exact Cert.Kernel3Ideal.Gen.frame m g

theorem quiescent_reference : Cert.quiescent_Reference3Ideal := fun m g _ =>
  (θ_run Cert.Reference3Ideal.defs _ _).mono (fun r h => ⟨fun c => (h c).2.2.2, sem_eq_zero_of_no_sems (by decide) r.2⟩)
    (Ref.run m g)

/-! ## The values -/

theorem algebraic : Cert.algebraic_Kernel3Ideal_Reference3Ideal := by
  intro m g m' g' _ hargs
  refine ⟨fun c => (args m c).gxA, fun c => (args m c).dwA, fun c => (args m c).dvA, ?_, ?_⟩
  · refine (θ_run Cert.Kernel3Ideal.defs _ _).mono (fun r h c => ?_) (Cert.Kernel3Ideal.Value.run_blocks m g)
    obtain ⟨h0, h1, h2, h3⟩ := h c
    exact ⟨h0.trans (arr_gx m c), h1.trans (arr_dw m c), h2.trans (arr_dv m c), h3⟩
  · refine (θ_run Cert.Reference3Ideal.defs _ _).mono (fun r h c => ?_) (Ref.run m' g')
    have e : Ref.args m' c = args m c := by
      obtain ⟨e0, e1, e2, e3, e4⟩ := hargs c
      exact Args.ext e0 e1 e2 e3 e4
    obtain ⟨h0, h1, h2, h3⟩ := h c
    rw [e] at h0 h1 h2
    exact ⟨h0, h1, h2, h3⟩

end Cert.Inp
end
-- ==== Proof.AdamStep.lean ====
/- The optimiser's step on one array: the devices' parts of a gradient summed, the two moments, and the weight's change. -/
module

public import Idealize.ShloMosaic.Lib.Pipeline.FrameBody
public import Idealize.ShloMosaic.Lib.Pipeline.ValueKit
public import Idealize.ShloMosaic.Lib.Pointwise

@[expose] public section

noncomputable section

namespace Cert.Adam

open Idealize.ShloMosaic

/-! The step at one element; the numbers are the optimiser's constants. -/

abbrev num (w : BitVec 32) : EReal := FloatOps.ofBits (F := Ideal) .f32 w

/-- The first moment: `0.9 m + 0.1 g`. -/
def mom (m g : EReal) : EReal := num 0x3F666666#32 * m + num 0x3DCCCCCD#32 * g

/-- The second moment: `0.999 v + 0.001 g²`. -/
def var (v g : EReal) : EReal := num 0x3F7FBE77#32 * v + num 0x3A83126F#32 * (g * g)

/-- The weight's change, from the weight and the two new moments. -/
def change (w m v : EReal) : EReal :=
  num 0xBA83126F#32 * (Ideal.div (Ideal.div m (num 0x3F26BD02#32)) (Ideal.sqrt (Ideal.div v (num 0x3C231ACC#32)) + num 0x322BCC77#32)
    + num 0x3C23D70A#32 * w)

/-- The eight devices' parts of a gradient, the weight and its two moments. -/
@[ext] structure Args (a b : ℕ) where
  p : (⟨3, ![8, a, b]⟩ : Shape).Idx → EReal
  w : (⟨2, ![a, b]⟩ : Shape).Idx → EReal
  m : (⟨2, ![a, b]⟩ : Shape).Idx → EReal
  v : (⟨2, ![a, b]⟩ : Shape).Idx → EReal

namespace Args
variable {a b : ℕ} (A : Args a b)

/-- The gradient, the two new moments and the weight's change. -/
def grad (i : (⟨2, ![a, b]⟩ : Shape).Idx) : EReal := ∑ k : Fin 8, A.p (ix3 k (i 0 : Fin a) (i 1 : Fin b))
def newM (i : (⟨2, ![a, b]⟩ : Shape).Idx) : EReal := mom (A.m i) (A.grad i)
def newV (i : (⟨2, ![a, b]⟩ : Shape).Idx) : EReal := var (A.v i) (A.grad i)
def delta (i : (⟨2, ![a, b]⟩ : Shape).Idx) : EReal := change (A.w i) (A.newM i) (A.newV i)

/-- `B` is the rows of `A` that `f` names. -/
structure Rows {n : ℕ} (A : Args a b) (f : Fin n → Fin a) (B : Args n b) : Prop where
  p : ∀ (k : Fin 8) (r : Fin n) (d : Fin b), B.p (ix3 k r d) = A.p (ix3 k (f r) d)
  w : ∀ (r : Fin n) (d : Fin b), B.w (ix2 r d) = A.w (ix2 (f r) d)
  m : ∀ (r : Fin n) (d : Fin b), B.m (ix2 r d) = A.m (ix2 (f r) d)
  v : ∀ (r : Fin n) (d : Fin b), B.v (ix2 r d) = A.v (ix2 (f r) d)

variable {A} {n : ℕ} {f : Fin n → Fin a} {B : Args n b} (h : Rows A f B) (r : Fin n) (d : Fin b)
include h

theorem Rows.grad : B.grad (ix2 r d) = A.grad (ix2 (f r) d) := Finset.sum_congr rfl fun k _ => h.p k r d
theorem Rows.newM : B.newM (ix2 r d) = A.newM (ix2 (f r) d) := congrArg₂ mom (h.m r d) (h.grad r d)
theorem Rows.newV : B.newV (ix2 r d) = A.newV (ix2 (f r) d) := congrArg₂ var (h.v r d) (h.grad r d)
theorem Rows.delta : B.delta (ix2 r d) = A.delta (ix2 (f r) d) := by
  rw [Args.delta, Args.delta, h.w, h.newM, h.newV]

end Args

/-- One device's part of a block, as a body loads it. -/
theorem ld_part {a b : ℕ} {e : EltTy} (x : Vec Ideal ⟨3, ![8, a, b]⟩ e) (k : Fin 8)
    (inb : ∀ i, (![k.val, 0, 0] : Fin 3 → ℕ) i + (⟨3, ![1, a, b]⟩ : Shape).size i ≤ (⟨3, ![8, a, b]⟩ : Shape).size i) (r : Fin a) (d : Fin b) :
    View.ld x (Rect.unit (s := ⟨3, ![8, a, b]⟩) ![k.val, 0, 0] (⟨3, ![1, a, b]⟩ : Shape).size inb) (ix3 (0 : Fin 1) r d) = x (ix3 k r d) := by
  refine congrArg x (funext fun i => Fin.ext ?_)
  fin_cases i
  · show k.val + 1 * 0 = k.val; omega
  · show 0 + 1 * r.val = r.val; omega
  · show 0 + 1 * d.val = d.val; omega

theorem ix2_all {a b : ℕ} (y : (⟨2, ![a, b]⟩ : Shape).Idx) : y = ix2 (y 0 : Fin a) (y 1 : Fin b) := by
  funext i; fin_cases i <;> rfl

theorem hz : (![0, 0] : Fin 2 → ℕ) = fun _ => 0 := funext fun i => by fin_cases i <;> rfl

end Cert.Adam
end
-- ==== Proof.AdamIn.lean ====
/- The optimiser's step of the input projection's weight: the kernel, the reference, and the frames of their programs. -/
module

public import proofs.«01_k».proof.Defs
public import proofs.«01_k».proof.Proof.AdamStep
public import proofs.«01_k».proof.Proof.Gen.Kernel4
public import proofs.«01_k».proof.Proof.Gen.Kernel4Ideal.Value
public import proofs.«01_k».proof.Proof.Gen.Reference4Ideal
public import proofs.«01_k».proof.Proof.Gen.Reference4Ideal.Run
public import Idealize.ShloMosaic.Lib.Tactic
public import Idealize.ShloMosaic.Lib.Quiescent

@[expose] public section

set_option maxRecDepth 65536

noncomputable section

namespace Cert.Adam.In

open Idealize.ShloMosaic Idealize.ShloMosaic.TcCoe Idealize.SL Idealize.SL.Sem

/-! ## The kernel -/

section Kernel
open Cert.Kernel4Ideal Cert.Kernel4Ideal.Gen

theorem pay4_apply (v0 v1 v2 v3 v4 v5 v6 v7 : Vec Ideal S1x128x1076 .bf16) (r : Fin 128) (d : Fin 1076) :
    k0_pay4 v0 v1 v2 v3 v4 v5 v6 v7 (ix2 r d) = v0 (ix3 0 r d) + v1 (ix3 0 r d) + v2 (ix3 0 r d) + v3 (ix3 0 r d) + v4 (ix3 0 r d)
      + v5 (ix3 0 r d) + v6 (ix3 0 r d) + v7 (ix3 0 r d) := by
  pointwise [k0_pay4]

/-- The gradient a point computes is its block's. -/
theorem grad_eq (B : Args 128 1076) : k0_pay5 (F := Ideal) B.p B.w B.m B.v = B.grad := funext fun i => by
  obtain ⟨r, d, rfl⟩ : ∃ (r : Fin 128) (d : Fin 1076), i = ix2 r d := ⟨i 0, i 1, ix2_all i⟩
  refine (pay4_apply ..).trans ?_
  rw [Args.grad, Fin.sum_univ_eight]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  exacts [ld_part (e := .bf16) B.p 0 _ r d, ld_part (e := .bf16) B.p 1 _ r d, ld_part (e := .bf16) B.p 2 _ r d, ld_part (e := .bf16) B.p 3 _ r d, ld_part (e := .bf16) B.p 4 _ r d, ld_part (e := .bf16) B.p 5 _ r d,
    ld_part (e := .bf16) B.p 6 _ r d, ld_part (e := .bf16) B.p 7 _ r d]

theorem out_grad (B : Args 128 1076) : out0_4 (F := Ideal) B.p B.w B.m B.v = B.grad := by
  unfold out0_4
  rw [View.canon_unit_zero hz]
  exact grad_eq B

theorem out_delta (B : Args 128 1076) : out0_5 (F := Ideal) B.p B.w B.m B.v = B.delta := by
  unfold out0_5
  rw [View.canon_unit_zero hz, grad_eq, View.ld_unit_zero (S := S128x1076) hz, View.ld_unit_zero (S := S128x1076) hz, View.ld_unit_zero (S := S128x1076) hz]
  rfl

theorem out_newM (B : Args 128 1076) : out0_6 (F := Ideal) B.p B.w B.m B.v = B.newM := by
  unfold out0_6
  rw [View.canon_unit_zero hz, grad_eq, View.ld_unit_zero (S := S128x1076) hz]
  rfl

theorem out_newV (B : Args 128 1076) : out0_7 (F := Ideal) B.p B.w B.m B.v = B.newV := by
  unfold out0_7
  rw [View.canon_unit_zero hz, grad_eq, View.ld_unit_zero (S := S128x1076) hz]
  rfl

/-- Where the windows stand at a grid point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] := by decide +kernel

variable (m : (ℓ : Loc nD τ sig) → Buf (Elt Ideal) ℓ) (c : Dev nD) (t : Fin cfg0.N)

def args : Args 1024 1076 := ⟨m (c.tc.loc main_arg0), m (c.tc.loc main_arg1), m (c.tc.loc main_arg2), m (c.tc.loc main_arg3)⟩

/-- The blocks of a grid point, and the rows they are. -/
def ins : Args 128 1076 := ⟨iblk m c 0 t, iblk m c 1 t, iblk m c 2 t, iblk m c 3 t⟩
def row (r : Fin 128) : Fin 1024 := ⟨128 * t.val + r, by
  have : t.val < 8 := t.isLt
  omega⟩

theorem rows : (args m c).Rows (row t) (ins m c t) := by
  obtain ⟨i0, i1, i2, i3, -⟩ := idx t
  refine ⟨fun k r d => ?_, fun r d => ?_, fun r d => ?_, fun r d => ?_⟩
  · show iblk m c 0 t (ix3 k r d) = V m c main_arg0 (ix3 k (row t r) d)
    unfold row
    blk_ext [iblk, i0]
  · show iblk m c 1 t (ix2 r d) = V m c main_arg1 (ix2 (row t r) d)
    unfold row
    blk_ext [iblk, i1]
  · show iblk m c 2 t (ix2 r d) = V m c main_arg2 (ix2 (row t r) d)
    unfold row
    blk_ext [iblk, i2]
  · show iblk m c 3 t (ix2 r d) = V m c main_arg3 (ix2 (row t r) d)
    unfold row
    blk_ext [iblk, i3]

/-- A point's rows of an array that a window writes back. -/
theorem read_rows (G : Vec Ideal S1024x1076 .f32) (r : Fin 128) (d : Fin 1076) :
    ((cfg0.win 4).blk t).view.read (Elt Ideal) G (ix2 r d) = G (ix2 (row t r) d) ∧ ((cfg0.win 5).blk t).view.read (Elt Ideal) G (ix2 r d) = G (ix2 (row t r) d)
    ∧ ((cfg0.win 6).blk t).view.read (Elt Ideal) G (ix2 r d) = G (ix2 (row t r) d) ∧ ((cfg0.win 7).blk t).view.read (Elt Ideal) G (ix2 r d) = G (ix2 (row t r) d) := by
  obtain ⟨-, -, -, -, i4, i5, i6, i7⟩ := idx t
  unfold row
  refine ⟨?_, ?_, ?_, ?_⟩
  · blk_ext [i4]
  · blk_ext [i5]
  · blk_ext [i6]
  · blk_ext [i7]

theorem arr_grad : (dats m 0 c).arrAt 4 (cfgs 0).N = (args m c).grad := by
  refine (dats m 0 c).arrAt_eq_of_covers 4 _ (by decide +kernel) fun t hf y => ?_
  obtain ⟨r, d, rfl⟩ : ∃ (r : Fin 128) (d : Fin 1076), y = ix2 r d := ⟨y 0, y 1, ix2_all y⟩
  blk_simp []
  rw [after0_4]
  exact ((congrFun (out_grad (ins m c t)) _).trans ((rows m c t).grad r d)).trans (read_rows t _ r d).1.symm

theorem arr_delta : (dats m 0 c).arrAt 5 (cfgs 0).N = (args m c).delta := by
  refine (dats m 0 c).arrAt_eq_of_covers 5 _ (by decide +kernel) fun t hf y => ?_
  obtain ⟨r, d, rfl⟩ : ∃ (r : Fin 128) (d : Fin 1076), y = ix2 r d := ⟨y 0, y 1, ix2_all y⟩
  blk_simp []
  rw [after0_5]
  exact ((congrFun (out_delta (ins m c t)) _).trans ((rows m c t).delta r d)).trans (read_rows t _ r d).2.1.symm

theorem arr_newM : (dats m 0 c).arrAt 6 (cfgs 0).N = (args m c).newM := by
  refine (dats m 0 c).arrAt_eq_of_covers 6 _ (by decide +kernel) fun t hf y => ?_
  obtain ⟨r, d, rfl⟩ : ∃ (r : Fin 128) (d : Fin 1076), y = ix2 r d := ⟨y 0, y 1, ix2_all y⟩
  blk_simp []
  rw [after0_6]
  exact ((congrFun (out_newM (ins m c t)) _).trans ((rows m c t).newM r d)).trans (read_rows t _ r d).2.2.1.symm

theorem arr_newV : (dats m 0 c).arrAt 7 (cfgs 0).N = (args m c).newV := by
  refine (dats m 0 c).arrAt_eq_of_covers 7 _ (by decide +kernel) fun t hf y => ?_
  obtain ⟨r, d, rfl⟩ : ∃ (r : Fin 128) (d : Fin 1076), y = ix2 r d := ⟨y 0, y 1, ix2_all y⟩
  blk_simp []
  rw [after0_7]
  exact ((congrFun (out_newV (ins m c t)) _).trans ((rows m c t).newV r d)).trans (read_rows t _ r d).2.2.2.symm

end Kernel

/-! ## The reference -/

section Reference
open Cert.Reference4Ideal Cert.Reference4Ideal.Gen

theorem ref_grad (x : FVec Ideal S8x1024x1076 .bf16) :
    Host.reduceAdd (extf .f32 x bitsLt_bf16_f32) (constant S_ .f32 0x00000000#32) reducesTo_S8x1024x1076_S1024x1076_d0 h_S_
      = fun i => ∑ k : Fin 8, x (ix3 k (i 0 : Fin 1024) (i 1 : Fin 1076)) := funext fun i => by
  obtain ⟨r, d, rfl⟩ : ∃ (r : Fin 1024) (d : Fin 1076), i = ix2 r d := ⟨i 0, i 1, ix2_all i⟩
  refine Eq.trans ?_ (show ∑ k : Fin 8, x (ix3 k r d) = _ from rfl)
  pointwise

variable (m : (ℓ : Loc nD τ sig) → Buf (Elt Ideal) ℓ) (ρ : Dev nD → PrngReg)

def refArgs (c : Dev nD) : Args 1024 1076 := ⟨m (c.tc.loc main_arg0), m (c.tc.loc main_arg1), m (c.tc.loc main_arg2), m (c.tc.loc main_arg3)⟩

theorem run : θ_run defs (onTc (τ := τ) (main (F := Ideal))) ⟨m, fun _ => 0, ρ⟩ fun r => ∀ c : Dev nD,
    r.2.mem ((c.tc : Thread nD τ).loc main_v1) = (refArgs m c).grad
    ∧ r.2.mem ((c.tc : Thread nD τ).loc main_v25) = (refArgs m c).delta
    ∧ r.2.mem ((c.tc : Thread nD τ).loc main_v6) = (refArgs m c).newM
    ∧ r.2.mem ((c.tc : Thread nD τ).loc main_v12) = (refArgs m c).newV
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => by
    obtain ⟨h0, h1, h2, h3, h4⟩ := h c
    clear h
    rw [ref_grad] at h0 h1 h2 h3
    exact ⟨h0, h1, h2, h3, h4⟩) (Cert.Reference4Ideal.Value.run m ρ)

end Reference

/-! ## The frames -/

theorem quiescent_ideal : Cert.quiescent_Kernel4Ideal := fun m g _ => Cert.Kernel4Ideal.Gen.frame m g

/-- The printed program's frame is the idealised program's at the floats' bits: the two are one text. -/
theorem quiescent_bits_eq : Cert.quiescent_Kernel4 = (
    ∀ (m : (ℓ : Loc Cert.Kernel4Ideal.nD Cert.Kernel4Ideal.τ Cert.Kernel4Ideal.sig) → Buf (Elt Bits) ℓ) (g : Dev Cert.Kernel4Ideal.nD → PrngReg), True →
      θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
        r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
        ∧ r.2.sem = fun _ => 0)) := by
  sl_kernel_rfl

theorem quiescent_bits : Cert.quiescent_Kernel4 := by
  rw [quiescent_bits_eq]
  intro m g _
  exact Cert.Kernel4Ideal.Gen.frame m g

theorem quiescent_reference : Cert.quiescent_Reference4Ideal := fun m g _ =>
  (θ_run Cert.Reference4Ideal.defs _ _).mono (fun r h => ⟨fun c => (h c).2.2.2.2, sem_eq_zero_of_no_sems (by decide) r.2⟩) (run m g)

/-! ## The values -/

theorem algebraic : Cert.algebraic_Kernel4Ideal_Reference4Ideal := by
  intro m g m' g' _ hargs
  refine ⟨fun c => (args m c).grad, fun c => (args m c).delta, fun c => (args m c).newM, fun c => (args m c).newV, ?_, ?_⟩
  · refine (θ_run Cert.Kernel4Ideal.defs _ _).mono (fun r h c => ?_) (Cert.Kernel4Ideal.Value.run_blocks m g)
    obtain ⟨h0, h1, h2, h3, h4⟩ := h c
    exact ⟨h0.trans (arr_grad m c), h1.trans (arr_delta m c), h2.trans (arr_newM m c), h3.trans (arr_newV m c), h4⟩
  · refine (θ_run Cert.Reference4Ideal.defs _ _).mono (fun r h c => ?_) (run m' g')
    have e : refArgs m' c = args m c := by
      obtain ⟨e0, e1, e2, e3⟩ := hargs c
      exact Args.ext e0 e1 e2 e3
    obtain ⟨h0, h1, h2, h3, h4⟩ := h c
    rw [e] at h0 h1 h2 h3
    exact ⟨h0, h1, h2, h3, h4⟩

end Cert.Adam.In
end
-- ==== Proof.AdamSmall.lean ====
/- The optimiser's step of the small weights, packed in one array: the kernel, the reference, and the frames of their programs. -/
module

public import proofs.«01_k».proof.Defs
public import proofs.«01_k».proof.Proof.AdamStep
public import proofs.«01_k».proof.Proof.Gen.Kernel5
public import proofs.«01_k».proof.Proof.Gen.Kernel5Ideal.Value
public import proofs.«01_k».proof.Proof.Gen.Reference5Ideal
public import proofs.«01_k».proof.Proof.Gen.Reference5Ideal.Run
public import Idealize.ShloMosaic.Lib.Tactic
public import Idealize.ShloMosaic.Lib.Quiescent

@[expose] public section

set_option maxRecDepth 65536

noncomputable section

namespace Cert.Adam.Small

open Idealize.ShloMosaic Idealize.ShloMosaic.TcCoe Idealize.SL Idealize.SL.Sem

/-! ## The kernel: one point, whose blocks are the whole arrays -/

section Kernel
open Cert.Kernel5Ideal Cert.Kernel5Ideal.Gen Cert.Kernel5Ideal.Value

theorem pay4_apply (v0 v1 v2 v3 v4 v5 v6 v7 : Vec Ideal S1x16x1024 .f32) (r : Fin 16) (d : Fin 1024) :
    k0_pay4 v0 v1 v2 v3 v4 v5 v6 v7 (ix2 r d) = v0 (ix3 0 r d) + v1 (ix3 0 r d) + v2 (ix3 0 r d) + v3 (ix3 0 r d) + v4 (ix3 0 r d)
      + v5 (ix3 0 r d) + v6 (ix3 0 r d) + v7 (ix3 0 r d) := by
  pointwise [k0_pay4]

theorem whole_grad (B : Args 16 1024) : G4 (F := Ideal) B.p B.w B.m B.v = B.grad := funext fun i => by
  obtain ⟨r, d, rfl⟩ : ∃ (r : Fin 16) (d : Fin 1024), i = ix2 r d := ⟨i 0, i 1, ix2_all i⟩
  refine (pay4_apply ..).trans ?_
  rw [Args.grad, Fin.sum_univ_eight]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  exacts [ld_part (e := .f32) B.p 0 _ r d, ld_part (e := .f32) B.p 1 _ r d, ld_part (e := .f32) B.p 2 _ r d, ld_part (e := .f32) B.p 3 _ r d,
    ld_part (e := .f32) B.p 4 _ r d, ld_part (e := .f32) B.p 5 _ r d, ld_part (e := .f32) B.p 6 _ r d, ld_part (e := .f32) B.p 7 _ r d]

/-- The gradient that the other three results are made of is the one written back. -/
theorem pay7_eq (B : Args 16 1024) : k0_pay7 (F := Ideal) B.p B.w B.m B.v = B.grad := whole_grad B

theorem whole_delta (B : Args 16 1024) : G5 (F := Ideal) B.p B.w B.m B.v = B.delta := by
  unfold G5 k0_pay8 k0_pay9
  rw [pay7_eq, View.ld_unit_zero (S := S16x1024) hz]
  rfl

theorem whole_newM (B : Args 16 1024) : G6 (F := Ideal) B.p B.w B.m B.v = B.newM := by
  unfold G6 k0_pay8 k0_pay9
  rw [pay7_eq, View.ld_unit_zero (S := S16x1024) hz]
  rfl

theorem whole_newV (B : Args 16 1024) : G7 (F := Ideal) B.p B.w B.m B.v = B.newV := by
  unfold G7
  rw [pay7_eq]
  rfl

def args (m : (ℓ : Loc nD τ sig) → Buf (Elt Ideal) ℓ) (c : Dev nD) : Args 16 1024 :=
  ⟨m (c.tc.loc main_arg0), m (c.tc.loc main_arg1), m (c.tc.loc main_arg2), m (c.tc.loc main_arg3)⟩

end Kernel

/-! ## The reference -/

section Reference
open Cert.Reference5Ideal Cert.Reference5Ideal.Gen

theorem ref_grad (x : FVec Ideal S8x16x1024 .f32) :
    Host.reduceAdd x (constant S_ .f32 0x00000000#32) reducesTo_S8x16x1024_S16x1024_d0 h_S_
      = fun i => ∑ k : Fin 8, x (ix3 k (i 0 : Fin 16) (i 1 : Fin 1024)) := funext fun i => by
  obtain ⟨r, d, rfl⟩ : ∃ (r : Fin 16) (d : Fin 1024), i = ix2 r d := ⟨i 0, i 1, ix2_all i⟩
  refine Eq.trans ?_ (show ∑ k : Fin 8, x (ix3 k r d) = _ from rfl)
  pointwise

variable (m : (ℓ : Loc nD τ sig) → Buf (Elt Ideal) ℓ) (ρ : Dev nD → PrngReg)

def refArgs (c : Dev nD) : Args 16 1024 := ⟨m (c.tc.loc main_arg0), m (c.tc.loc main_arg1), m (c.tc.loc main_arg2), m (c.tc.loc main_arg3)⟩

theorem run : θ_run defs (onTc (τ := τ) (main (F := Ideal))) ⟨m, fun _ => 0, ρ⟩ fun r => ∀ c : Dev nD,
    r.2.mem ((c.tc : Thread nD τ).loc main_v0) = (refArgs m c).grad
    ∧ r.2.mem ((c.tc : Thread nD τ).loc main_v24) = (refArgs m c).delta
    ∧ r.2.mem ((c.tc : Thread nD τ).loc main_v5) = (refArgs m c).newM
    ∧ r.2.mem ((c.tc : Thread nD τ).loc main_v11) = (refArgs m c).newV
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => by
    obtain ⟨h0, h1, h2, h3, h4⟩ := h c
    clear h
    rw [ref_grad] at h0 h1 h2 h3
    exact ⟨h0, h1, h2, h3, h4⟩) (Cert.Reference5Ideal.Value.run m ρ)

end Reference

/-! ## The frames -/

theorem quiescent_ideal : Cert.quiescent_Kernel5Ideal := fun m g _ => Cert.Kernel5Ideal.Gen.frame m g

/-- The printed program's frame is the idealised program's at the floats' bits: the two are one text. -/
theorem quiescent_bits_eq : Cert.quiescent_Kernel5 = (
    ∀ (m : (ℓ : Loc Cert.Kernel5Ideal.nD Cert.Kernel5Ideal.τ Cert.Kernel5Ideal.sig) → Buf (Elt Bits) ℓ) (g : Dev Cert.Kernel5Ideal.nD → PrngReg), True →
      θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
        r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
        ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
        ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
        ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
        ∧ r.2.sem = fun _ => 0)) := by
  sl_kernel_rfl

theorem quiescent_bits : Cert.quiescent_Kernel5 := by
  rw [quiescent_bits_eq]
  intro m g _
  exact Cert.Kernel5Ideal.Gen.frame m g

theorem quiescent_reference : Cert.quiescent_Reference5Ideal := fun m g _ =>
  (θ_run Cert.Reference5Ideal.defs _ _).mono (fun r h => ⟨fun c => (h c).2.2.2.2, sem_eq_zero_of_no_sems (by decide) r.2⟩) (run m g)

/-! ## The values -/

theorem algebraic : Cert.algebraic_Kernel5Ideal_Reference5Ideal := by
  intro m g m' g' _ hargs
  refine ⟨fun c => (args m c).grad, fun c => (args m c).delta, fun c => (args m c).newM, fun c => (args m c).newV, ?_, ?_⟩
  · refine (θ_run Cert.Kernel5Ideal.defs _ _).mono (fun r h c => ?_) (Cert.Kernel5Ideal.Value.run m g)
    obtain ⟨h0, h1, h2, h3, h4⟩ := h c
    exact ⟨h0.trans (whole_grad (args m c)), h1.trans (whole_delta (args m c)), h2.trans (whole_newM (args m c)), h3.trans (whole_newV (args m c)), h4⟩
  · refine (θ_run Cert.Reference5Ideal.defs _ _).mono (fun r h c => ?_) (run m' g')
    have e : refArgs m' c = args m c := by
      obtain ⟨e0, e1, e2, e3⟩ := hargs c
      exact Args.ext e0 e1 e2 e3
    obtain ⟨h0, h1, h2, h3, h4⟩ := h c
    rw [e] at h0 h1 h2 h3
    exact ⟨h0, h1, h2, h3, h4⟩

end Cert.Adam.Small
end
-- ==== Proof.lean ====
/- The certificate's proof: the claims of Defs.lean from the modules under Proof/. -/
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Gen.Reference2Ideal
public import proofs.«01_k».proof.Proof.Gen.Reference2Ideal.Run
public import proofs.«01_k».proof.Proof.Gen.Reference2Ideal.Read
public import proofs.«01_k».proof.Proof.Frames
public import proofs.«01_k».proof.Proof.Value
public import proofs.«01_k».proof.Proof.FwdFrames
public import proofs.«01_k».proof.Proof.FwdValue
public import proofs.«01_k».proof.Proof.InpValue
public import proofs.«01_k».proof.Proof.AdamIn
public import proofs.«01_k».proof.Proof.AdamSmall
public import proofs.«01_k».proof.Proof.Gen.Kernel3
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run

@[expose] public section

theorem Cert.Proof.claim : Cert.Claim :=
  letI := Cert.Bwd.finite_facts
  letI := Cert.Fwd.finite_facts
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Bwd.finite_facts, Cert.Fwd.finite_facts, Cert.Bwd.quiescent_bits, Cert.Bwd.quiescent_ideal,
    Cert.Bwd.quiescent_ideal_finite, Cert.Bwd.quiescent_reference, Cert.Bwd.quiescent_reference_finite, Cert.Fwd.quiescent_bits,
    Cert.Fwd.quiescent_ideal, Cert.Fwd.quiescent_ideal_finite, Cert.Fwd.quiescent_reference, Cert.Fwd.quiescent_reference_finite,
    Cert.Inp.quiescent_bits, Cert.Inp.quiescent_ideal, Cert.Inp.quiescent_reference,
    Cert.Adam.In.quiescent_bits, Cert.Adam.In.quiescent_ideal, Cert.Adam.In.quiescent_reference,
    Cert.Adam.Small.quiescent_bits, Cert.Adam.Small.quiescent_ideal, Cert.Adam.Small.quiescent_reference,
    Cert.Bwd.preserves_ln2, Cert.Bwd.algebraic, Cert.Fwd.preserves_consts, Cert.Fwd.algebraic, trivial, Cert.Inp.algebraic,
    trivial, Cert.Adam.In.algebraic, trivial, Cert.Adam.Small.algebraic⟩

end
